-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mixers [hPre_finite_mixers : Cert.Pre_finite_mixers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mixers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mixers [hPre_finite_mixers : Cert.Pre_finite_mixers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mixers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample_logits [hPre_finite_sample_logits : Cert.Pre_finite_sample_logits.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample_logits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample_logits [hPre_finite_sample_logits : Cert.Pre_finite_sample_logits.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample_logits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_mixers [hKernel4Ideal : Cert.Kernel4Ideal.Facts] [hPre_finite_mixers : Cert.Pre_finite_mixers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mixers m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_mixers [hReference4Ideal : Cert.Reference4Ideal.Facts] [hPre_finite_mixers : Cert.Pre_finite_mixers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mixers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_sample_logits [hKernel5Ideal : Cert.Kernel5Ideal.Facts] [hPre_finite_sample_logits : Cert.Pre_finite_sample_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample_logits m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_sample_logits [hReference5Ideal : Cert.Reference5Ideal.Facts] [hPre_finite_sample_logits : Cert.Pre_finite_sample_logits.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample_logits m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_v20) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_mixers [hKernel4Ideal : Cert.Kernel4Ideal.Facts] [hReference4Ideal : Cert.Reference4Ideal.Facts] [hPre_finite_mixers : Cert.Pre_finite_mixers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mixers m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v324) = v0 c
          ∧ r.2.mem ((c.tc : Thread Cert.Reference4Ideal.nD Cert.Reference4Ideal.τ).loc Cert.Reference4Ideal.main_v327) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite_sample_logits [hKernel5Ideal : Cert.Kernel5Ideal.Facts] [hReference5Ideal : Cert.Reference5Ideal.Facts] [hPre_finite_sample_logits : Cert.Pre_finite_sample_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample_logits m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_logits : Cert.Pre_finite_logits.Facts) (hPre_finite_mixers : Cert.Pre_finite_mixers.Facts) (hPre_finite_sample_logits : Cert.Pre_finite_sample_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mixers (hKernel4Ideal := hKernel4Ideal) (hPre_finite_mixers := hPre_finite_mixers)
    ∧ quiescent_Reference4Ideal (hReference4Ideal := hReference4Ideal)
    ∧ quiescent_Reference4Ideal_pre_finite_mixers (hReference4Ideal := hReference4Ideal) (hPre_finite_mixers := hPre_finite_mixers)
    ∧ quiescent_Kernel5 (hKernel5 := hKernel5)
    ∧ quiescent_Kernel5Ideal (hKernel5Ideal := hKernel5Ideal)
    ∧ quiescent_Kernel5Ideal_pre_finite_sample_logits (hKernel5Ideal := hKernel5Ideal) (hPre_finite_sample_logits := hPre_finite_sample_logits)
    ∧ quiescent_Reference5Ideal (hReference5Ideal := hReference5Ideal)
    ∧ quiescent_Reference5Ideal_pre_finite_sample_logits (hReference5Ideal := hReference5Ideal) (hPre_finite_sample_logits := hPre_finite_sample_logits)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mixers (hKernel4Ideal := hKernel4Ideal) (hReference4Ideal := hReference4Ideal) (hPre_finite_mixers := hPre_finite_mixers)
    ∧ preserves_Kernel5_Kernel5Ideal
    ∧ algebraic_Kernel5Ideal_Reference5Ideal_pre_finite_sample_logits (hKernel5Ideal := hKernel5Ideal) (hReference5Ideal := hReference5Ideal) (hPre_finite_sample_logits := hPre_finite_sample_logits)
    ∧ preserves_Kernel6_Kernel6Ideal
    ∧ algebraic_Kernel6Ideal_Reference6Ideal (hKernel6Ideal := hKernel6Ideal) (hReference6Ideal := hReference6Ideal)
-- ==== Pre_finite_logits.lean ====
abbrev S8192x1024 : Shape := ⟨2, ![8192, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S_ : Shape := ⟨0, ![]⟩
abbrev S1x2x1024 : Shape := ⟨3, ![1, 2, 1024]⟩
abbrev S2x1024 : Shape := ⟨2, ![2, 1024]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S8x6x1024_S1x2x1024_0_3_0 : S8x6x1024.Slices ![0, 3, 0] S1x2x1024
  shapeCasts_S1x2x1024_S2x1024 : S1x2x1024.ShapeCasts S2x1024
  bcast_S_S2x1024 : S_.BroadcastsInDim S2x1024 (![] : Fin 0 → Fin S2x1024.rank)
  reducesTo_S2x1024_S_d0_1 : S2x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_v15 : IVec S_ 1) (main_v16 : FVec F S1024x32 .f32) (main_cst_4 : FVec F S_ .f32) : IVec S_ 1 :=
  let main_v17 : FVec F S1024x32 .f32 := broadcastInDim S1024x32 ![] bcast_S_S1024x32 main_cst_4
  let main_v18 : IVec S1024x32 1 := cmpf .olt main_v16 main_v17
  let main_c_5 : IVec S_ 1 := constantI S_ 1 1#1
  let main_v19 : IVec S_ 1 := (fun x v => Host.reduce IntOp.andi x v reducesTo_S1024x32_S_d0_1 h_S_) main_v18 main_c_5
  let main_v20 : IVec S_ 1 := andi main_v15 main_v19
  main_v20

def fn {F : FTy → Type} [FloatOps F] (main_arg0 : FVec F S8192x1024 .f32) (main_arg1 : FVec F S8x6x1024 .f32) (main_arg2 : FVec F S1024x4 .f32) (main_arg3 : FVec F S1024x32 .f32) (main_arg4 : FVec F S32x1024x256 .f32) (main_arg5 : FVec F S32x1024x256 .f32) (main_arg6 : FVec F S32x256x1024 .f32) (main_arg7 : FVec F S1024 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x2x1024 .f32 := (extractStridedSlice S1x2x1024 ![0, 3, 0] · slices_S8x6x1024_S1x2x1024_0_3_0) main_arg1
  let main_v5 : FVec F S2x1024 .f32 := shapeCast S2x1024 main_v4 shapeCasts_S1x2x1024_S2x1024
  let main_v6 : FVec F S2x1024 .f32 := Host.absf main_v5
  let main_cst_0 : FVec F S_ .f32 := constant S_ .f32 0x7F800000#32
  let main_v7 : FVec F S2x1024 .f32 := broadcastInDim S2x1024 ![] bcast_S_S2x1024 main_cst_0
  let main_v8 : IVec S2x1024 1 := cmpf .olt main_v6 main_v7
  let main_c_1 : IVec S_ 1 := constantI S_ 1 1#1
  let main_v9 : IVec S_ 1 := (fun x v => Host.reduce IntOp.andi x v reducesTo_S2x1024_S_d0_1 h_S_) main_v8 main_c_1
  let main_v10 : IVec S_ 1 := andi main_v3 main_v9
  let main_v11 : FVec F S1024x4 .f32 := Host.absf main_arg2
  let main_cst_2 : FVec F S_ .f32 := constant S_ .f32 0x7F800000#32
  let main_v12 : FVec F S1024x4 .f32 := broadcastInDim S1024x4 ![] bcast_S_S1024x4 main_cst_2
  let main_v13 : IVec S1024x4 1 := cmpf .olt main_v11 main_v12
  let main_c_3 : IVec S_ 1 := constantI S_ 1 1#1
  let main_v14 : IVec S_ 1 := (fun x v => Host.reduce IntOp.andi x v reducesTo_S1024x4_S_d0_1 h_S_) main_v13 main_c_3
  let main_v15 : IVec S_ 1 := andi main_v10 main_v14
  let main_v16 : FVec F S1024x32 .f32 := Host.absf main_arg3
  let main_cst_4 : FVec F S_ .f32 := constant S_ .f32 0x7F800000#32
  fn_part1 (F := F) main_v15 main_v16 main_cst_4
-- ==== Pre_finite_mixers.lean ====
abbrev S8192x1408 : Shape := ⟨2, ![8192, 1408]⟩
abbrev S8192x2048 : Shape := ⟨2, ![8192, 2048]⟩
abbrev S8192x1024 : Shape := ⟨2, ![8192, 1024]⟩
abbrev S8x6x1024 : Shape := ⟨3, ![8, 6, 1024]⟩
abbrev S1024x1024 : Shape := ⟨2, ![1024, 1024]⟩
abbrev S2x6 : Shape := ⟨2, ![2, 6]⟩
abbrev S1 : Shape := ⟨1, ![1]⟩
abbrev S384 : Shape := ⟨1, ![384]⟩
abbrev S256 : Shape := ⟨1, ![256]⟩
abbrev S1024 : Shape := ⟨1, ![1024]⟩
abbrev S_ : Shape := ⟨0, ![]⟩

class Facts : Prop where
  bitsLt_bf16_f32 : FTy.bits .bf16 < FTy.bits .f32
  bcast_S_S8192x1408 : S_.BroadcastsInDim S8192x1408 (![] : Fin 0 → Fin S8192x1408.rank)
  reducesTo_S8192x1408_S_d0_1 : S8192x1408.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2x6 : S_.BroadcastsInDim S2x6 (![] : Fin 0 → Fin S2x6.rank)
  reducesTo_S2x6_S_d0_1 : S2x6.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v15 : IVec S_ 1) (main_v16 : FVec F S1 .f32) (main_cst_4 : FVec F S_ .f32) : IVec S_ 1 :=
  let main_v17 : FVec F S1 .f32 := broadcastInDim S1 ![] bcast_S_S1 main_cst_4
  let main_v18 : IVec S1 1 := cmpf .olt main_v16 main_v17
  let main_c_5 : IVec S_ 1 := constantI S_ 1 1#1
  let main_v19 : IVec S_ 1 := (fun x v => Host.reduce IntOp.andi x v reducesTo_S1_S_d0 h_S_) main_v18 main_c_5
  let main_v20 : IVec S_ 1 := andi main_v15 main_v19
  main_v20

def fn {F : FTy → Type} [FloatOps F] (main_arg0 : FVec F S8192x1408 .bf16) (main_arg1 : FVec F S8192x2048 .bf16) (main_arg2 : FVec F S8192x1024 .f32) (main_arg3 : FVec F S8x6x1024 .f32) (main_arg4 : FVec F S1024x1024 .f32) (main_arg5 : FVec F S2x6 .f32) (main_arg6 : FVec F S1 .f32) (main_arg7 : FVec F S384 .f32) (main_arg8 : FVec F S384 .f32) (main_arg9 : FVec F S256 .f32) (main_arg10 : FVec F S1024 .f32) (main_arg11 : FVec F S1024 .f32) : IVec S_ 1 :=
  let main_v0 : FVec F S8192x1408 .f32 := (extf .f32 · bitsLt_bf16_f32) main_arg0
  let main_v1 : FVec F S8192x1408 .f32 := Host.absf main_v0
  let main_cst : FVec F S_ .f32 := constant S_ .f32 0x7F800000#32
  let main_v2 : FVec F S8192x1408 .f32 := broadcastInDim S8192x1408 ![] bcast_S_S8192x1408 main_cst
  let main_v3 : IVec S8192x1408 1 := cmpf .olt main_v1 main_v2
  let main_c : IVec S_ 1 := constantI S_ 1 1#1
  let main_v4 : IVec S_ 1 := (fun x v => Host.reduce IntOp.andi x v reducesTo_S8192x1408_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S2x6 .f32 := Host.absf main_arg5
  let main_cst_2 : FVec F S_ .f32 := constant S_ .f32 0x7F800000#32
  let main_v12 : FVec F S2x6 .f32 := broadcastInDim S2x6 ![] bcast_S_S2x6 main_cst_2
  let main_v13 : IVec S2x6 1 := cmpf .olt main_v11 main_v12
  let main_c_3 : IVec S_ 1 := constantI S_ 1 1#1
  let main_v14 : IVec S_ 1 := (fun x v => Host.reduce IntOp.andi x v reducesTo_S2x6_S_d0_1 h_S_) main_v13 main_c_3
  let main_v15 : IVec S_ 1 := andi main_v10 main_v14
  let main_v16 : FVec F S1 .f32 := Host.absf main_arg6
  let main_cst_4 : FVec F S_ .f32 := constant S_ .f32 0x7F800000#32
  fn_part1 (F := F) main_v15 main_v16 main_cst_4
-- ==== Pre_finite_sample_logits.lean ====
abbrev S4096x1024 : Shape := ⟨2, ![4096, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S_ : Shape := ⟨0, ![]⟩
abbrev S2x2x1024 : Shape := ⟨3, ![2, 2, 1024]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S8x6x1024_S2x2x1024_1_3_0 : S8x6x1024.Slices ![1, 3, 0] S2x2x1024
  bcast_S_S2x2x1024 : S_.BroadcastsInDim S2x2x1024 (![] : Fin 0 → Fin S2x2x1024.rank)
  reducesTo_S2x2x1024_S_d0_1_2 : S2x2x1024.ReducesTo [0, 1, 2] S_
  bcast_S_S1024x4 : S_.BroadcastsInDim S1024x4 (![] : Fin 0 → Fin S1024x4.rank)
  reducesTo_S1024x4_S_d0_1 : S1024x4.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_v14 : IVec S_ 1) (main_v15 : FVec F S1024x32 .f32) (main_v16 : FVec F S1024x32 .f32) : IVec S_ 1 :=
  let main_v17 : IVec S1024x32 1 := cmpf .olt main_v15 main_v16
  let main_c_5 : IVec S_ 1 := constantI S_ 1 1#1
  let main_v18 : IVec S_ 1 := (fun x v => Host.reduce IntOp.andi x v reducesTo_S1024x32_S_d0_1 h_S_) main_v17 main_c_5
  let main_v19 : IVec S_ 1 := andi main_v14 main_v18
  main_v19

def fn {F : FTy → Type} [FloatOps F] (main_arg0 : FVec F S4096x1024 .f32) (main_arg1 : FVec F S8x6x1024 .f32) (main_arg2 : FVec F S1024x4 .f32) (main_arg3 : FVec F S1024x32 .f32) (main_arg4 : FVec F S32x1024x256 .f32) (main_arg5 : FVec F S32x1024x256 .f32) (main_arg6 : FVec F S32x256x1024 .f32) (main_arg7 : FVec F S1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x2x1024 .f32 := (extractStridedSlice S2x2x1024 ![1, 3, 0] · slices_S8x6x1024_S2x2x1024_1_3_0) main_arg1
  let main_v5 : FVec F S2x2x1024 .f32 := Host.absf main_v4
  let main_cst_0 : FVec F S_ .f32 := constant S_ .f32 0x7F800000#32
  let main_v6 : FVec F S2x2x1024 .f32 := broadcastInDim S2x2x1024 ![] bcast_S_S2x2x1024 main_cst_0
  let main_v7 : IVec S2x2x1024 1 := cmpf .olt main_v5 main_v6
  let main_c_1 : IVec S_ 1 := constantI S_ 1 1#1
  let main_v8 : IVec S_ 1 := (fun x v => Host.reduce IntOp.andi x v reducesTo_S2x2x1024_S_d0_1_2 h_S_) main_v7 main_c_1
  let main_v9 : IVec S_ 1 := andi main_v3 main_v8
  let main_v10 : FVec F S1024x4 .f32 := Host.absf main_arg2
  let main_cst_2 : FVec F S_ .f32 := constant S_ .f32 0x7F800000#32
  let main_v11 : FVec F S1024x4 .f32 := broadcastInDim S1024x4 ![] bcast_S_S1024x4 main_cst_2
  let main_v12 : IVec S1024x4 1 := cmpf .olt main_v10 main_v11
  let main_c_3 : IVec S_ 1 := constantI S_ 1 1#1
  let main_v13 : IVec S_ 1 := (fun x v => Host.reduce IntOp.andi x v reducesTo_S1024x4_S_d0_1 h_S_) main_v12 main_c_3
  let main_v14 : IVec S_ 1 := andi main_v9 main_v13
  let main_v15 : FVec F S1024x32 .f32 := Host.absf main_arg3
  let main_cst_4 : FVec F S_ .f32 := constant S_ .f32 0x7F800000#32
  let main_v16 : FVec F S1024x32 .f32 := broadcastInDim S1024x32 ![] bcast_S_S1024x32 main_cst_4
  fn_part1 (F := F) main_v14 main_v15 main_v16
-- ==== Kernel.lean ====
abbrev S8192x1024 : Shape := ⟨2, ![8192, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S_ : Shape := ⟨0, ![]⟩
abbrev S128x1024 : Shape := ⟨2, ![128, 1024]⟩
abbrev S32x1024 : Shape := ⟨2, ![32, 1024]⟩
abbrev S1 : Shape := ⟨1, ![1]⟩
abbrev S4x1024 : Shape := ⟨2, ![4, 1024]⟩
abbrev S1024x1024 : Shape := ⟨2, ![1024, 1024]⟩
abbrev S1x6x1024 : Shape := ⟨3, ![1, 6, 1024]⟩
abbrev S4x1024x256 : Shape := ⟨3, ![4, 1024, 256]⟩
abbrev S4x256x1024 : Shape := ⟨3, ![4, 256, 1024]⟩
abbrev S1024x128 : Shape := ⟨2, ![1024, 128]⟩
abbrev S6x1024 : Shape := ⟨2, ![6, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 25
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x4, .f32⟩
  | .hbm, ⟨3, _⟩ => ⟨S1024x32, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S128x1024, .f32⟩
  | .hbm, ⟨13, _⟩ => ⟨S32x1024, .f32⟩
  | .hbm, ⟨14, _⟩ => ⟨S_, .i32⟩
  | .hbm, ⟨15, _⟩ => ⟨S1, .i32⟩
  | .hbm, ⟨16, _⟩ => ⟨S128x1024, .f32⟩
  | .hbm, ⟨17, _⟩ => ⟨S4x1024, .f32⟩
  | .hbm, ⟨18, _⟩ => ⟨S_, .i32⟩
  | .hbm, ⟨19, _⟩ => ⟨S1, .i32⟩
  | .hbm, ⟨20, _⟩ => ⟨S128x1024, .f32⟩
  | .hbm, ⟨21, _⟩ => ⟨S32x1024x256, .bf16⟩
  | .hbm, ⟨22, _⟩ => ⟨S32x1024x256, .bf16⟩
  | .hbm, ⟨23, _⟩ => ⟨S32x256x1024, .bf16⟩
  | .hbm, ⟨24, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S128x1024, .f32⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x256x1024, .bf16⟩
  | .local _ .vmem, ⟨9, _⟩ => ⟨S4x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x128, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v123 : BitVec 1 := Scalar.cmpi .eq arg1 c7_i32
  let v124 : BitVec 32 := Scalar.extui v123
  let c0_i32_68 : BitVec 32 := 0#32
  let v125 : BitVec 1 := Scalar.cmpi .ne v124 c0_i32_68
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1024 : Shape := ⟨2, ![8192, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S1x1x1024 : Shape := ⟨3, ![1, 1, 1024]⟩
abbrev S1x1024 : Shape := ⟨2, ![1, 1024]⟩
abbrev S_ : Shape := ⟨0, ![]⟩
abbrev S8192x4 : Shape := ⟨2, ![8192, 4]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x32 : Shape := ⟨2, ![8192, 32]⟩
abbrev S8192x4x8 : Shape := ⟨3, ![8192, 4, 8]⟩
abbrev S8192x1x8 : Shape := ⟨3, ![8192, 1, 8]⟩
abbrev S8192x8 : Shape := ⟨2, ![8192, 8]⟩
abbrev S8192x2 : Shape := ⟨2, ![8192, 2]⟩
abbrev S8192x2x1 : Shape := ⟨3, ![8192, 2, 1]⟩
abbrev S1x1x32 : Shape := ⟨3, ![1, 1, 32]⟩
abbrev S8192x2x32 : Shape := ⟨3, ![8192, 2, 32]⟩
abbrev S8192x32x256 : Shape := ⟨3, ![8192, 32, 256]⟩
abbrev S8192x32x1 : Shape := ⟨3, ![8192, 32, 1]⟩

abbrev nBuf : Space → Nat
  | .hbm => 175
  | .vmem => 0
  | .smem => 0
  | _ => 0

abbrev hbmTy0_0 (i : Nat) : BufTy := match i % 128 with
  | 0 => ⟨S8192x1024, .f32⟩
  | 1 => ⟨S8x6x1024, .f32⟩
  | 2 => ⟨S1024x4, .f32⟩
  | 3 => ⟨S1024x32, .f32⟩
  | 4 => ⟨S32x1024x256, .f32⟩
  | 5 => ⟨S32x1024x256, .f32⟩
  | 6 => ⟨S32x256x1024, .f32⟩
  | 7 => ⟨S1024, .f32⟩
  | 8 => ⟨S1024, .f32⟩
  | 9 => ⟨S1x1x1024, .f32⟩
  | 10 => ⟨S1x1024, .f32⟩
  | 11 => ⟨S1x1x1024, .f32⟩
  | 12 => ⟨S1x1024, .f32⟩
  | 13 => ⟨S1x1x1024, .f32⟩
  | 14 => ⟨S1x1024, .f32⟩
  | 15 => ⟨S_, .f32⟩
  | 16 => ⟨S1x1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S8192x4, .f32⟩
  | 23 => ⟨S_, .f32⟩
  | 24 => ⟨S8192, .f32⟩
  | 25 => ⟨S_, .f32⟩
  | 26 => ⟨S8192, .f32⟩
  | 27 => ⟨S8192, .f32⟩
  | 28 => ⟨S8192x1, .f32⟩
  | 29 => ⟨S8192x4, .f32⟩
  | 30 => ⟨S8192x4, .f32⟩
  | 31 => ⟨S8192x4, .f32⟩
  | 32 => ⟨S_, .f32⟩
  | 33 => ⟨S8192, .f32⟩
  | 34 => ⟨S8192x1, .f32⟩
  | 35 => ⟨S8192x4, .f32⟩
  | 36 => ⟨S8192x4, .f32⟩
  | 37 => ⟨S8192x1, .f32⟩
  | 38 => ⟨S8192x1, .i32⟩
  | 39 => ⟨S8192, .i32⟩
  | 40 => ⟨S8192x1, .i32⟩
  | 41 => ⟨S_, .i32⟩
  | 42 => ⟨S8192x1, .i32⟩
  | 43 => ⟨S8192x1, .i1⟩
  | 44 => ⟨S_, .i32⟩
  | 45 => ⟨S8192x1, .i32⟩
  | 46 => ⟨S8192x1, .i32⟩
  | 47 => ⟨S8192x1, .i32⟩
  | 48 => ⟨S8192x1x1, .i32⟩
  | 49 => ⟨S1, .i32⟩
  | 50 => ⟨S_, .i32⟩
  | 51 => ⟨S8192x1x1, .i32⟩
  | 52 => ⟨S8192x1x1, .i1⟩
  | 53 => ⟨S1x1x1, .i32⟩
  | 54 => ⟨S8192x1x1, .i32⟩
  | 55 => ⟨S8192x1x1, .i1⟩
  | 56 => ⟨S8192x1x1, .i1⟩
  | 57 => ⟨S_, .i1⟩
  | 58 => ⟨S8192x1, .i1⟩
  | 59 => ⟨S8192x1, .f32⟩
  | 60 => ⟨S_, .f32⟩
  | 61 => ⟨S8192x1, .f32⟩
  | 62 => ⟨S8192x1, .f32⟩
  | 63 => ⟨S8192x32, .f32⟩
  | 64 => ⟨S8192x4x8, .f32⟩
  | 65 => ⟨S8192x1x1, .i32⟩
  | 66 => ⟨S_, .i32⟩
  | 67 => ⟨S8192x1x1, .i32⟩
  | 68 => ⟨S8192x1x1, .i1⟩
  | 69 => ⟨S_, .i32⟩
  | 70 => ⟨S8192x1x1, .i32⟩
  | 71 => ⟨S8192x1x1, .i32⟩
  | 72 => ⟨S8192x1x1, .i32⟩
  | 73 => ⟨S1, .i32⟩
  | 74 => ⟨S_, .i32⟩
  | 75 => ⟨S8192x1x1, .i32⟩
  | 76 => ⟨S8192x1x1, .i1⟩
  | 77 => ⟨S1x1x1, .i32⟩
  | 78 => ⟨S8192x1x1, .i32⟩
  | 79 => ⟨S8192x1x1, .i1⟩
  | 80 => ⟨S8192x1x1, .i1⟩
  | 81 => ⟨S_, .i1⟩
  | 82 => ⟨S8192x1, .i1⟩
  | 83 => ⟨S8192x1x8, .f32⟩
  | 84 => ⟨S8192x1x8, .i1⟩
  | 85 => ⟨S_, .f32⟩
  | 86 => ⟨S8192x1x8, .f32⟩
  | 87 => ⟨S8192x1x8, .f32⟩
  | 88 => ⟨S8192x8, .f32⟩
  | 89 => ⟨S8192x2, .f32⟩
  | 90 => ⟨S8192x2, .i32⟩
  | 91 => ⟨S_, .f32⟩
  | 92 => ⟨S8192, .f32⟩
  | 93 => ⟨S_, .f32⟩
  | 94 => ⟨S8192, .f32⟩
  | 95 => ⟨S8192, .f32⟩
  | 96 => ⟨S8192x1, .f32⟩
  | 97 => ⟨S8192x2, .f32⟩
  | 98 => ⟨S8192x2, .f32⟩
  | 99 => ⟨S8192x2, .f32⟩
  | 100 => ⟨S_, .f32⟩
  | 101 => ⟨S8192, .f32⟩
  | 102 => ⟨S8192x1, .f32⟩
  | 103 => ⟨S8192x2, .f32⟩
  | 104 => ⟨S8192x2, .f32⟩
  | 105 => ⟨S8192x2, .f32⟩
  | 106 => ⟨S8192x2, .f32⟩
  | 107 => ⟨S8192x1, .i32⟩
  | 108 => ⟨S_, .i32⟩
  | 109 => ⟨S8192x1, .i32⟩
  | 110 => ⟨S8192x1, .i32⟩
  | 111 => ⟨S8192x2, .i32⟩
  | 112 => ⟨S8192x2, .i32⟩
  | 113 => ⟨S8192x2x1, .i32⟩
  | 114 => ⟨S1x1x32, .i32⟩
  | 115 => ⟨S8192x2x32, .i32⟩
  | 116 => ⟨S8192x2x32, .i32⟩
  | 117 => ⟨S8192x2x32, .i1⟩
  | 118 => ⟨S8192x2x32, .f32⟩
  | 119 => ⟨S8192x2x1, .f32⟩
  | 120 => ⟨S8192x2x32, .f32⟩
  | 121 => ⟨S8192x2x32, .f32⟩
  | 122 => ⟨S_, .f32⟩
  | 123 => ⟨S8192x32, .f32⟩
  | 124 => ⟨S8192x32x256, .f32⟩
  | 125 => ⟨S8192x32x256, .f32⟩
  | 126 => ⟨S8192x32x256, .f32⟩
  | 127 => ⟨S8192x32x256, .f32⟩
  | _ => ⟨S8192x1024, .f32⟩

abbrev hbmTy0_1 (i : Nat) : BufTy := match i % 128 with
  | 0 => ⟨S_, .f32⟩
  | 1 => ⟨S8192x32x256, .f32⟩
  | 2 => ⟨S8192x32x256, .f32⟩
  | 3 => ⟨S_, .f32⟩
  | 4 => ⟨S8192x32x256, .f32⟩
  | 5 => ⟨S8192x32x256, .f32⟩
  | 6 => ⟨S8192x32x256, .f32⟩
  | 7 => ⟨S8192x32x256, .f32⟩
  | 8 => ⟨S8192x32x1, .f32⟩
  | 9 => ⟨S8192x32x256, .f32⟩
  | 10 => ⟨S8192x32x256, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S1x1024, .f32⟩
  | 45 => ⟨S8192x1024, .f32⟩
  | 46 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_values : Ref sig .tc := ⟨.hbm, 37, rfl⟩
abbrev main_indices : Ref sig .tc := ⟨.hbm, 38, rfl⟩
abbrev main_v24 : Ref sig .tc := ⟨.hbm, 39, rfl⟩
abbrev main_v25 : Ref sig .tc := ⟨.hbm, 40, rfl⟩
abbrev main_call0_c : Ref sig .tc := ⟨.hbm, 41, rfl⟩
abbrev main_call0_v0 : Ref sig .tc := ⟨.hbm, 42, rfl⟩
abbrev main_call0_v1 : Ref sig .tc := ⟨.hbm, 43, rfl⟩
abbrev main_call0_c_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_c_1 : Ref sig .tc := ⟨.hbm, 49, rfl⟩
abbrev main_call0_c_2 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_3 : Ref sig .tc := ⟨.hbm, 57, rfl⟩
abbrev main_call0_v12 : Ref sig .tc := ⟨.hbm, 58, rfl⟩
abbrev main_call0_v13 : Ref sig .tc := ⟨.hbm, 59, rfl⟩
abbrev main_call0_cst : Ref sig .tc := ⟨.hbm, 60, rfl⟩
abbrev main_call0_v14 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_c_2 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_c_3 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_cst : Ref sig .tc := ⟨.hbm, 85, rfl⟩
abbrev main_call1_v14 : Ref sig .tc := ⟨.hbm, 86, rfl⟩
abbrev main_v30 : Ref sig .tc := ⟨.hbm, 87, rfl⟩
abbrev main_v31 : Ref sig .tc := ⟨.hbm, 88, rfl⟩
abbrev main_values_3 : Ref sig .tc := ⟨.hbm, 89, rfl⟩
abbrev main_indices_4 : Ref sig .tc := ⟨.hbm, 90, rfl⟩
abbrev main_cst_5 : Ref sig .tc := ⟨.hbm, 91, rfl⟩
abbrev main_v32 : Ref sig .tc := ⟨.hbm, 92, rfl⟩
abbrev main_cst_6 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_7 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_8 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_9 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_10 : Ref sig .tc := ⟨.hbm, 146, rfl⟩
abbrev main_v68 : Ref sig .tc := ⟨.hbm, 147, rfl⟩
abbrev main_v69 : Ref sig .tc := ⟨.hbm, 148, rfl⟩
abbrev main_cst_11 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_cst_12 : Ref sig .tc := ⟨.hbm, 155, rfl⟩
abbrev main_v75 : Ref sig .tc := ⟨.hbm, 156, rfl⟩
abbrev main_v76 : Ref sig .tc := ⟨.hbm, 157, rfl⟩
abbrev main_cst_13 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_14 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩

abbrev nD : Nat := 1
abbrev τ : Topo := Topo.v7x

variable {F : FTy → Type} [FloatOps F]
-- ==== Kernel2.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S8192x1024 : Shape := ⟨2, ![8192, 1024]⟩
abbrev S8x6x1024 : Shape := ⟨3, ![8, 6, 1024]⟩
abbrev S1024x3456 : Shape := ⟨2, ![1024, 3456]⟩
abbrev S8192x1408 : Shape := ⟨2, ![8192, 1408]⟩
abbrev S8192x2048 : Shape := ⟨2, ![8192, 2048]⟩
abbrev S8192x384 : Shape := ⟨2, ![8192, 384]⟩
abbrev S8192x256 : Shape := ⟨2, ![8192, 256]⟩
abbrev S512x1024 : Shape := ⟨2, ![512, 1024]⟩
abbrev S1x6x1024 : Shape := ⟨3, ![1, 6, 1024]⟩
abbrev S512x1408 : Shape := ⟨2, ![512, 1408]⟩
abbrev S512x2048 : Shape := ⟨2, ![512, 2048]⟩
abbrev S512x384 : Shape := ⟨2, ![512, 384]⟩
abbrev S512x256 : Shape := ⟨2, ![512, 256]⟩
abbrev S6x1024 : Shape := ⟨2, ![6, 1024]⟩
abbrev S1x1024 : Shape := ⟨2, ![1, 1024]⟩
abbrev S512x3456 : Shape := ⟨2, ![512, 3456]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x3456, .f32⟩
  | .hbm, ⟨3, _⟩ => ⟨S1024x3456, .bf16⟩
  | .hbm, ⟨4, _⟩ => ⟨S8192x1408, .bf16⟩
  | .hbm, ⟨5, _⟩ => ⟨S8192x2048, .bf16⟩
  | .hbm, ⟨6, _⟩ => ⟨S8192x384, .f32⟩
  | .hbm, ⟨7, _⟩ => ⟨S8192x384, .f32⟩
  | .hbm, ⟨8, _⟩ => ⟨S8192x256, .f32⟩
  | .hbm, ⟨9, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1024x3456, .bf16⟩
  | .local _ .vmem, ⟨4, _⟩ => ⟨S512x1408, .bf16⟩
  | .local _ .vmem, ⟨5, _⟩ => ⟨S512x1408, .bf16⟩
  | .local _ .vmem, ⟨6, _⟩ => ⟨S512x2048, .bf16⟩
  | .local _ .vmem, ⟨7, _⟩ => ⟨S512x2048, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1024 : Shape := ⟨2, ![8192, 1024]⟩
abbrev S8x6x1024 : Shape := ⟨3, ![8, 6, 1024]⟩
abbrev S1024x3456 : Shape := ⟨2, ![1024, 3456]⟩
abbrev S1x1x1024 : Shape := ⟨3, ![1, 1, 1024]⟩
abbrev S1x1024 : Shape := ⟨2, ![1, 1024]⟩
abbrev S_ : Shape := ⟨0, ![]⟩
abbrev S8192x3456 : Shape := ⟨2, ![8192, 3456]⟩
abbrev S8192x384 : Shape := ⟨2, ![8192, 384]⟩
abbrev S8192x256 : Shape := ⟨2, ![8192, 256]⟩
abbrev S8192x1408 : Shape := ⟨2, ![8192, 1408]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024x3456, .f32⟩
  | .hbm, ⟨3, _⟩ => ⟨S1x1x1024, .f32⟩
  | .hbm, ⟨4, _⟩ => ⟨S1x1024, .f32⟩
  | .hbm, ⟨5, _⟩ => ⟨S1x1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x3456, .f32⟩
  | .hbm, ⟨15, _⟩ => ⟨S8192x384, .f32⟩
  | .hbm, ⟨16, _⟩ => ⟨S8192x384, .f32⟩
  | .hbm, ⟨17, _⟩ => ⟨S8192x384, .f32⟩
  | .hbm, ⟨18, _⟩ => ⟨S8192x384, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x384, .f32⟩
  | .hbm, ⟨27, _⟩ => ⟨S8192x384, .f32⟩
  | .hbm, ⟨28, _⟩ => ⟨S8192x1408, .f32⟩
  | .hbm, ⟨29, _⟩ => ⟨S8192x1408, .bf16⟩
  | .hbm, ⟨30, _⟩ => ⟨S8192x2048, .f32⟩
  | .hbm, ⟨31, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel4.lean ====
abbrev S8192x1408 : Shape := ⟨2, ![8192, 1408]⟩
abbrev S8192x2048 : Shape := ⟨2, ![8192, 2048]⟩
abbrev S8192x1024 : Shape := ⟨2, ![8192, 1024]⟩
abbrev S8x6x1024 : Shape := ⟨3, ![8, 6, 1024]⟩
abbrev S1024x1024 : Shape := ⟨2, ![1024, 1024]⟩
abbrev S2x6 : Shape := ⟨2, ![2, 6]⟩
abbrev S1 : Shape := ⟨1, ![1]⟩
abbrev S384 : Shape := ⟨1, ![384]⟩
abbrev S256 : Shape := ⟨1, ![256]⟩
abbrev S1024 : Shape := ⟨1, ![1024]⟩
abbrev S1x384 : Shape := ⟨2, ![1, 384]⟩
abbrev S1x256 : Shape := ⟨2, ![1, 256]⟩
abbrev S1x1024 : Shape := ⟨2, ![1, 1024]⟩
abbrev S32x2x6x64x64 : Shape := ⟨5, ![32, 2, 6, 64, 64]⟩
abbrev S256x1408 : Shape := ⟨2, ![256, 1408]⟩
abbrev S256x2048 : Shape := ⟨2, ![256, 2048]⟩
abbrev S256x1024 : Shape := ⟨2, ![256, 1024]⟩
abbrev S1x6x1024 : Shape := ⟨3, ![1, 6, 1024]⟩
abbrev S1x2x6x64x64 : Shape := ⟨5, ![1, 2, 6, 64, 64]⟩
abbrev S6x256x256 : Shape := ⟨3, ![6, 256, 256]⟩
abbrev S256x256 : Shape := ⟨2, ![256, 256]⟩
abbrev S1x1 : Shape := ⟨2, ![1, 1]⟩
abbrev S1x256x256 : Shape := ⟨3, ![1, 256, 256]⟩
abbrev S256x64 : Shape := ⟨2, ![256, 64]⟩
abbrev S256x1 : Shape := ⟨2, ![256, 1]⟩
abbrev S64x64 : Shape := ⟨2, ![64, 64]⟩
abbrev S1x1x1x64x64 : Shape := ⟨5, ![1, 1, 1, 64, 64]⟩
abbrev S1x64 : Shape := ⟨2, ![1, 64]⟩
abbrev S256x32 : Shape := ⟨2, ![256, 32]⟩
abbrev S6x1024 : Shape := ⟨2, ![6, 1024]⟩

abbrev nBuf : Space → Nat
  | .hbm => 20
  | .vmem => 19
  | .smem => 2
  | _ => 0

abbrev bufTy : (tb : Table) → Fin (tcTables nBuf tb) → BufTy
  | .hbm, ⟨0, _⟩ => ⟨S8192x1408, .bf16⟩
  | .hbm, ⟨1, _⟩ => ⟨S8192x2048, .bf16⟩
  | .hbm, ⟨2, _⟩ => ⟨S8192x1024, .f32⟩
  | .hbm, ⟨3, _⟩ => ⟨S8x6x1024, .f32⟩
  | .hbm, ⟨4, _⟩ => ⟨S1024x1024, .f32⟩
  | .hbm, ⟨5, _⟩ => ⟨S2x6, .f32⟩
  | .hbm, ⟨6, _⟩ => ⟨S1, .f32⟩
  | .hbm, ⟨7, _⟩ => ⟨S384, .f32⟩
  | .hbm, ⟨8, _⟩ => ⟨S384, .f32⟩
  | .hbm, ⟨9, _⟩ => ⟨S256, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1x384, .f32⟩
  | .hbm, ⟨14, _⟩ => ⟨S1x384, .f32⟩
  | .hbm, ⟨15, _⟩ => ⟨S1x256, .f32⟩
  | .hbm, ⟨16, _⟩ => ⟨S1x1024, .f32⟩
  | .hbm, ⟨17, _⟩ => ⟨S1x1024, .f32⟩
  | .hbm, ⟨18, _⟩ => ⟨S8192x1024, .f32⟩
  | .hbm, ⟨19, _⟩ => ⟨S32x2x6x64x64, .f32⟩
  | .local _ .vmem, ⟨0, _⟩ => ⟨S256x1408, .bf16⟩
  | .local _ .vmem, ⟨1, _⟩ => ⟨S256x1408, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1024x1024, .bf16⟩
  | .local _ .vmem, ⟨8, _⟩ => ⟨S1x384, .f32⟩
  | .local _ .vmem, ⟨9, _⟩ => ⟨S1x384, .f32⟩
  | .local _ .vmem, ⟨10, _⟩ => ⟨S1x256, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1x2x6x64x64, .f32⟩
  | .local _ .vmem, ⟨16, _⟩ => ⟨S1x2x6x64x64, .f32⟩
  | .local _ .vmem, ⟨17, _⟩ => ⟨S256x1024, .f32⟩
  | .local _ .vmem, ⟨18, _⟩ => ⟨S6x256x256, .f32⟩
  | .local _ .smem, ⟨0, _⟩ => ⟨S2x6, .f32⟩
  | .local _ .smem, ⟨1, _⟩ => ⟨S1, .f32⟩
  | _, _ => ⟨S8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x6x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8192x1408 : Shape := ⟨2, ![8192, 1408]⟩
abbrev S8192x2048 : Shape := ⟨2, ![8192, 2048]⟩
abbrev S8192x1024 : Shape := ⟨2, ![8192, 1024]⟩
abbrev S8x6x1024 : Shape := ⟨3, ![8, 6, 1024]⟩
abbrev S1024x1024 : Shape := ⟨2, ![1024, 1024]⟩
abbrev S2x6 : Shape := ⟨2, ![2, 6]⟩
abbrev S1 : Shape := ⟨1, ![1]⟩
abbrev S384 : Shape := ⟨1, ![384]⟩
abbrev S256 : Shape := ⟨1, ![256]⟩
abbrev S1024 : Shape := ⟨1, ![1024]⟩
abbrev S8192x384 : Shape := ⟨2, ![8192, 384]⟩
abbrev S8192x256 : Shape := ⟨2, ![8192, 256]⟩
abbrev S32x256x6x64 : Shape := ⟨4, ![32, 256, 6, 64]⟩
abbrev S32x6x256x256 : Shape := ⟨4, ![32, 6, 256, 256]⟩
abbrev S_ : Shape := ⟨0, ![]⟩
abbrev S32x6x256 : Shape := ⟨3, ![32, 6, 256]⟩
abbrev S32x6x256x1 : Shape := ⟨4, ![32, 6, 256, 1]⟩
abbrev S32x6x64x256 : Shape := ⟨4, ![32, 6, 64, 256]⟩
abbrev S1x6 : Shape := ⟨2, ![1, 6]⟩
abbrev S6 : Shape := ⟨1, ![6]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S128x6 : Shape := ⟨2, ![128, 6]⟩
abbrev S32x6x64x64 : Shape := ⟨4, ![32, 6, 64, 64]⟩
abbrev S32x128x6x64 : Shape := ⟨4, ![32, 128, 6, 64]⟩
abbrev S32x6x128x128 : Shape := ⟨4, ![32, 6, 128, 128]⟩
abbrev S1x6x128x128 : Shape := ⟨4, ![1, 6, 128, 128]⟩
abbrev S32x6x64x128 : Shape := ⟨4, ![32, 6, 64, 128]⟩
abbrev S1x128x6x1 : Shape := ⟨4, ![1, 128, 6, 1]⟩
abbrev S1x6x1x1 : Shape := ⟨4, ![1, 6, 1, 1]⟩
abbrev S32x256x4x2x32 : Shape := ⟨5, ![32, 256, 4, 2, 32]⟩
abbrev S32x256x4x64 : Shape := ⟨4, ![32, 256, 4, 64]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x1x4x256x256 : Shape := ⟨5, ![32, 1, 4, 256, 256]⟩
abbrev S32x4x256x256 : Shape := ⟨4, ![32, 4, 256, 256]⟩
abbrev S32x4x64x256 : Shape := ⟨4, ![32, 4, 64, 256]⟩
abbrev S32x256x6 : Shape := ⟨3, ![32, 256, 6]⟩
abbrev S32x256x6x1 : Shape := ⟨4, ![32, 256, 6, 1]⟩
abbrev S32x256x384 : Shape := ⟨3, ![32, 256, 384]⟩
abbrev S1x1x384 : Shape := ⟨3, ![1, 1, 384]⟩
abbrev S32x256x4 : Shape := ⟨3, ![32, 256, 4]⟩
abbrev S32x256x4x1 : Shape := ⟨4, ![32, 256, 4, 1]⟩
abbrev S32x256x256 : Shape := ⟨3, ![32, 256, 256]⟩
abbrev S1x1x256 : Shape := ⟨3, ![1, 1, 256]⟩
abbrev S32x256x1024 : Shape := ⟨3, ![32, 256, 1024]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩
abbrev S32x1x6x64x64 : Shape := ⟨5, ![32, 1, 6, 64, 64]⟩
abbrev S32x2x6x64x64 : Shape := ⟨5, ![32, 2, 6, 64, 64]⟩

abbrev nBuf : Space → Nat
  | .hbm => 395
  | .vmem => 0
  | .smem => 0
  | _ => 0

abbrev hbmTy0_0 (i : Nat) : BufTy := match i % 128 with
  | 0 => ⟨S8192x1408, .bf16⟩
  | 1 => ⟨S8192x2048, .bf16⟩
  | 2 => ⟨S8192x1024, .f32⟩
  | 3 => ⟨S8x6x1024, .f32⟩
  | 4 => ⟨S1024x1024, .f32⟩
  | 5 => ⟨S2x6, .f32⟩
  | 6 => ⟨S1, .f32⟩
  | 7 => ⟨S384, .f32⟩
  | 8 => ⟨S384, .f32⟩
  | 9 => ⟨S256, .f32⟩
  | 10 => ⟨S1024, .f32⟩
  | 11 => ⟨S1024, .f32⟩
  | 12 => ⟨S8192x384, .bf16⟩
  | 13 => ⟨S8192x384, .bf16⟩
  | 14 => ⟨S8192x384, .bf16⟩
  | 15 => ⟨S8192x256, .bf16⟩
  | 16 => ⟨S8192x384, .bf16⟩
  | 17 => ⟨S8192x384, .bf16⟩
  | 18 => ⟨S8192x384, .bf16⟩
  | 19 => ⟨S8192x384, .bf16⟩
  | 20 => ⟨S8192x256, .bf16⟩
  | 21 => ⟨S8192x256, .bf16⟩
  | 22 => ⟨S8192x384, .f32⟩
  | 23 => ⟨S32x256x6x64, .f32⟩
  | 24 => ⟨S8192x384, .f32⟩
  | 25 => ⟨S32x256x6x64, .f32⟩
  | 26 => ⟨S8192x384, .f32⟩
  | 27 => ⟨S32x256x6x64, .f32⟩
  | 28 => ⟨S32x6x256x256, .f32⟩
  | 29 => ⟨S_, .f32⟩
  | 30 => ⟨S32x6x256x256, .f32⟩
  | 31 => ⟨S32x6x256x256, .f32⟩
  | 32 => ⟨S_, .f32⟩
  | 33 => ⟨S32x6x256, .f32⟩
  | 34 => ⟨S_, .f32⟩
  | 35 => ⟨S32x6x256, .f32⟩
  | 36 => ⟨S32x6x256, .f32⟩
  | 37 => ⟨S32x6x256x1, .f32⟩
  | 38 => ⟨S32x6x256x256, .f32⟩
  | 39 => ⟨S32x6x256x256, .f32⟩
  | 40 => ⟨S32x6x256x256, .f32⟩
  | 41 => ⟨S_, .f32⟩
  | 42 => ⟨S32x6x256, .f32⟩
  | 43 => ⟨S32x6x256x1, .f32⟩
  | 44 => ⟨S32x6x256x256, .f32⟩
  | 45 => ⟨S32x6x256x256, .f32⟩
  | 46 => ⟨S32x6x64x256, .f32⟩
  | 47 => ⟨S32x256x6x64, .f32⟩
  | 48 => ⟨S8192x384, .f32⟩
  | 49 => ⟨S32x256x6x64, .f32⟩
  | 50 => ⟨S8192x384, .f32⟩
  | 51 => ⟨S32x256x6x64, .f32⟩
  | 52 => ⟨S8192x384, .f32⟩
  | 53 => ⟨S32x256x6x64, .f32⟩
  | 54 => ⟨S1x6, .f32⟩
  | 55 => ⟨S6, .f32⟩
  | 56 => ⟨S128, .f32⟩
  | 57 => ⟨S128x1, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .i1⟩
  | 65 => ⟨S1x128x128, .i1⟩
  | 66 => ⟨S_, .f32⟩
  | 67 => ⟨S_, .f32⟩
  | 68 => ⟨S128x128, .f32⟩
  | 69 => ⟨S128x128, .f32⟩
  | 70 => ⟨S1x128x128, .f32⟩
  | 71 => ⟨S6x1x1, .f32⟩
  | 72 => ⟨S6x128x128, .f32⟩
  | 73 => ⟨S6x128x128, .f32⟩
  | 74 => ⟨S6x128x128, .f32⟩
  | 75 => ⟨S6x128x128, .f32⟩
  | 76 => ⟨S_, .f32⟩
  | 77 => ⟨S_, .f32⟩
  | 78 => ⟨S6x128x128, .i1⟩
  | 79 => ⟨S6x128x128, .f32⟩
  | 80 => ⟨S6x128x128, .f32⟩
  | 81 => ⟨S128x1, .f32⟩
  | 82 => ⟨S_, .f32⟩
  | 83 => ⟨S128x1, .f32⟩
  | 84 => ⟨S128x1, .f32⟩
  | 85 => ⟨S1x6, .f32⟩
  | 86 => ⟨S128x6, .f32⟩
  | 87 => ⟨S128x6, .f32⟩
  | 88 => ⟨S128x6, .f32⟩
  | 89 => ⟨S128x6, .f32⟩
  | 90 => ⟨S128x1, .f32⟩
  | 91 => ⟨S_, .f32⟩
  | 92 => ⟨S128x1, .f32⟩
  | 93 => ⟨S128x1, .f32⟩
  | 94 => ⟨S1x6, .f32⟩
  | 95 => ⟨S128x6, .f32⟩
  | 96 => ⟨S128x6, .f32⟩
  | 97 => ⟨S128x6, .f32⟩
  | 98 => ⟨S128x6, .f32⟩
  | 99 => ⟨S_, .f32⟩
  | 100 => ⟨S6, .f32⟩
  | 101 => ⟨S6, .f32⟩
  | 102 => ⟨S6, .f32⟩
  | 103 => ⟨S_, .f32⟩
  | 104 => ⟨S32x6x64x64, .f32⟩
  | 105 => ⟨S32x128x6x64, .f32⟩
  | 106 => ⟨S32x128x6x64, .f32⟩
  | 107 => ⟨S32x128x6x64, .f32⟩
  | 108 => ⟨S32x6x128x128, .f32⟩
  | 109 => ⟨S1x6x128x128, .f32⟩
  | 110 => ⟨S32x6x128x128, .f32⟩
  | 111 => ⟨S32x6x128x128, .f32⟩
  | 112 => ⟨S32x6x64x128, .f32⟩
  | 113 => ⟨S32x128x6x64, .f32⟩
  | 114 => ⟨S32x6x64x128, .f32⟩
  | 115 => ⟨S32x128x6x64, .f32⟩
  | 116 => ⟨S1x128x6x1, .f32⟩
  | 117 => ⟨S32x128x6x64, .f32⟩
  | 118 => ⟨S32x128x6x64, .f32⟩
  | 119 => ⟨S1x6x1x1, .f32⟩
  | 120 => ⟨S32x6x64x64, .f32⟩
  | 121 => ⟨S32x6x64x64, .f32⟩
  | 122 => ⟨S1x128x6x1, .f32⟩
  | 123 => ⟨S32x128x6x64, .f32⟩
  | 124 => ⟨S32x128x6x64, .f32⟩
  | 125 => ⟨S32x6x64x64, .f32⟩
  | 126 => ⟨S32x6x64x64, .f32⟩
  | 127 => ⟨S32x128x6x64, .f32⟩
  | _ => ⟨S8192x1408, .bf16⟩

abbrev hbmTy0_1 (i : Nat) : BufTy := match i % 128 with
  | 0 => ⟨S32x128x6x64, .f32⟩
  | 1 => ⟨S32x128x6x64, .f32⟩
  | 2 => ⟨S32x128x6x64, .f32⟩
  | 3 => ⟨S32x6x128x128, .f32⟩
  | 4 => ⟨S1x6x128x128, .f32⟩
  | 5 => ⟨S32x6x128x128, .f32⟩
  | 6 => ⟨S32x6x128x128, .f32⟩
  | 7 => ⟨S32x6x64x128, .f32⟩
  | 8 => ⟨S32x128x6x64, .f32⟩
  | 9 => ⟨S32x6x64x128, .f32⟩
  | 10 => ⟨S32x128x6x64, .f32⟩
  | 11 => ⟨S1x128x6x1, .f32⟩
  | 12 => ⟨S32x128x6x64, .f32⟩
  | 13 => ⟨S32x128x6x64, .f32⟩
  | 14 => ⟨S1x6x1x1, .f32⟩
  | 15 => ⟨S32x6x64x64, .f32⟩
  | 16 => ⟨S32x6x64x64, .f32⟩
  | 17 => ⟨S1x128x6x1, .f32⟩
  | 18 => ⟨S32x128x6x64, .f32⟩
  | 19 => ⟨S32x128x6x64, .f32⟩
  | 20 => ⟨S32x6x64x64, .f32⟩
  | 21 => ⟨S32x6x64x64, .f32⟩
  | 22 => ⟨S32x128x6x64, .f32⟩
  | 23 => ⟨S32x256x6x64, .f32⟩
  | 24 => ⟨S32x256x6x64, .f32⟩
  | 25 => ⟨S32x256x6x64, .f32⟩
  | 26 => ⟨S32x256x6x64, .f32⟩
  | 27 => ⟨S1x6, .f32⟩
  | 28 => ⟨S6, .f32⟩
  | 29 => ⟨S128, .f32⟩
  | 30 => ⟨S128x1, .f32⟩
  | 31 => ⟨S1x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .i1⟩
  | 38 => ⟨S1x128x128, .i1⟩
  | 39 => ⟨S_, .f32⟩
  | 40 => ⟨S_, .f32⟩
  | 41 => ⟨S128x128, .f32⟩
  | 42 => ⟨S128x128, .f32⟩
  | 43 => ⟨S1x128x128, .f32⟩
  | 44 => ⟨S6x1x1, .f32⟩
  | 45 => ⟨S6x128x128, .f32⟩
  | 46 => ⟨S6x128x128, .f32⟩
  | 47 => ⟨S6x128x128, .f32⟩
  | 48 => ⟨S6x128x128, .f32⟩
  | 49 => ⟨S_, .f32⟩
  | 50 => ⟨S_, .f32⟩
  | 51 => ⟨S6x128x128, .i1⟩
  | 52 => ⟨S6x128x128, .f32⟩
  | 53 => ⟨S6x128x128, .f32⟩
  | 54 => ⟨S128x1, .f32⟩
  | 55 => ⟨S_, .f32⟩
  | 56 => ⟨S128x1, .f32⟩
  | 57 => ⟨S128x1, .f32⟩
  | 58 => ⟨S1x6, .f32⟩
  | 59 => ⟨S128x6, .f32⟩
  | 60 => ⟨S128x6, .f32⟩
  | 61 => ⟨S128x6, .f32⟩
  | 62 => ⟨S128x6, .f32⟩
  | 63 => ⟨S128x1, .f32⟩
  | 64 => ⟨S_, .f32⟩
  | 65 => ⟨S128x1, .f32⟩
  | 66 => ⟨S128x1, .f32⟩
  | 67 => ⟨S1x6, .f32⟩
  | 68 => ⟨S128x6, .f32⟩
  | 69 => ⟨S128x6, .f32⟩
  | 70 => ⟨S128x6, .f32⟩
  | 71 => ⟨S128x6, .f32⟩
  | 72 => ⟨S_, .f32⟩
  | 73 => ⟨S6, .f32⟩
  | 74 => ⟨S6, .f32⟩
  | 75 => ⟨S6, .f32⟩
  | 76 => ⟨S_, .f32⟩
  | 77 => ⟨S32x6x64x64, .f32⟩
  | 78 => ⟨S32x128x6x64, .f32⟩
  | 79 => ⟨S32x128x6x64, .f32⟩
  | 80 => ⟨S32x128x6x64, .f32⟩
  | 81 => ⟨S32x6x128x128, .f32⟩
  | 82 => ⟨S1x6x128x128, .f32⟩
  | 83 => ⟨S32x6x128x128, .f32⟩
  | 84 => ⟨S32x6x128x128, .f32⟩
  | 85 => ⟨S32x6x64x128, .f32⟩
  | 86 => ⟨S32x128x6x64, .f32⟩
  | 87 => ⟨S32x6x64x128, .f32⟩
  | 88 => ⟨S32x128x6x64, .f32⟩
  | 89 => ⟨S1x128x6x1, .f32⟩
  | 90 => ⟨S32x128x6x64, .f32⟩
  | 91 => ⟨S32x128x6x64, .f32⟩
  | 92 => ⟨S1x6x1x1, .f32⟩
  | 93 => ⟨S32x6x64x64, .f32⟩
  | 94 => ⟨S32x6x64x64, .f32⟩
  | 95 => ⟨S1x128x6x1, .f32⟩
  | 96 => ⟨S32x128x6x64, .f32⟩
  | 97 => ⟨S32x128x6x64, .f32⟩
  | 98 => ⟨S32x6x64x64, .f32⟩
  | 99 => ⟨S32x6x64x64, .f32⟩
  | 100 => ⟨S32x128x6x64, .f32⟩
  | 101 => ⟨S32x128x6x64, .f32⟩
  | 102 => ⟨S32x128x6x64, .f32⟩
  | 103 => ⟨S32x128x6x64, .f32⟩
  | 104 => ⟨S32x6x128x128, .f32⟩
  | 105 => ⟨S1x6x128x128, .f32⟩
  | 106 => ⟨S32x6x128x128, .f32⟩
  | 107 => ⟨S32x6x128x128, .f32⟩
  | 108 => ⟨S32x6x64x128, .f32⟩
  | 109 => ⟨S32x128x6x64, .f32⟩
  | 110 => ⟨S32x6x64x128, .f32⟩
  | 111 => ⟨S32x128x6x64, .f32⟩
  | 112 => ⟨S1x128x6x1, .f32⟩
  | 113 => ⟨S32x128x6x64, .f32⟩
  | 114 => ⟨S32x128x6x64, .f32⟩
  | 115 => ⟨S1x6x1x1, .f32⟩
  | 116 => ⟨S32x6x64x64, .f32⟩
  | 117 => ⟨S32x6x64x64, .f32⟩
  | 118 => ⟨S1x128x6x1, .f32⟩
  | 119 => ⟨S32x128x6x64, .f32⟩
  | 120 => ⟨S32x128x6x64, .f32⟩
  | 121 => ⟨S32x6x64x64, .f32⟩
  | 122 => ⟨S32x6x64x64, .f32⟩
  | 123 => ⟨S32x128x6x64, .f32⟩
  | 124 => ⟨S32x256x6x64, .f32⟩
  | 125 => ⟨S32x256x6x64, .f32⟩
  | 126 => ⟨S32x256x6x64, .f32⟩
  | 127 => ⟨S8192x256, .f32⟩
  | _ => ⟨S8192x1408, .bf16⟩

abbrev hbmTy0_2 (i : Nat) : BufTy := match i % 128 with
  | 0 => ⟨S32x256x4x2x32, .f32⟩
  | 1 => ⟨S8192x256, .f32⟩
  | 2 => ⟨S32x256x4x2x32, .f32⟩
  | 3 => ⟨S8192x256, .f32⟩
  | 4 => ⟨S32x256x4x64, .f32⟩
  | 5 => ⟨S_, .f32⟩
  | 6 => ⟨S32x2x4x256x256, .f32⟩
  | 7 => ⟨S_, .f32⟩
  | 8 => ⟨S32x2x4x256x256, .f32⟩
  | 9 => ⟨S32x2x4x256x256, .f32⟩
  | 10 => ⟨S_, .f32⟩
  | 11 => ⟨S32x2x4x256, .f32⟩
  | 12 => ⟨S_, .f32⟩
  | 13 => ⟨S32x2x4x256, .f32⟩
  | 14 => ⟨S32x2x4x256, .f32⟩
  | 15 => ⟨S32x2x4x256x1, .f32⟩
  | 16 => ⟨S32x2x4x256x256, .f32⟩
  | 17 => ⟨S32x2x4x256x256, .f32⟩
  | 18 => ⟨S32x2x4x256x256, .f32⟩
  | 19 => ⟨S_, .f32⟩
  | 20 => ⟨S32x2x4x256, .f32⟩
  | 21 => ⟨S32x2x4x256x1, .f32⟩
  | 22 => ⟨S32x2x4x256x256, .f32⟩
  | 23 => ⟨S32x2x4x256x256, .f32⟩
  | 24 => ⟨S32x1x4x256x256, .f32⟩
  | 25 => ⟨S32x4x256x256, .f32⟩
  | 26 => ⟨S32x1x4x256x256, .f32⟩
  | 27 => ⟨S32x4x256x256, .f32⟩
  | 28 => ⟨S32x4x256x256, .f32⟩
  | 29 => ⟨S32x4x256x256, .f32⟩
  | 30 => ⟨S32x4x256x256, .f32⟩
  | 31 => ⟨S32x4x64x256, .f32⟩
  | 32 => ⟨S32x256x4x64, .f32⟩
  | 33 => ⟨S_, .f32⟩
  | 34 => ⟨S32x256x6, .f32⟩
  | 35 => ⟨S32x256x6x1, .f32⟩
  | 36 => ⟨S_, .f32⟩
  | 37 => ⟨S32x256x6x1, .f32⟩
  | 38 => ⟨S32x256x6x1, .f32⟩
  | 39 => ⟨S32x256x6x64, .f32⟩
  | 40 => ⟨S32x256x6x64, .f32⟩
  | 41 => ⟨S32x256x6x64, .f32⟩
  | 42 => ⟨S_, .f32⟩
  | 43 => ⟨S32x256x6, .f32⟩
  | 44 => ⟨S32x256x6x1, .f32⟩
  | 45 => ⟨S_, .f32⟩
  | 46 => ⟨S32x256x6x1, .f32⟩
  | 47 => ⟨S32x256x6x1, .f32⟩
  | 48 => ⟨S32x256x6x64, .f32⟩
  | 49 => ⟨S32x256x6x64, .f32⟩
  | 50 => ⟨S_, .f32⟩
  | 51 => ⟨S32x256x6x1, .f32⟩
  | 52 => ⟨S32x256x6x1, .f32⟩
  | 53 => ⟨S32x256x6x1, .f32⟩
  | 54 => ⟨S32x256x6x64, .f32⟩
  | 55 => ⟨S32x256x6x64, .f32⟩
  | 56 => ⟨S32x256x384, .f32⟩
  | 57 => ⟨S1x1x384, .f32⟩
  | 58 => ⟨S32x256x384, .f32⟩
  | 59 => ⟨S32x256x384, .f32⟩
  | 60 => ⟨S1x1x384, .f32⟩
  | 61 => ⟨S32x256x384, .f32⟩
  | 62 => ⟨S32x256x384, .f32⟩
  | 63 => ⟨S8192x384, .f32⟩
  | 64 => ⟨S32x256x384, .f32⟩
  | 65 => ⟨S32x256x384, .f32⟩
  | 66 => ⟨S32x256x384, .f32⟩
  | 67 => ⟨S_, .f32⟩
  | 68 => ⟨S32x256x384, .f32⟩
  | 69 => ⟨S32x256x384, .f32⟩
  | 70 => ⟨S_, .f32⟩
  | 71 => ⟨S32x256x384, .f32⟩
  | 72 => ⟨S32x256x384, .f32⟩
  | 73 => ⟨S32x256x384, .f32⟩
  | 74 => ⟨S32x256x384, .f32⟩
  | 75 => ⟨S32x256x4x64, .f32⟩
  | 76 => ⟨S_, .f32⟩
  | 77 => ⟨S32x256x4, .f32⟩
  | 78 => ⟨S32x256x4x1, .f32⟩
  | 79 => ⟨S_, .f32⟩
  | 80 => ⟨S32x256x4x1, .f32⟩
  | 81 => ⟨S32x256x4x1, .f32⟩
  | 82 => ⟨S_, .f32⟩
  | 83 => ⟨S32x256x4x1, .f32⟩
  | 84 => ⟨S32x256x4x1, .f32⟩
  | 85 => ⟨S32x256x4x1, .f32⟩
  | 86 => ⟨S32x256x4x64, .f32⟩
  | 87 => ⟨S32x256x4x64, .f32⟩
  | 88 => ⟨S32x256x256, .f32⟩
  | 89 => ⟨S1x1x256, .f32⟩
  | 90 => ⟨S32x256x256, .f32⟩
  | 91 => ⟨S32x256x256, .f32⟩
  | 92 => ⟨S_, .f32⟩
  | 93 => ⟨S32x256x256, .f32⟩
  | 94 => ⟨S32x256x256, .f32⟩
  | 95 => ⟨S32x256x384, .f32⟩
  | 96 => ⟨S32x256x1024, .f32⟩
  | 97 => ⟨S32x256x1024, .f32⟩
  | 98 => ⟨S_, .f32⟩
  | 99 => ⟨S8192x1024, .f32⟩
  | 100 => ⟨S8192x1024, .f32⟩
  | 101 => ⟨S1x1x1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S8192x1024, .f32⟩
  | 123 => ⟨S8192x1024, .f32⟩
  | 124 => ⟨S_, .f32⟩
  | 125 => ⟨S8192x1, .f32⟩
  | 126 => ⟨S8192x1, .f32⟩
  | 127 => ⟨S8192x1, .f32⟩
  | _ => ⟨S8192x1408, .bf16⟩

abbrev hbmTy0_3 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S1x1024, .f32⟩
  | 6 => ⟨S8192x1024, .f32⟩
  | 7 => ⟨S8192x1024, .f32⟩
  | 8 => ⟨S32x1x6x64x64, .f32⟩
  | 9 => ⟨S32x1x6x64x64, .f32⟩
  | 10 => ⟨S32x2x6x64x64, .f32⟩
  | _ => ⟨S8192x1408, .bf16⟩

abbrev hbmTy (i : Nat) : BufTy := match i / 128 with
  | 0 => hbmTy0_0 i
  | 1 => hbmTy0_1 i
  | 2 => hbmTy0_2 i
  | 3 => hbmTy0_3 i
  | _ => ⟨S8192x1408, .bf16⟩

abbrev bufTy : (tb : Table) → Fin (tcTables nBuf tb) → BufTy
  | .hbm, ⟨i, _⟩ => hbmTy i
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_call0_v0 : Ref sig .tc := ⟨.hbm, 67, rfl⟩
abbrev main_call0_v1 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_8 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_9 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_10 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_11 : Ref sig .tc := ⟨.hbm, 167, rfl⟩
abbrev main_call5_v0 : Ref sig .tc := ⟨.hbm, 168, rfl⟩
abbrev main_call5_v1 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_12 : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_v145 : Ref sig .tc := ⟨.hbm, 181, rfl⟩
abbrev main_v146 : Ref sig .tc := ⟨.hbm, 182, rfl⟩
abbrev main_cst_13 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_14 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_15 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_16 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_cst_17 : Ref sig .tc := ⟨.hbm, 263, rfl⟩
abbrev main_v223 : Ref sig .tc := ⟨.hbm, 264, rfl⟩
abbrev main_v224 : Ref sig .tc := ⟨.hbm, 265, rfl⟩
abbrev main_cst_18 : Ref sig .tc := ⟨.hbm, 266, rfl⟩
abbrev main_v225 : Ref sig .tc := ⟨.hbm, 267, rfl⟩
abbrev main_cst_19 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_cst_20 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_cst_21 : Ref sig .tc := ⟨.hbm, 289, rfl⟩
abbrev main_v245 : Ref sig .tc := ⟨.hbm, 290, rfl⟩
abbrev main_v246 : Ref sig .tc := ⟨.hbm, 291, rfl⟩
abbrev main_cst_22 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_cst_23 : Ref sig .tc := ⟨.hbm, 298, rfl⟩
abbrev main_v252 : Ref sig .tc := ⟨.hbm, 299, rfl⟩
abbrev main_v253 : Ref sig .tc := ⟨.hbm, 300, rfl⟩
abbrev main_cst_24 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_cst_25 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_call8_v0 : Ref sig .tc := ⟨.hbm, 321, rfl⟩
abbrev main_call8_v1 : Ref sig .tc := ⟨.hbm, 322, rfl⟩
abbrev main_call8_cst : Ref sig .tc := ⟨.hbm, 323, rfl⟩
abbrev main_call8_v2 : Ref sig .tc := ⟨.hbm, 324, rfl⟩
abbrev main_call8_v3 : Ref sig .tc := ⟨.hbm, 325, rfl⟩
abbrev main_call8_cst_0 : Ref sig .tc := ⟨.hbm, 326, rfl⟩
abbrev main_call8_v4 : Ref sig .tc := ⟨.hbm, 327, rfl⟩
abbrev main_call8_v5 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_cst_26 : Ref sig .tc := ⟨.hbm, 332, rfl⟩
abbrev main_v275 : Ref sig .tc := ⟨.hbm, 333, rfl⟩
abbrev main_v276 : Ref sig .tc := ⟨.hbm, 334, rfl⟩
abbrev main_cst_27 : Ref sig .tc := ⟨.hbm, 335, rfl⟩
abbrev main_v277 : Ref sig .tc := ⟨.hbm, 336, rfl⟩
abbrev main_v278 : Ref sig .tc := ⟨.hbm, 337, rfl⟩
abbrev main_cst_28 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_cst_29 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_cst_30 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_cst_31 : Ref sig .tc := ⟨.hbm, 363, rfl⟩
abbrev main_v301 : Ref sig .tc := ⟨.hbm, 364, rfl⟩
abbrev main_v302 : Ref sig .tc := ⟨.hbm, 365, rfl⟩
abbrev main_cst_32 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_cst_33 : Ref sig .tc := ⟨.hbm, 372, rfl⟩
abbrev main_v308 : Ref sig .tc := ⟨.hbm, 373, rfl⟩
abbrev main_v309 : Ref sig .tc := ⟨.hbm, 374, rfl⟩
abbrev main_cst_34 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_cst_35 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩

abbrev nD : Nat := 1
abbrev τ : Topo := Topo.v7x

variable {F : FTy → Type} [FloatOps F]
-- ==== Kernel5.lean ====
abbrev S4096x1024 : Shape := ⟨2, ![4096, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S_ : Shape := ⟨0, ![]⟩
abbrev S128x1024 : Shape := ⟨2, ![128, 1024]⟩
abbrev S32x1024 : Shape := ⟨2, ![32, 1024]⟩
abbrev S1 : Shape := ⟨1, ![1]⟩
abbrev S4x1024 : Shape := ⟨2, ![4, 1024]⟩
abbrev S1024x1024 : Shape := ⟨2, ![1024, 1024]⟩
abbrev S1x6x1024 : Shape := ⟨3, ![1, 6, 1024]⟩
abbrev S4x1024x256 : Shape := ⟨3, ![4, 1024, 256]⟩
abbrev S4x256x1024 : Shape := ⟨3, ![4, 256, 1024]⟩
abbrev S1024x128 : Shape := ⟨2, ![1024, 128]⟩
abbrev S6x1024 : Shape := ⟨2, ![6, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 25
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S8x6x1024, .f32⟩
  | .hbm, ⟨2, _⟩ => ⟨S1024x4, .f32⟩
  | .hbm, ⟨3, _⟩ => ⟨S1024x32, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S128x1024, .f32⟩
  | .hbm, ⟨13, _⟩ => ⟨S32x1024, .f32⟩
  | .hbm, ⟨14, _⟩ => ⟨S_, .i32⟩
  | .hbm, ⟨15, _⟩ => ⟨S1, .i32⟩
  | .hbm, ⟨16, _⟩ => ⟨S128x1024, .f32⟩
  | .hbm, ⟨17, _⟩ => ⟨S4x1024, .f32⟩
  | .hbm, ⟨18, _⟩ => ⟨S_, .i32⟩
  | .hbm, ⟨19, _⟩ => ⟨S1, .i32⟩
  | .hbm, ⟨20, _⟩ => ⟨S128x1024, .f32⟩
  | .hbm, ⟨21, _⟩ => ⟨S32x1024x256, .bf16⟩
  | .hbm, ⟨22, _⟩ => ⟨S32x1024x256, .bf16⟩
  | .hbm, ⟨23, _⟩ => ⟨S32x256x1024, .bf16⟩
  | .hbm, ⟨24, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S128x1024, .f32⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x256x1024, .bf16⟩
  | .local _ .vmem, ⟨10, _⟩ => ⟨S4x256x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x128, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v123 : BitVec 1 := Scalar.cmpi .eq arg1 c7_i32
  let v124 : BitVec 32 := Scalar.extui v123
  let c0_i32_68 : BitVec 32 := 0#32
  let v125 : BitVec 1 := Scalar.cmpi .ne v124 c0_i32_68
  v125

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x1024 : Shape := ⟨2, ![4096, 1024]⟩
abbrev S8x6x1024 : Shape := ⟨3, ![8, 6, 1024]⟩
abbrev S1024x4 : Shape := ⟨2, ![1024, 4]⟩
abbrev S1024x32 : Shape := ⟨2, ![1024, 32]⟩
abbrev S32x1024x256 : Shape := ⟨3, ![32, 1024, 256]⟩
abbrev S32x256x1024 : Shape := ⟨3, ![32, 256, 1024]⟩
abbrev S1024 : Shape := ⟨1, ![1024]⟩
abbrev S2x1x1024 : Shape := ⟨3, ![2, 1, 1024]⟩
abbrev S2x1024 : Shape := ⟨2, ![2, 1024]⟩
abbrev S2x2048x1024 : Shape := ⟨3, ![2, 2048, 1024]⟩
abbrev S_ : Shape := ⟨0, ![]⟩
abbrev S4096x4 : Shape := ⟨2, ![4096, 4]⟩
abbrev S4096 : Shape := ⟨1, ![4096]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x32 : Shape := ⟨2, ![4096, 32]⟩
abbrev S4096x4x8 : Shape := ⟨3, ![4096, 4, 8]⟩
abbrev S4096x1x8 : Shape := ⟨3, ![4096, 1, 8]⟩
abbrev S4096x8 : Shape := ⟨2, ![4096, 8]⟩
abbrev S4096x2 : Shape := ⟨2, ![4096, 2]⟩
abbrev S4096x2x1 : Shape := ⟨3, ![4096, 2, 1]⟩
abbrev S1x1x32 : Shape := ⟨3, ![1, 1, 32]⟩
abbrev S4096x2x32 : Shape := ⟨3, ![4096, 2, 32]⟩
abbrev S4096x32x256 : Shape := ⟨3, ![4096, 32, 256]⟩
abbrev S4096x32x1 : Shape := ⟨3, ![4096, 32, 1]⟩
abbrev S1x1024 : Shape := ⟨2, ![1, 1024]⟩

abbrev nBuf : Space → Nat
  | .hbm => 181
  | .vmem => 0
  | .smem => 0
  | _ => 0

abbrev hbmTy0_0 (i : Nat) : BufTy := match i % 128 with
  | 0 => ⟨S4096x1024, .f32⟩
  | 1 => ⟨S8x6x1024, .f32⟩
  | 2 => ⟨S1024x4, .f32⟩
  | 3 => ⟨S1024x32, .f32⟩
  | 4 => ⟨S32x1024x256, .f32⟩
  | 5 => ⟨S32x1024x256, .f32⟩
  | 6 => ⟨S32x256x1024, .f32⟩
  | 7 => ⟨S1024, .f32⟩
  | 8 => ⟨S1024, .f32⟩
  | 9 => ⟨S2x1x1024, .f32⟩
  | 10 => ⟨S2x1024, .f32⟩
  | 11 => ⟨S2x1x1024, .f32⟩
  | 12 => ⟨S2x2048x1024, .f32⟩
  | 13 => ⟨S4096x1024, .f32⟩
  | 14 => ⟨S2x1x1024, .f32⟩
  | 15 => ⟨S2x1024, .f32⟩
  | 16 => ⟨S2x1x1024, .f32⟩
  | 17 => ⟨S2x2048x1024, .f32⟩
  | 18 => ⟨S4096x1024, .f32⟩
  | 19 => ⟨S2x1x1024, .f32⟩
  | 20 => ⟨S2x1024, .f32⟩
  | 21 => ⟨S2x1x1024, .f32⟩
  | 22 => ⟨S2x2048x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x4, .f32⟩
  | 30 => ⟨S_, .f32⟩
  | 31 => ⟨S4096, .f32⟩
  | 32 => ⟨S_, .f32⟩
  | 33 => ⟨S4096, .f32⟩
  | 34 => ⟨S4096, .f32⟩
  | 35 => ⟨S4096x1, .f32⟩
  | 36 => ⟨S4096x4, .f32⟩
  | 37 => ⟨S4096x4, .f32⟩
  | 38 => ⟨S4096x4, .f32⟩
  | 39 => ⟨S_, .f32⟩
  | 40 => ⟨S4096, .f32⟩
  | 41 => ⟨S4096x1, .f32⟩
  | 42 => ⟨S4096x4, .f32⟩
  | 43 => ⟨S4096x4, .f32⟩
  | 44 => ⟨S4096x1, .f32⟩
  | 45 => ⟨S4096x1, .i32⟩
  | 46 => ⟨S4096, .i32⟩
  | 47 => ⟨S4096x1, .i32⟩
  | 48 => ⟨S_, .i32⟩
  | 49 => ⟨S4096x1, .i32⟩
  | 50 => ⟨S4096x1, .i1⟩
  | 51 => ⟨S_, .i32⟩
  | 52 => ⟨S4096x1, .i32⟩
  | 53 => ⟨S4096x1, .i32⟩
  | 54 => ⟨S4096x1, .i32⟩
  | 55 => ⟨S4096x1x1, .i32⟩
  | 56 => ⟨S1, .i32⟩
  | 57 => ⟨S_, .i32⟩
  | 58 => ⟨S4096x1x1, .i32⟩
  | 59 => ⟨S4096x1x1, .i1⟩
  | 60 => ⟨S1x1x1, .i32⟩
  | 61 => ⟨S4096x1x1, .i32⟩
  | 62 => ⟨S4096x1x1, .i1⟩
  | 63 => ⟨S4096x1x1, .i1⟩
  | 64 => ⟨S_, .i1⟩
  | 65 => ⟨S4096x1, .i1⟩
  | 66 => ⟨S4096x1, .f32⟩
  | 67 => ⟨S_, .f32⟩
  | 68 => ⟨S4096x1, .f32⟩
  | 69 => ⟨S4096x1, .f32⟩
  | 70 => ⟨S4096x32, .f32⟩
  | 71 => ⟨S4096x4x8, .f32⟩
  | 72 => ⟨S4096x1x1, .i32⟩
  | 73 => ⟨S_, .i32⟩
  | 74 => ⟨S4096x1x1, .i32⟩
  | 75 => ⟨S4096x1x1, .i1⟩
  | 76 => ⟨S_, .i32⟩
  | 77 => ⟨S4096x1x1, .i32⟩
  | 78 => ⟨S4096x1x1, .i32⟩
  | 79 => ⟨S4096x1x1, .i32⟩
  | 80 => ⟨S1, .i32⟩
  | 81 => ⟨S_, .i32⟩
  | 82 => ⟨S4096x1x1, .i32⟩
  | 83 => ⟨S4096x1x1, .i1⟩
  | 84 => ⟨S1x1x1, .i32⟩
  | 85 => ⟨S4096x1x1, .i32⟩
  | 86 => ⟨S4096x1x1, .i1⟩
  | 87 => ⟨S4096x1x1, .i1⟩
  | 88 => ⟨S_, .i1⟩
  | 89 => ⟨S4096x1, .i1⟩
  | 90 => ⟨S4096x1x8, .f32⟩
  | 91 => ⟨S4096x1x8, .i1⟩
  | 92 => ⟨S_, .f32⟩
  | 93 => ⟨S4096x1x8, .f32⟩
  | 94 => ⟨S4096x1x8, .f32⟩
  | 95 => ⟨S4096x8, .f32⟩
  | 96 => ⟨S4096x2, .f32⟩
  | 97 => ⟨S4096x2, .i32⟩
  | 98 => ⟨S_, .f32⟩
  | 99 => ⟨S4096, .f32⟩
  | 100 => ⟨S_, .f32⟩
  | 101 => ⟨S4096, .f32⟩
  | 102 => ⟨S4096, .f32⟩
  | 103 => ⟨S4096x1, .f32⟩
  | 104 => ⟨S4096x2, .f32⟩
  | 105 => ⟨S4096x2, .f32⟩
  | 106 => ⟨S4096x2, .f32⟩
  | 107 => ⟨S_, .f32⟩
  | 108 => ⟨S4096, .f32⟩
  | 109 => ⟨S4096x1, .f32⟩
  | 110 => ⟨S4096x2, .f32⟩
  | 111 => ⟨S4096x2, .f32⟩
  | 112 => ⟨S4096x2, .f32⟩
  | 113 => ⟨S4096x2, .f32⟩
  | 114 => ⟨S4096x1, .i32⟩
  | 115 => ⟨S_, .i32⟩
  | 116 => ⟨S4096x1, .i32⟩
  | 117 => ⟨S4096x1, .i32⟩
  | 118 => ⟨S4096x2, .i32⟩
  | 119 => ⟨S4096x2, .i32⟩
  | 120 => ⟨S4096x2x1, .i32⟩
  | 121 => ⟨S1x1x32, .i32⟩
  | 122 => ⟨S4096x2x32, .i32⟩
  | 123 => ⟨S4096x2x32, .i32⟩
  | 124 => ⟨S4096x2x32, .i1⟩
  | 125 => ⟨S4096x2x32, .f32⟩
  | 126 => ⟨S4096x2x1, .f32⟩
  | 127 => ⟨S4096x2x32, .f32⟩
  | _ => ⟨S4096x1024, .f32⟩

abbrev hbmTy0_1 (i : Nat) : BufTy := match i % 128 with
  | 0 => ⟨S4096x2x32, .f32⟩
  | 1 => ⟨S_, .f32⟩
  | 2 => ⟨S4096x32, .f32⟩
  | 3 => ⟨S4096x32x256, .f32⟩
  | 4 => ⟨S4096x32x256, .f32⟩
  | 5 => ⟨S4096x32x256, .f32⟩
  | 6 => ⟨S4096x32x256, .f32⟩
  | 7 => ⟨S_, .f32⟩
  | 8 => ⟨S4096x32x256, .f32⟩
  | 9 => ⟨S4096x32x256, .f32⟩
  | 10 => ⟨S_, .f32⟩
  | 11 => ⟨S4096x32x256, .f32⟩
  | 12 => ⟨S4096x32x256, .f32⟩
  | 13 => ⟨S4096x32x256, .f32⟩
  | 14 => ⟨S4096x32x256, .f32⟩
  | 15 => ⟨S4096x32x1, .f32⟩
  | 16 => ⟨S4096x32x256, .f32⟩
  | 17 => ⟨S4096x32x256, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S_, .f32⟩
  | 42 => ⟨S4096x1, .f32⟩
  | 43 => ⟨S4096x1, .f32⟩
  | 44 => ⟨S4096x1, .f32⟩
  | 45 => ⟨S4096x1024, .f32⟩
  | 46 => ⟨S4096x1024, .f32⟩
  | 47 => ⟨S1x1024, .f32⟩
  | 48 => ⟨S4096x1024, .f32⟩
  | 49 => ⟨S4096x1024, .f32⟩
  | 50 => ⟨S1x1024, .f32⟩
  | 51 => ⟨S4096x1024, .f32⟩
  | 52 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_values : Ref sig .tc := ⟨.hbm, 44, rfl⟩
abbrev main_indices : Ref sig .tc := ⟨.hbm, 45, rfl⟩
abbrev main_v31 : Ref sig .tc := ⟨.hbm, 46, rfl⟩
abbrev main_v32 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_cst : Ref sig .tc := ⟨.hbm, 67, rfl⟩
abbrev main_call0_v14 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_1 : Ref sig .tc := ⟨.hbm, 80, rfl⟩
abbrev main_call1_c_2 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_c_3 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_cst : Ref sig .tc := ⟨.hbm, 92, rfl⟩
abbrev main_call1_v14 : Ref sig .tc := ⟨.hbm, 93, rfl⟩
abbrev main_v37 : Ref sig .tc := ⟨.hbm, 94, rfl⟩
abbrev main_v38 : Ref sig .tc := ⟨.hbm, 95, rfl⟩
abbrev main_values_3 : Ref sig .tc := ⟨.hbm, 96, rfl⟩
abbrev main_indices_4 : Ref sig .tc := ⟨.hbm, 97, rfl⟩
abbrev main_cst_5 : Ref sig .tc := ⟨.hbm, 98, rfl⟩
abbrev main_v39 : Ref sig .tc := ⟨.hbm, 99, rfl⟩
abbrev main_cst_6 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_7 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_c : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_8 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_9 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_cst_10 : Ref sig .tc := ⟨.hbm, 152, rfl⟩
abbrev main_v74 : Ref sig .tc := ⟨.hbm, 153, rfl⟩
abbrev main_v75 : Ref sig .tc := ⟨.hbm, 154, rfl⟩
abbrev main_cst_11 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_cst_12 : Ref sig .tc := ⟨.hbm, 161, rfl⟩
abbrev main_v81 : Ref sig .tc := ⟨.hbm, 162, rfl⟩
abbrev main_v82 : Ref sig .tc := ⟨.hbm, 163, rfl⟩
abbrev main_cst_13 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_cst_14 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩

abbrev nD : Nat := 1
abbrev τ : Topo := Topo.v7x

variable {F : FTy → Type} [FloatOps F]
-- ==== Kernel6.lean ====
abbrev S4096x1024 : Shape := ⟨2, ![4096, 1024]⟩
abbrev S8x6x1024 : Shape := ⟨3, ![8, 6, 1024]⟩
abbrev S1024x3456 : Shape := ⟨2, ![1024, 3456]⟩
abbrev S4096x1408 : Shape := ⟨2, ![4096, 1408]⟩
abbrev S4096x2048 : Shape := ⟨2, ![4096, 2048]⟩
abbrev S512x1024 : Shape := ⟨2, ![512, 1024]⟩
abbrev S1x6x1024 : Shape := ⟨3, ![1, 6, 1024]⟩
abbrev S512x1408 : Shape := ⟨2, ![512, 1408]⟩
abbrev S512x2048 : Shape := ⟨2, ![512, 2048]⟩
abbrev S6x1024 : Shape := ⟨2, ![6, 1024]⟩
abbrev S1x1024 : Shape := ⟨2, ![1, 1024]⟩
abbrev S512x3456 : Shape := ⟨2, ![512, 3456]⟩
abbrev S512x384 : Shape := ⟨2, ![512, 384]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S8x6x1024, .f32⟩
  | .hbm, ⟨2, _⟩ => ⟨S1024x3456, .f32⟩
  | .hbm, ⟨3, _⟩ => ⟨S1024x3456, .bf16⟩
  | .hbm, ⟨4, _⟩ => ⟨S4096x1408, .bf16⟩
  | .hbm, ⟨5, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3456, .bf16⟩
  | .local _ .vmem, ⟨5, _⟩ => ⟨S512x1408, .bf16⟩
  | .local _ .vmem, ⟨6, _⟩ => ⟨S512x1408, .bf16⟩
  | .local _ .vmem, ⟨7, _⟩ => ⟨S512x2048, .bf16⟩
  | .local _ .vmem, ⟨8, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S8x6x1024 : Shape := ⟨3, ![8, 6, 1024]⟩
abbrev S1024x3456 : Shape := ⟨2, ![1024, 3456]⟩
abbrev S2x1x1024 : Shape := ⟨3, ![2, 1, 1024]⟩
abbrev S2x1024 : Shape := ⟨2, ![2, 1024]⟩
abbrev S2x2048x1024 : Shape := ⟨3, ![2, 2048, 1024]⟩
abbrev S_ : Shape := ⟨0, ![]⟩
abbrev S4096x3456 : Shape := ⟨2, ![4096, 3456]⟩
abbrev S4096x384 : Shape := ⟨2, ![4096, 384]⟩
abbrev S4096x256 : Shape := ⟨2, ![4096, 256]⟩
abbrev S4096x1408 : Shape := ⟨2, ![4096, 1408]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x6x1024, .f32⟩
  | .hbm, ⟨2, _⟩ => ⟨S1024x3456, .f32⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x2048x1024, .f32⟩
  | .hbm, ⟨7, _⟩ => ⟨S4096x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x2048x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3456, .f32⟩
  | .hbm, ⟨19, _⟩ => ⟨S4096x384, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S4096x384, .f32⟩
  | .hbm, ⟨25, _⟩ => ⟨S4096x384, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x384, .f32⟩
  | .hbm, ⟨31, _⟩ => ⟨S4096x384, .f32⟩
  | .hbm, ⟨32, _⟩ => ⟨S4096x1408, .f32⟩
  | .hbm, ⟨33, _⟩ => ⟨S4096x1408, .bf16⟩
  | .hbm, ⟨34, _⟩ => ⟨S4096x2048, .f32⟩
  | .hbm, ⟨35, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Proof.Points.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

/-
  What one grid point of the kernel leaves behind, as the body's own terms over the point's blocks. The grid's first
  coordinate is the block of 1024 tokens, the second the group of four experts: the first of a token block's eight
  points computes the block's hidden rows and weights and starts the accumulator, every point adds its four experts,
  the last one stores the result.
-/

@[expose] public section

set_option maxRecDepth 16384

noncomputable section

namespace Cert.Moe

open Idealize.ShloMosaic Idealize.ShloMosaic.TcCoe Idealize.SL.Sem Cert.KernelIdeal Cert.KernelIdeal.Gen

/-- The hidden rows of a token block. -/
def hiddenBlock (M : Vec Ideal S1x6x1024 .f32) (X : Vec Ideal S1024x1024 .f32) : Vec Ideal S1024x1024 .bf16 :=
  k0_pay4 M X

/-- The expert weights of a token block's tokens. -/
def gatesBlock (M : Vec Ideal S1x6x1024 .f32) (X : Vec Ideal S1024x1024 .f32) (W : Vec Ideal S128x1024 .f32) :
    Vec Ideal S1024x128 .f32 :=
  k0_pay18 (k0_pay6 (F := Ideal)) (k0_pay12 (F := Ideal) (k0_pay7 (F := Ideal)) (k0_pay8 M X W) (k0_pay9 M X W))
    (k0_pay14 (k0_pay5 M X W) (k0_pay6 (F := Ideal)) (k0_pay10 M X W) (k0_pay11 (F := Ideal)))
    (k0_pay15 (k0_pay5 M X W) (k0_pay6 (F := Ideal)) (k0_pay10 M X W) (k0_pay11 (F := Ideal)))
    (k0_pay16 (k0_pay5 M X W) (k0_pay6 (F := Ideal)) (k0_pay10 M X W) (k0_pay11 (F := Ideal)))
    (k0_pay17 (k0_pay5 M X W) (k0_pay6 (F := Ideal)) (k0_pay10 M X W) (k0_pay11 (F := Ideal)))

/-- Expert `q`'s slice of a block of four experts' input weights. -/
abbrev inSlice0 (w : Vec Ideal S4x1024x256 .bf16) : Vec Ideal S1x1024x256 .bf16 :=
  View.ld w (Rect.unit ![0, 0, 0] ![1, 1024, 256] inb_S4x1024x256_S1x1024x256_0_0_0)
abbrev inSlice1 (w : Vec Ideal S4x1024x256 .bf16) : Vec Ideal S1x1024x256 .bf16 :=
  View.ld w (Rect.unit ![1, 0, 0] ![1, 1024, 256] inb_S4x1024x256_S1x1024x256_1_0_0)
abbrev inSlice2 (w : Vec Ideal S4x1024x256 .bf16) : Vec Ideal S1x1024x256 .bf16 :=
  View.ld w (Rect.unit ![2, 0, 0] ![1, 1024, 256] inb_S4x1024x256_S1x1024x256_2_0_0)
abbrev inSlice3 (w : Vec Ideal S4x1024x256 .bf16) : Vec Ideal S1x1024x256 .bf16 :=
  View.ld w (Rect.unit ![3, 0, 0] ![1, 1024, 256] inb_S4x1024x256_S1x1024x256_3_0_0)
/-- Expert `q`'s slice of a block of four experts' output weights. -/
abbrev outSlice0 (w : Vec Ideal S4x256x1024 .bf16) : Vec Ideal S1x256x1024 .bf16 :=
  View.ld w (Rect.unit ![0, 0, 0] ![1, 256, 1024] inb_S4x256x1024_S1x256x1024_0_0_0)
abbrev outSlice1 (w : Vec Ideal S4x256x1024 .bf16) : Vec Ideal S1x256x1024 .bf16 :=
  View.ld w (Rect.unit ![1, 0, 0] ![1, 256, 1024] inb_S4x256x1024_S1x256x1024_1_0_0)
abbrev outSlice2 (w : Vec Ideal S4x256x1024 .bf16) : Vec Ideal S1x256x1024 .bf16 :=
  View.ld w (Rect.unit ![2, 0, 0] ![1, 256, 1024] inb_S4x256x1024_S1x256x1024_2_0_0)
abbrev outSlice3 (w : Vec Ideal S4x256x1024 .bf16) : Vec Ideal S1x256x1024 .bf16 :=
  View.ld w (Rect.unit ![3, 0, 0] ![1, 256, 1024] inb_S4x256x1024_S1x256x1024_3_0_0)

/-- The accumulator after a point, over what it held before: the point's four experts added one after another. -/
def accStep (i : grid0.Coords) (H : Vec Ideal S1024x1024 .bf16) (G : Vec Ideal S1024x128 .f32)
    (A : Vec Ideal S1024x1024 .f32) (wg wu : Vec Ideal S4x1024x256 .bf16) (wd : Vec Ideal S4x256x1024 .bf16) :
    Vec Ideal S1024x1024 .f32 :=
  k0_pay1 (k0_pay20 i G)
    (k0_pay24 (k0_pay20 i G) H (k0_pay21 (k0_pay20 i G) H A (inSlice0 wg) (inSlice0 wu) (outSlice0 wd))
      (k0_pay22 H (inSlice1 wg) (inSlice1 wu)) (k0_pay23 (k0_pay20 i G)) (outSlice1 wd)
      (inSlice2 wg) (inSlice2 wu) (outSlice2 wd))
    (k0_pay25 H (inSlice3 wg)) (k0_pay26 H (inSlice3 wu)) (k0_pay27 (F := Ideal)) (outSlice3 wd)

variable (m : (ℓ : Loc nD τ sig) → Buf (Elt Ideal) ℓ)

/-- A token block's first point. -/
theorem stAt_first (c : Dev nD) (t : Fin cfg0.N) (acc) (h0 : t.val % 8 = 0) (h1 : ¬ t.val % 8 = 7) :
    (Value.stAt0 m c t.val t.isLt acc).2
      = (hiddenBlock (iblk m c 1 t) (iblk m c 0 t), gatesBlock (iblk m c 1 t) (iblk m c 0 t) (iblk m c 2 t),
          accStep (grid0.coords t) (hiddenBlock (iblk m c 1 t) (iblk m c 0 t))
            (gatesBlock (iblk m c 1 t) (iblk m c 0 t) (iblk m c 2 t)) (k0_pay19 (F := Ideal))
            (iblk m c 3 t) (iblk m c 4 t) (iblk m c 5 t)) := by
  rw [Value.stAt0_A m c t acc h0 h1]
  frame_out
  rfl

/-- A point in the middle of a token block's eight. -/
theorem stAt_middle (c : Dev nD) (t : Fin cfg0.N) (acc) (h0 : ¬ t.val % 8 = 0) (h1 : ¬ t.val % 8 = 7) :
    (Value.stAt0 m c t.val t.isLt acc).2
      = (acc.2.1, acc.2.2.1, accStep (grid0.coords t) acc.2.1 acc.2.2.1 acc.2.2.2 (iblk m c 3 t) (iblk m c 4 t)
          (iblk m c 5 t)) := by
  rw [Value.stAt0_B m c t acc h0 h1]
  frame_out
  simp only [read_unread_whole]
  rfl

/-- A token block's last point: it stores the normalised sum of the block's rows and the accumulator. -/
theorem stAt_last (c : Dev nD) (t : Fin cfg0.N) (acc) (h0 : ¬ t.val % 8 = 0) (h1 : t.val % 8 = 7) :
    Value.stAt0 m c t.val t.isLt acc
      = (k0_pay2 (iblk m c 1 t) (iblk m c 0 t)
          (accStep (grid0.coords t) acc.2.1 acc.2.2.1 acc.2.2.2 (iblk m c 3 t) (iblk m c 4 t) (iblk m c 5 t))
          (iblk m c 6 t) (iblk m c 7 t),
        acc.2.1, acc.2.2.1, accStep (grid0.coords t) acc.2.1 acc.2.2.1 acc.2.2.2 (iblk m c 3 t) (iblk m c 4 t)
          (iblk m c 5 t)) := by
  rw [Value.stAt0_C m c t acc h0 h1]
  frame_out
  simp only [read_unread_whole]
  rfl

end Cert.Moe

end
-- ==== Proof.Operands.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Routing.OpsSet
public import Idealize.ShloMosaic.Lib.Routing.OpsPair

/-
  What the blocks of a grid point hold, in terms of the arguments. Point `t` is token block `t / 8` and expert group
  `t % 8`.
-/

@[expose] public section

set_option maxRecDepth 16384

noncomputable section

namespace Cert.Moe

open Idealize.ShloMosaic Idealize.ShloMosaic.TcCoe Idealize.SL.Sem Cert.KernelIdeal Cert.KernelIdeal.Gen

/-- Where each window's block of point `t` lies. -/
theorem blockIndex : ∀ t : Fin cfg0.N,
    win0_0.index t = ![t.val / 8, 0] ∧ win0_1.index t = ![0, 0, 0] ∧ win0_2.index t = ![0, 0]
      ∧ win0_3.index t = ![t.val % 8, 0, 0] ∧ win0_4.index t = ![t.val % 8, 0, 0]
      ∧ win0_5.index t = ![t.val % 8, 0, 0] ∧ win0_6.index t = ![0, 0] ∧ win0_7.index t = ![0, 0] :=
  (by decide +kernel : ∀ t : Fin grid0.N, _)

/-- The second coordinate of point `t` is its expert group. -/
theorem pointGroup : ∀ t : Fin cfg0.N, ((grid0.coords t) 1).val = t.val % 8 :=
  (by decide +kernel : ∀ t : Fin grid0.N, _)

theorem pointCount (t : Fin cfg0.N) : t.val < 64 := t.isLt

variable (m : (ℓ : Loc nD τ sig) → Buf (Elt Ideal) ℓ) (c : Dev nD) (t : Fin cfg0.N)

theorem blkX (n d : Fin 1024) :
    iblk m c 0 t (ix2 n d) = m ((c : Thread nD τ).loc main_arg0) (ix2 ⟨1024 * (t.val / 8) + n.val, by have := pointCount t; omega⟩ d) := by
  have e := (blockIndex t).1
  blk_ext [iblk, V, e]

theorem blkM (k : Fin 6) (d : Fin 1024) :
    iblk m c 1 t (ix3 0 k d) = m ((c : Thread nD τ).loc main_arg1) (ix3 0 k d) := by
  have e := (blockIndex t).2.1
  blk_ext [iblk, V, e]

theorem blkGate (q : Fin 4) (d : Fin 1024) (f : Fin 256) :
    iblk m c 3 t (ix3 q d f) = m ((c : Thread nD τ).loc main_arg4) (ix3 ⟨4 * (t.val % 8) + q.val, by omega⟩ d f) := by
  have e := (blockIndex t).2.2.2.1
  blk_ext [iblk, V, e]

theorem blkUp (q : Fin 4) (d : Fin 1024) (f : Fin 256) :
    iblk m c 4 t (ix3 q d f) = m ((c : Thread nD τ).loc main_arg5) (ix3 ⟨4 * (t.val % 8) + q.val, by omega⟩ d f) := by
  have e := (blockIndex t).2.2.2.2.1
  blk_ext [iblk, V, e]

theorem blkDown (q : Fin 4) (f : Fin 256) (d : Fin 1024) :
    iblk m c 5 t (ix3 q f d) = m ((c : Thread nD τ).loc main_arg6) (ix3 ⟨4 * (t.val % 8) + q.val, by omega⟩ f d) := by
  have e := (blockIndex t).2.2.2.2.2.1
  blk_ext [iblk, V, e]

theorem blkNormW (d : Fin 1024) : iblk m c 6 t (ix2 0 d) = m ((c : Thread nD τ).loc main_arg7) (ix1 d) := by
  have e := (blockIndex t).2.2.2.2.2.2.1
  have hx : (win0_6.blk t).view.emb (ix2 0 d) = ix2 0 d := by blk_ext [e]
  blk_simp [iblk, e]
  rw [hx]
  entry_read
  pointwise []

theorem blkNormB (d : Fin 1024) : iblk m c 7 t (ix2 0 d) = m ((c : Thread nD τ).loc main_arg8) (ix1 d) := by
  have e := (blockIndex t).2.2.2.2.2.2.2
  have hx : (win0_7.blk t).view.emb (ix2 0 d) = ix2 0 d := by blk_ext [e]
  blk_simp [iblk, e]
  rw [hx]
  entry_read
  pointwise []

/-! ## The router matrix the host assembles -/

/-- Where an update of the expert rows lands: the rows are written from row `w` on. -/
theorem expertRows_land (w : BitVec 32) (k : S32x1024.Idx) (r : Fin 128) (d : Fin 1024) :
    (scatter_S128x1024_S1_S32x1024_01_n_0_0).resultIdx? k (fun _ => w) = some (ix2 r d)
      ↔ w.toInt + ((k 0).val : Int) = (r.val : Int) ∧ (0 : Int) + ((k 1).val : Int) = (d.val : Int) :=
  Routing.resultIdx?_ix2 _ _ _ _ _

/-- Where an update of the group rows lands. -/
theorem groupRows_land (w : BitVec 32) (k : S4x1024.Idx) (r : Fin 128) (d : Fin 1024) :
    (scatter_S128x1024_S1_S4x1024_01_n_0_0).resultIdx? k (fun _ => w) = some (ix2 r d)
      ↔ w.toInt + ((k 0).val : Int) = (r.val : Int) ∧ (0 : Int) + ((k 1).val : Int) = (d.val : Int) :=
  Routing.resultIdx?_ix2 _ _ _ _ _

theorem index2 {R C : ℕ} (k : (⟨2, ![R, C]⟩ : Shape).Idx) (r : Fin R) (d : Fin C) (h0 : (k 0).val = r.val)
    (h1 : (k 1).val = d.val) : k = ix2 r d := by
  funext a
  match a with
  | ⟨0, _⟩ => exact Fin.ext h0
  | ⟨1, _⟩ => exact Fin.ext h1

theorem blkRouter_eq (r : Fin 128) (d : Fin 1024) :
    iblk m c 2 t (ix2 r d)
      = Host.scatter scatter_S128x1024_S1_S4x1024_01_n_0_0 (fun _ b => b)
          (Host.scatter scatter_S128x1024_S1_S32x1024_01_n_0_0 (fun _ b => b)
            (broadcastInDim S128x1024 ![] bcast_S_S128x1024 (constant (F := Ideal) S_ FTy.f32 0#32)) (fun _ => 0#32)
            (transpose S32x1024 [1, 0] (m ((c : Thread nD τ).loc main_arg3)) transposes_S1024x32_S32x1024_1_0))
          (fun _ => 32#32)
          (transpose S4x1024 [1, 0] (m ((c : Thread nD τ).loc main_arg2)) transposes_S1024x4_S4x1024_1_0) (ix2 r d) := by
  have e := (blockIndex t).2.2.1
  have hx : (win0_2.blk t).view.emb (ix2 r d) = ix2 r d := by blk_ext [e]
  blk_simp [iblk, e]
  rw [hx]
  entry_read
  rfl

/-- Row `e` of the assembled matrix is column `e` of the expert router. -/
theorem blkRouter_expert (e : Fin 32) (d : Fin 1024) :
    iblk m c 2 t (ix2 ⟨e.val, by omega⟩ d) = m ((c : Thread nD τ).loc main_arg3) (ix2 d e) := by
  rw [blkRouter_eq, Routing.scatter_set_miss _ _ _ _ _ fun k hk => ?_]
  · refine Routing.scatter_set_hit _ _ _ _ _ _ (fun k hk => ?_) (ix2 e d) ?_
    · obtain ⟨h0, h1⟩ := (expertRows_land _ _ _ _).1 hk
      simp at h0 h1
      rw [index2 k e d (by omega) (by omega)]
      pointwise []
    · exact (expertRows_land _ _ _ _).2 ⟨by simp, by simp⟩
  · obtain ⟨h0, h1⟩ := (groupRows_land _ _ _ _).1 hk
    have : (32#32 : BitVec 32).toInt = 32 := by decide
    rw [this] at h0
    simp only at h0
    omega

/-- Row `32 + k` of the assembled matrix is column `k` of the group router. -/
theorem blkRouter_group (g : Fin 4) (d : Fin 1024) :
    iblk m c 2 t (ix2 ⟨32 + g.val, by omega⟩ d) = m ((c : Thread nD τ).loc main_arg2) (ix2 d g) := by
  rw [blkRouter_eq]
  have hw : (32#32 : BitVec 32).toInt = 32 := by decide
  refine Routing.scatter_set_hit _ _ _ _ _ _ (fun k hk => ?_) (ix2 g d) ?_
  · obtain ⟨h0, h1⟩ := (groupRows_land _ _ _ _).1 hk
    rw [hw] at h0
    simp only at h0 h1
    rw [index2 k g d (by omega) (by omega)]
    pointwise []
  · refine (groupRows_land _ _ _ _).2 ⟨?_, by simp⟩
    rw [hw]
    simp

end Cert.Moe

end
-- ==== Proof.Route.lean ====
module

public import Idealize.ShloMosaic.Lib.StableHlo
public import Idealize.ShloMosaic.PureOps
public import Idealize.ShloMosaic.Lib.IdealHost

/-
  The mathematics of the routing, over the extended reals and one token at a time: which group and which two
  experts a token goes to, the weight each expert gets, and the sums and minima by which the kernel finds them.
-/

@[expose] public section

noncomputable section

namespace Cert.Moe

open Idealize.ShloMosaic

/-! ## The first place of the largest value -/

/-- `i` is the first index at which `f` is largest. -/
structure FirstMax {n : ℕ} (f : Fin n → EReal) (i : Fin n) : Prop where
  le : ∀ j, f j ≤ f i
  lt : ∀ j, j < i → f j < f i

/-- `b` is the first index other than `a` at which `f` is largest among the indices other than `a`. -/
structure SecondMax {n : ℕ} (f : Fin n → EReal) (a b : Fin n) : Prop where
  ne : b ≠ a
  le : ∀ j, j ≠ a → f j ≤ f b
  lt : ∀ j, j ≠ a → j < b → f j < f b

/-- Among the indices of a nonempty set there is a first one at which `f` is largest. -/
theorem exists_first {n : ℕ} (f : Fin n → EReal) (S : Finset (Fin n)) (hS : S.Nonempty) :
    ∃ i ∈ S, (∀ j ∈ S, f j ≤ f i) ∧ ∀ j ∈ S, j < i → f j < f i := by
  classical
  obtain ⟨m, hm, hmax⟩ := S.exists_max_image f hS
  let T := S.filter fun j => f j = f m
  have hT : T.Nonempty := ⟨m, by simp [T, hm]⟩
  have hmem := T.min'_mem hT
  obtain ⟨hi, hfi⟩ := Finset.mem_filter.mp hmem
  refine ⟨T.min' hT, hi, fun j hj => by rw [hfi]; exact hmax j hj, fun j hj hlt => ?_⟩
  rw [hfi]
  refine lt_of_le_of_ne (hmax j hj) fun h => ?_
  exact absurd (T.min'_le j (Finset.mem_filter.mpr ⟨hj, h⟩)) (not_le.mpr hlt)

/-- Every row of values has a first place of its largest. -/
theorem exists_firstMax {n : ℕ} [NeZero n] (f : Fin n → EReal) : ∃ i, FirstMax f i := by
  obtain ⟨i, _, h1, h2⟩ := exists_first f Finset.univ ⟨0, Finset.mem_univ _⟩
  exact ⟨i, fun j => h1 j (Finset.mem_univ _), fun j => h2 j (Finset.mem_univ _)⟩

/-- Every row of eight values has a first place of its largest off one given place. -/
theorem exists_secondMax (f : Fin 8 → EReal) (a : Fin 8) : ∃ b, SecondMax f a b := by
  classical
  obtain ⟨i, hi, h1, h2⟩ := exists_first f (Finset.univ.erase a) (by
    refine ⟨a + 1, ?_⟩
    simp only [Finset.mem_erase, Finset.mem_univ, and_true]
    revert a; decide)
  exact ⟨i, (Finset.mem_erase.mp hi).1, fun j hj => h1 j (by simp [hj]), fun j hj => h2 j (by simp [hj])⟩

/-- What a token's routing is: group `s` is the first best of the four group logits, `a` the first best of that
    group's eight expert logits and `b` the first best of the other seven. -/
structure Routed (g : Fin 4 → EReal) (e : Fin 4 → Fin 8 → EReal) (s : Fin 4) (a b : Fin 8) : Prop where
  group : FirstMax g s
  first : FirstMax (e s) a
  second : SecondMax (e s) a b

/-- Every token is routed somewhere. -/
theorem exists_routed (g : Fin 4 → EReal) (e : Fin 4 → Fin 8 → EReal) : ∃ s a b, Routed g e s a b := by
  obtain ⟨s, hs⟩ := exists_firstMax g
  obtain ⟨a, ha⟩ := exists_firstMax (e s)
  obtain ⟨b, hb⟩ := exists_secondMax (e s) a
  exact ⟨s, a, b, hs, ha, hb⟩

/-- The chosen group's softmax weight `1 / Σ exp (g k − g s)`. -/
def groupWeight (g : Fin 4 → EReal) (s : Fin 4) : EReal := Ideal.div 1 (∑ k, Ideal.exp (g k - g s))

/-- The second expert's weight relative to the first's, `exp (e b − e a)`. -/
def ratio (e : Fin 8 → EReal) (a b : Fin 8) : EReal := Ideal.exp (e b - e a)

/-- The weight of expert `r` of the thirty-two for a token routed to experts `a`, `b` of group `s`: the two experts
    share the group's weight by their softmax, every other expert gets nothing. -/
def gate (g : Fin 4 → EReal) (e : Fin 4 → Fin 8 → EReal) (s : Fin 4) (a b : Fin 8) (r : ℕ) : EReal :=
  (if r = 8 * s.val + a.val then Ideal.div (groupWeight g s) (1 + ratio (e s) a b) else 0)
    + (if r = 8 * s.val + b.val then Ideal.div (groupWeight g s * ratio (e s) a b) (1 + ratio (e s) a b) else 0)

/-! ## Maxima and minima as the kernel finds them -/

/-- The running maximum from `−∞` is the value that is attained and not exceeded. -/
theorem fold_max_eq {ι : Type} [Fintype ι] (f : ι → EReal) (v : EReal) (hle : ∀ k, f k ≤ v) (hat : ∃ k, f k = v) :
    Finset.univ.fold max ⊥ f = v := by
  refine le_antisymm (Finset.fold_max_le v |>.mpr ⟨bot_le, fun k _ => hle k⟩) ?_
  obtain ⟨k, rfl⟩ := hat
  exact Finset.le_fold_max (f k) |>.mpr (Or.inr ⟨k, Finset.mem_univ _, le_rfl⟩)

/-- The running minimum from `+∞` is the value that is attained and not undercut. -/
theorem fold_min_eq {ι : Type} [Fintype ι] (f : ι → EReal) (v : EReal) (hle : ∀ k, v ≤ f k) (hat : ∃ k, f k = v) :
    Finset.univ.fold min ⊤ f = v := by
  refine le_antisymm ?_ (Finset.le_fold_min v |>.mpr ⟨le_top, fun k _ => hle k⟩)
  obtain ⟨k, rfl⟩ := hat
  exact Finset.fold_min_le (f k) |>.mpr (Or.inr ⟨k, Finset.mem_univ _, le_rfl⟩)

/-- Natural numbers keep their order and their difference among the extended reals. -/
theorem nat_le {a b : ℕ} (h : a ≤ b) : ((a : ℝ) : EReal) ≤ ((b : ℝ) : EReal) :=
  EReal.coe_le_coe_iff.mpr (Nat.cast_le.mpr h)

/-- Two natural numbers are the same extended real only if they are the same. -/
theorem nat_inj {a b : ℕ} : ((a : ℝ) : EReal) = ((b : ℝ) : EReal) ↔ a = b := by
  rw [EReal.coe_eq_coe_iff, Nat.cast_inj]

/-! ## Exponentials and quotients -/

theorem exp_pos_or_zero (x : EReal) : 0 ≤ Ideal.exp x := by
  induction x with
  | bot => exact le_rfl
  | top => exact le_top
  | coe r => exact EReal.coe_nonneg.mpr (Real.exp_pos r).le

theorem one_add_exp_ne_zero (x : EReal) : 1 + Ideal.exp x ≠ 0 := by
  have h : (0 : EReal) < 1 + Ideal.exp x :=
    lt_of_lt_of_le zero_lt_one (le_add_of_nonneg_right (exp_pos_or_zero x))
  exact ne_of_gt h

/-- A finite value minus itself has exponential one. -/
theorem exp_sub_self (x : EReal) (h1 : x ≠ ⊥) (h2 : x ≠ ⊤) : Ideal.exp (x - x) = 1 := by
  lift x to ℝ using ⟨h2, h1⟩
  rw [← EReal.coe_sub, sub_self]
  show ((Real.exp 0 : ℝ) : EReal) = 1
  rw [Real.exp_zero]; rfl

/-- Off zero a quotient is the product with the inverse. -/
theorem div_of_ne {x y : EReal} (h : y ≠ 0) : Ideal.div x y = x * y⁻¹ := if_neg h

/-- The two ways of writing `x · σ(x)`: `x / (1 + exp (0 − x))` and `x · (1 / (1 + exp (−x)))`. -/
theorem silu_eq (x : EReal) :
    Ideal.div x (1 + Ideal.exp (0 - x)) = x * Ideal.div 1 (1 + Ideal.exp (-x)) := by
  rw [zero_sub, div_of_ne (one_add_exp_ne_zero _), div_of_ne (one_add_exp_ne_zero _), one_mul]

/-! ## Sums of products with finite entries are finite -/

/-- Neither infinity. -/
def IsFin (x : EReal) : Prop := x ≠ ⊥ ∧ x ≠ ⊤

theorem IsFin.coe (r : ℝ) : IsFin (r : EReal) := ⟨EReal.coe_ne_bot r, EReal.coe_ne_top r⟩

theorem IsFin.exists {x : EReal} (h : IsFin x) : ∃ r : ℝ, x = r := by
  obtain ⟨h1, h2⟩ := h
  lift x to ℝ using ⟨h2, h1⟩
  exact ⟨x, rfl⟩

theorem IsFin.add {x y : EReal} (hx : IsFin x) (hy : IsFin y) : IsFin (x + y) := by
  obtain ⟨a, rfl⟩ := hx.exists; obtain ⟨b, rfl⟩ := hy.exists
  rw [← EReal.coe_add]; exact IsFin.coe _

theorem IsFin.mul {x y : EReal} (hx : IsFin x) (hy : IsFin y) : IsFin (x * y) := by
  obtain ⟨a, rfl⟩ := hx.exists; obtain ⟨b, rfl⟩ := hy.exists
  rw [← EReal.coe_mul]; exact IsFin.coe _

theorem IsFin.one : IsFin 1 := IsFin.coe 1

theorem IsFin.sum {ι : Type} (S : Finset ι) (f : ι → EReal) (h : ∀ i ∈ S, IsFin (f i)) : IsFin (∑ i ∈ S, f i) := by
  classical
  induction S using Finset.induction_on with
  | empty => exact IsFin.coe 0
  | insert a S ha ih =>
    rw [Finset.sum_insert ha]
    exact (h a (Finset.mem_insert_self a S)).add (ih fun i hi => h i (Finset.mem_insert_of_mem hi))

/-- A value whose absolute value is below `+∞` is finite. -/
theorem IsFin.of_abs_lt {x : EReal} (h : max x (-x) < ⊤) : IsFin x := by
  constructor
  · rintro rfl; simp at h
  · rintro rfl; simp at h

end Cert.Moe

end
-- ==== Proof.KRoute.lean ====
module

public import proofs.«01_k».proof.Proof.Gen.KernelIdeal.Value
public import Idealize.ShloMosaic.Lib.Pipeline.ValueKit
public import Idealize.ShloMosaic.Lib.Pointwise
public import proofs.«01_k».proof.Proof.Route

/-
  The kernel's routing, one token (one column of the 128-row logit block) at a time. Rows 0–31 hold the expert logits,
  rows 32–35 the group logits; the kernel finds the best group, then the best and second best expert of that group, by
  masked maxima over the rows and minima over the row numbers, and writes the two experts' weights.
-/

@[expose] public section

set_option maxRecDepth 16384

noncomputable section

namespace Cert.Moe

open Idealize.ShloMosaic Cert.KernelIdeal Cert.KernelIdeal.Gen

/-! ## The constants -/

theorem bits_half : Ideal.ofBits .f32 1056964608#32 = ((1 / 2 : ℝ) : EReal) := by
  simp [Ideal.ofBits, Ideal.ieee]; rw [← EReal.coe_mul]; norm_num
theorem bits_32 : Ideal.ofBits .f32 1107296256#32 = (((32 : ℕ) : ℝ) : EReal) := by
  simp [Ideal.ofBits, Ideal.ieee]; rw [← EReal.coe_mul]; norm_num
theorem bits_36 : Ideal.ofBits .f32 1108344832#32 = (((36 : ℕ) : ℝ) : EReal) := by
  simp [Ideal.ofBits, Ideal.ieee]; rw [← EReal.coe_mul]; norm_num
theorem bits_8 : Ideal.ofBits .f32 1090519040#32 = (((8 : ℕ) : ℝ) : EReal) := by
  simp [Ideal.ofBits, Ideal.ieee]; rw [← EReal.coe_mul]; norm_num
theorem bits_big : Ideal.ofBits .f32 1315859240#32 = (((1000000000 : ℕ) : ℝ) : EReal) := by
  simp [Ideal.ofBits, Ideal.ieee]; rw [← EReal.coe_pow, ← EReal.coe_mul]; norm_num
theorem bits_top : Ideal.ofBits .f32 2139095040#32 = ⊤ := by
  simp [Ideal.ofBits, Ideal.ieee]
theorem bits_bot : Ideal.ofBits .f32 4286578688#32 = ⊥ := by
  simp [Ideal.ofBits, Ideal.ieee]

/-- `1/2 < 1` and not `1/2 < 0`: the kernel's test of a zero-one mask. -/
theorem half_lt_ite (p : Prop) [Decidable p] : (((1 / 2 : ℝ) : EReal) < if p then 1 else 0) ↔ p := by
  by_cases hp : p
  · simp only [hp, if_true, iff_true]
    exact EReal.coe_lt_coe_iff.mpr (by norm_num : (1 / 2 : ℝ) < 1)
  · simp only [hp, if_false, iff_false, not_lt]
    exact EReal.coe_nonneg.mpr (by norm_num)

/-- The smallest of numbers `w r` over the rows with `P r`, a billion standing for the others. -/
theorem fold_first {ι : Type} [Fintype ι] (P : ι → Prop) [DecidablePred P] (w : ι → ℕ) (v : ℕ) (hv : v ≤ 1000000000)
    (hle : ∀ r, P r → v ≤ w r) (hat : ∃ r, P r ∧ w r = v) :
    Finset.univ.fold min ⊤ (fun r => if P r then (((w r : ℕ) : ℝ) : EReal) else (((1000000000 : ℕ) : ℝ) : EReal))
      = ((v : ℝ) : EReal) := by
  refine fold_min_eq _ _ (fun r => ?_) ?_
  · by_cases h : P r
    · simp only [h, if_true]; exact nat_le (hle r h)
    · simp only [h, if_false]; exact nat_le hv
  · obtain ⟨r, hr, hw⟩ := hat
    exact ⟨r, by simp only [hr, if_true, hw]⟩

/-! ## A column of logits -/

/-- The 128 logits of one token: row `8 s + k` the logit of expert `k` of group `s`, row `32 + k` the logit of group
    `k`, all of them finite. -/
structure Col (L : Fin 128 → EReal) (g : Fin 4 → EReal) (e : Fin 4 → Fin 8 → EReal) : Prop where
  g_eq : ∀ r : Fin 128, ∀ k : Fin 4, r.val = 32 + k.val → L r = g k
  e_eq : ∀ r : Fin 128, ∀ (s : Fin 4) (k : Fin 8), r.val = 8 * s.val + k.val → L r = e s k
  g_fin : ∀ k, IsFin (g k)
  e_fin : ∀ s k, IsFin (e s k)

/-- The group logits alone, `−∞` on the other rows. -/
def groupCol (L : Fin 128 → EReal) (r : Fin 128) : EReal := if 32 ≤ r.val ∧ r.val < 36 then L r else ⊥

/-- The logits of group `s`'s experts alone, `−∞` on the other rows. -/
def expertCol (L : Fin 128 → EReal) (s : Fin 4) (r : Fin 128) : EReal :=
  if 8 * s.val ≤ r.val ∧ r.val < 8 * s.val + 8 then L r else ⊥

/-- Those again with the best expert's row taken out. -/
def restCol (L : Fin 128 → EReal) (s : Fin 4) (a : Fin 8) (r : Fin 128) : EReal :=
  if r.val = 8 * s.val + a.val then ⊥ else expertCol L s r

section column
variable {L : Fin 128 → EReal} {g : Fin 4 → EReal} {e : Fin 4 → Fin 8 → EReal} {s : Fin 4} {a b : Fin 8}

theorem Col.group_cases (h : Col L g e) (r : Fin 128) :
    (∃ k : Fin 4, r.val = 32 + k.val ∧ groupCol L r = g k) ∨ groupCol L r = ⊥ := by
  by_cases hr : 32 ≤ r.val ∧ r.val < 36
  · exact Or.inl ⟨⟨r.val - 32, by omega⟩, by simp only; omega, by
      rw [groupCol, if_pos hr]; exact h.g_eq r _ (by simp only; omega)⟩
  · exact Or.inr (by rw [groupCol, if_neg hr])

theorem Col.expert_cases (h : Col L g e) (s : Fin 4) (r : Fin 128) :
    (∃ k : Fin 8, r.val = 8 * s.val + k.val ∧ expertCol L s r = e s k) ∨ expertCol L s r = ⊥ := by
  by_cases hr : 8 * s.val ≤ r.val ∧ r.val < 8 * s.val + 8
  · exact Or.inl ⟨⟨r.val - 8 * s.val, by omega⟩, by simp only; omega, by
      rw [expertCol, if_pos hr]; exact h.e_eq r s _ (by simp only; omega)⟩
  · exact Or.inr (by rw [expertCol, if_neg hr])

theorem Col.group_at (h : Col L g e) (k : Fin 4) : groupCol L ⟨32 + k.val, by omega⟩ = g k := by
  rw [groupCol, if_pos (by simp only; omega)]; exact h.g_eq _ k rfl

theorem Col.expert_at (h : Col L g e) (s : Fin 4) (k : Fin 8) :
    expertCol L s ⟨8 * s.val + k.val, by omega⟩ = e s k := by
  rw [expertCol, if_pos (by simp only; omega)]; exact h.e_eq _ s k rfl

theorem Col.rest_cases (h : Col L g e) (s : Fin 4) (a : Fin 8) (r : Fin 128) :
    (∃ k : Fin 8, k ≠ a ∧ r.val = 8 * s.val + k.val ∧ restCol L s a r = e s k) ∨ restCol L s a r = ⊥ := by
  by_cases hr : r.val = 8 * s.val + a.val
  · exact Or.inr (by rw [restCol, if_pos hr])
  · rcases h.expert_cases s r with ⟨k, hk, he⟩ | he
    · refine Or.inl ⟨k, fun hka => hr (by rw [hk, hka]), hk, by rw [restCol, if_neg hr, he]⟩
    · exact Or.inr (by rw [restCol, if_neg hr, he])

theorem Col.rest_at (h : Col L g e) (s : Fin 4) (a b : Fin 8) (hb : b ≠ a) :
    restCol L s a ⟨8 * s.val + b.val, by omega⟩ = e s b := by
  rw [restCol, if_neg (by simp only; intro hc; exact hb (Fin.ext (by omega))), h.expert_at]

/-- The largest group logit. -/
theorem Col.group_max (h : Col L g e) (hs : FirstMax g s) : Finset.univ.fold max ⊥ (groupCol L) = g s := by
  refine fold_max_eq _ _ (fun r => ?_) ⟨_, h.group_at s⟩
  rcases h.group_cases r with ⟨k, _, hk⟩ | hk
  · rw [hk]; exact hs.le k
  · rw [hk]; exact bot_le

/-- The first row holding it, counted from row 32, is the chosen group. -/
theorem Col.group_first (h : Col L g e) (hs : FirstMax g s) {hd : DecidablePred fun r => groupCol L r = g s} :
    Finset.univ.fold min ⊤ (fun r : Fin 128 => if groupCol L r = g s then ((r.val : ℝ) : EReal) - (((32 : ℕ) : ℝ) : EReal)
        else (((1000000000 : ℕ) : ℝ) : EReal)) = ((s.val : ℝ) : EReal) := by
  have hrow : ∀ r : Fin 128, groupCol L r = g s → ∃ k : Fin 4, r.val = 32 + k.val ∧ s ≤ k := fun r hr => by
    rcases h.group_cases r with ⟨k, hk, hg⟩ | hg
    · refine ⟨k, hk, ?_⟩
      by_contra hc
      have hlt := hs.lt k (not_le.mp hc)
      rw [← hg, hr] at hlt
      exact lt_irrefl _ hlt
    · exact absurd (hr.symm.trans hg) (h.g_fin s).1
  rw [← fold_first (fun r => groupCol L r = g s) (fun r : Fin 128 => r.val - 32) s.val (by omega) (fun r hr => by
    obtain ⟨k, hk, hsk⟩ := hrow r hr
    have := Fin.le_def.mp hsk
    omega) ⟨_, h.group_at s, by simp only; omega⟩]
  congr 1
  funext r
  refine ite_congr rfl (fun hr => ?_) fun _ => rfl
  obtain ⟨k, hk, _⟩ := hrow r hr
  rw [← EReal.coe_sub, Nat.cast_sub (by omega)]

/-- The best expert's logit. -/
theorem Col.expert_max (h : Col L g e) (ha : FirstMax (e s) a) : Finset.univ.fold max ⊥ (expertCol L s) = e s a := by
  refine fold_max_eq _ _ (fun r => ?_) ⟨_, h.expert_at s a⟩
  rcases h.expert_cases s r with ⟨k, _, hk⟩ | hk
  · rw [hk]; exact ha.le k
  · rw [hk]; exact bot_le

/-- The first row holding it. -/
theorem Col.expert_first (h : Col L g e) (ha : FirstMax (e s) a) {hd : DecidablePred fun r => expertCol L s r = e s a} :
    Finset.univ.fold min ⊤ (fun r : Fin 128 => if expertCol L s r = e s a then (((r.val : ℕ) : ℝ) : EReal)
        else (((1000000000 : ℕ) : ℝ) : EReal)) = (((8 * s.val + a.val : ℕ) : ℝ) : EReal) := by
  refine fold_first (fun r => expertCol L s r = e s a) (fun r => r.val) _ (by omega) (fun r hr => ?_)
    ⟨_, h.expert_at s a, rfl⟩
  rcases h.expert_cases s r with ⟨k, hk, hg⟩ | hg
  · have : a ≤ k := by
      by_contra hc
      have hlt := ha.lt k (not_le.mp hc)
      rw [← hg, hr] at hlt
      exact lt_irrefl _ hlt
    have := Fin.le_def.mp this
    omega
  · exact absurd (hr.symm.trans hg) (h.e_fin s a).1

/-- The second best expert's logit. -/
theorem Col.rest_max (h : Col L g e) (hb : SecondMax (e s) a b) : Finset.univ.fold max ⊥ (restCol L s a) = e s b := by
  refine fold_max_eq _ _ (fun r => ?_) ⟨_, h.rest_at s a b hb.ne⟩
  rcases h.rest_cases s a r with ⟨k, hka, _, hk⟩ | hk
  · rw [hk]; exact hb.le k hka
  · rw [hk]; exact bot_le

/-- The first row holding it. -/
theorem Col.rest_first (h : Col L g e) (hb : SecondMax (e s) a b) {hd : DecidablePred fun r => restCol L s a r = e s b} :
    Finset.univ.fold min ⊤ (fun r : Fin 128 => if restCol L s a r = e s b then (((r.val : ℕ) : ℝ) : EReal)
        else (((1000000000 : ℕ) : ℝ) : EReal)) = (((8 * s.val + b.val : ℕ) : ℝ) : EReal) := by
  refine fold_first (fun r => restCol L s a r = e s b) (fun r => r.val) _ (by omega) (fun r hr => ?_)
    ⟨_, h.rest_at s a b hb.ne, rfl⟩
  rcases h.rest_cases s a r with ⟨k, hka, hk, hg⟩ | hg
  · have : b ≤ k := by
      by_contra hc
      have hlt := hb.lt k hka (not_le.mp hc)
      rw [← hg, hr] at hlt
      exact lt_irrefl _ hlt
    have := Fin.le_def.mp this
    omega
  · exact absurd (hr.symm.trans hg) (h.e_fin s b).1

/-- The sum over the group rows of a function of the row's logit is the sum over the four groups. -/
theorem Col.group_sum (h : Col L g e) (f : EReal → EReal) :
    (∑ r : Fin 128, if 32 ≤ r.val ∧ r.val < 36 then f (groupCol L r) else 0) = ∑ k, f (g k) := by
  rw [← Finset.sum_filter]
  symm
  refine Finset.sum_bij (fun (k : Fin 4) _ => (⟨32 + k.val, by omega⟩ : Fin 128)) (fun k _ => ?_) (fun k _ k' _ hk => ?_)
    (fun r hr => ?_) (fun k _ => ?_)
  · simp only [Finset.mem_filter, Finset.mem_univ, true_and]; omega
  · simp only [Fin.mk.injEq] at hk; exact Fin.ext (by omega)
  · simp only [Finset.mem_filter, Finset.mem_univ, true_and] at hr
    exact ⟨⟨r.val - 32, by omega⟩, Finset.mem_univ _, Fin.ext (by simp only; omega)⟩
  · rw [h.group_at]

end column

/-! ## The kernel's payloads at a row and a token -/

/-- A select under a decided condition is an `if`. -/
theorem sel_if {α : Type} (p : Prop) [Decidable p] (x y : α) :
    Scalar.select (BitVec.ofBool (decide p)) x y = if p then x else y := by
  by_cases h : p <;> simp [Scalar.select, h]

theorem pay6_at (r : Fin 128) (n : Fin 1024) : (k0_pay6 (F := Ideal)) (ix2 r n) = ((r.val : ℝ) : EReal) := by
  pointwise [k0_pay6]
  have h : (BitVec.ofNat 32 r.val).toInt = (r.val : Int) := by
    rw [BitVec.toInt_eq_toNat_cond, BitVec.toNat_ofNat]
    have := r.isLt
    omega
  show (((BitVec.ofNat 32 r.val).toInt : ℝ) : EReal) = _
  rw [h, Int.cast_natCast]

theorem pay7_at (r : Fin 128) (n : Fin 1024) :
    (k0_pay7 (F := Ideal)) (ix2 r n) = BitVec.ofBool (decide (32 ≤ r.val ∧ r.val < 36)) := by
  pointwise [k0_pay7]
  rw [pay6_at, bits_half, bits_32, bits_36]
  congr 1
  rw [← ite_and, decide_eq_decide, half_lt_ite, EReal.coe_le_coe_iff, EReal.coe_lt_coe_iff, Nat.cast_le, Nat.cast_lt]

section payloads
variable (v126 : Vec Ideal S1x6x1024 .f32) (v128 : Vec Ideal S1024x1024 .f32) (v141 : Vec Ideal S128x1024 .f32)

/-- The kernel's logits of token `n`. -/
def logitCol (n : Fin 1024) (r : Fin 128) : EReal := k0_pay5 v126 v128 v141 (ix2 r n)

theorem pay8_at (r : Fin 128) (n : Fin 1024) :
    k0_pay8 v126 v128 v141 (ix2 r n) = groupCol (logitCol v126 v128 v141 n) r := by
  pointwise [k0_pay8]
  rw [pay7_at, bits_bot, sel_if]
  rfl

theorem pay11_at (r : Fin 128) (n : Fin 1024) :
    (k0_pay11 (F := Ideal)) (ix2 r n) = ((r.val : ℝ) : EReal) - (((32 : ℕ) : ℝ) : EReal) := by
  pointwise [k0_pay11]
  rw [pay6_at, bits_32]

variable {g : Fin 4 → EReal} {e : Fin 4 → Fin 8 → EReal} {s : Fin 4} {a b : Fin 8} {n : Fin 1024}

theorem pay9_at (h : Col (logitCol v126 v128 v141 n) g e) (hs : FirstMax g s) :
    k0_pay9 v126 v128 v141 (ix2 0 n) = g s := by
  pointwise [k0_pay9]
  simp only [pay8_at, bits_bot]
  exact h.group_max hs

theorem pay10_at (h : Col (logitCol v126 v128 v141 n) g e) (hs : FirstMax g s) (r : Fin 128) :
    k0_pay10 v126 v128 v141 (ix2 r n) = BitVec.ofBool (decide (groupCol (logitCol v126 v128 v141 n) r = g s)) := by
  pointwise [k0_pay10]
  rw [pay8_at, pay9_at v126 v128 v141 h hs]

theorem pay12_at (h : Col (logitCol v126 v128 v141 n) g e) (hs : FirstMax g s) :
    k0_pay12 (F := Ideal) (k0_pay7 (F := Ideal)) (k0_pay8 v126 v128 v141) (k0_pay9 v126 v128 v141) (ix2 0 n)
      = groupWeight g s := by
  pointwise [k0_pay12]
  simp only [pay7_at, pay8_at, pay9_at v126 v128 v141 h hs, sel_if]
  exact congrArg (Ideal.div 1) (h.group_sum fun x => Ideal.exp (x - g s))

/-- The expert logits as the kernel masks them. -/
abbrev masked : FVec Ideal S128x1024 .f32 :=
  k0_pay13 (k0_pay5 v126 v128 v141) (k0_pay6 (F := Ideal)) (k0_pay10 v126 v128 v141) (k0_pay11 (F := Ideal))

theorem pay13_at (h : Col (logitCol v126 v128 v141 n) g e) (hs : FirstMax g s) (r : Fin 128) :
    masked v126 v128 v141 (ix2 r n) = expertCol (logitCol v126 v128 v141 n) s r := by
  pointwise [masked, k0_pay13]
  simp only [pay6_at, pay10_at v126 v128 v141 h hs, pay11_at, sel_if, bits_half, bits_8, bits_top, bits_bot, bits_big]
  rw [h.group_first hs]
  simp only [← EReal.coe_mul, ← EReal.coe_add, EReal.coe_le_coe_iff, EReal.coe_lt_coe_iff]
  simp only [← ite_and, half_lt_ite]
  unfold expertCol logitCol
  refine if_congr ?_ rfl rfl
  norm_cast
  rw [mul_comm]

theorem pay14_at (h : Col (logitCol v126 v128 v141 n) g e) (hr : Routed g e s a b) :
    k0_pay14 (k0_pay5 v126 v128 v141) (k0_pay6 (F := Ideal)) (k0_pay10 v126 v128 v141) (k0_pay11 (F := Ideal)) (ix2 0 n)
      = e s a := by
  pointwise [k0_pay14]
  have := fun r => pay13_at v126 v128 v141 h hr.group r
  simp only [masked] at this
  simp only [this, bits_bot]
  exact h.expert_max hr.first

theorem pay15_at (h : Col (logitCol v126 v128 v141 n) g e) (hr : Routed g e s a b) :
    k0_pay15 (k0_pay5 v126 v128 v141) (k0_pay6 (F := Ideal)) (k0_pay10 v126 v128 v141) (k0_pay11 (F := Ideal)) (ix2 0 n)
      = (((8 * s.val + a.val : ℕ) : ℝ) : EReal) := by
  pointwise [k0_pay15]
  have := fun r => pay13_at v126 v128 v141 h hr.group r
  simp only [masked] at this
  simp only [this, pay14_at v126 v128 v141 h hr, pay6_at, bits_top, bits_big]
  exact h.expert_first hr.first

theorem pay16_at (h : Col (logitCol v126 v128 v141 n) g e) (hr : Routed g e s a b) (r : Fin 128) :
    k0_pay16 (k0_pay5 v126 v128 v141) (k0_pay6 (F := Ideal)) (k0_pay10 v126 v128 v141) (k0_pay11 (F := Ideal)) (ix2 r n)
      = restCol (logitCol v126 v128 v141 n) s a r := by
  pointwise [k0_pay16]
  have := fun r => pay13_at v126 v128 v141 h hr.group r
  simp only [masked] at this
  simp only [this, pay15_at v126 v128 v141 h hr, pay6_at, bits_bot, nat_inj]
  rfl

theorem pay17_at (h : Col (logitCol v126 v128 v141 n) g e) (hr : Routed g e s a b) :
    k0_pay17 (k0_pay5 v126 v128 v141) (k0_pay6 (F := Ideal)) (k0_pay10 v126 v128 v141) (k0_pay11 (F := Ideal)) (ix1 n)
      = e s b := by
  pointwise [k0_pay17]
  simp only [pay16_at v126 v128 v141 h hr, bits_bot]
  exact h.rest_max hr.second

/-- The weights the kernel writes for token `n`: those of the routing, on all 128 rows. -/
theorem pay18_at (h : Col (logitCol v126 v128 v141 n) g e) (hr : Routed g e s a b) (r : Fin 128) :
    k0_pay18 (k0_pay6 (F := Ideal))
      (k0_pay12 (F := Ideal) (k0_pay7 (F := Ideal)) (k0_pay8 v126 v128 v141) (k0_pay9 v126 v128 v141))
      (k0_pay14 (k0_pay5 v126 v128 v141) (k0_pay6 (F := Ideal)) (k0_pay10 v126 v128 v141) (k0_pay11 (F := Ideal)))
      (k0_pay15 (k0_pay5 v126 v128 v141) (k0_pay6 (F := Ideal)) (k0_pay10 v126 v128 v141) (k0_pay11 (F := Ideal)))
      (k0_pay16 (k0_pay5 v126 v128 v141) (k0_pay6 (F := Ideal)) (k0_pay10 v126 v128 v141) (k0_pay11 (F := Ideal)))
      (k0_pay17 (k0_pay5 v126 v128 v141) (k0_pay6 (F := Ideal)) (k0_pay10 v126 v128 v141) (k0_pay11 (F := Ideal)))
      (ix2 n r) = gate g e s a b r.val := by
  pointwise [k0_pay18]
  simp only [pay6_at, pay12_at v126 v128 v141 h hr.group, pay14_at v126 v128 v141 h hr, pay15_at v126 v128 v141 h hr,
    pay16_at v126 v128 v141 h hr, pay17_at v126 v128 v141 h hr, bits_big, bits_top, nat_inj]
  rw [h.rest_first hr.second]
  simp only [nat_inj]
  rfl

end payloads

end Cert.Moe

end
-- ==== Proof.Spec.lean ====
module

public import proofs.«01_k».proof.Proof.Route

/-
  What the layer computes for one token, over plain functions: the hidden row, one expert's output entry, and the
  normalised sum.
-/

@[expose] public section

noncomputable section

namespace Cert.Moe

open Idealize.ShloMosaic

/-- The modulated token: `x (1 + scale) + shift`. -/
def hidden (x scale shift : Fin 1024 → EReal) (d : Fin 1024) : EReal := x d * (1 + scale d) + shift d

/-- One entry of an expert's output row, weighted by `γ`: `wg` and `wu` are the expert's input matrices, `wd` the column
    of its output matrix. -/
def expert (h : Fin 1024 → EReal) (wg wu : Fin 1024 → Fin 256 → EReal) (wd : Fin 256 → EReal) (γ : EReal) : EReal :=
  ∑ f, (Ideal.div (∑ d, h d * wg d f) (1 + Ideal.exp (0 - ∑ d, h d * wg d f)) * ∑ d, h d * wu d f) * γ * wd f

/-- The sum over the experts, each with its own weight `γ E`. -/
def mix (h : Fin 1024 → EReal) (wg wu : Fin 32 → Fin 1024 → Fin 256 → EReal) (wd : Fin 32 → Fin 256 → EReal)
    (γ : Fin 32 → EReal) : EReal :=
  ∑ E, expert h (wg E) (wu E) (wd E) (γ E)

/-- The row mean, the sum divided by the constant 1024. -/
def mean (z : Fin 1024 → EReal) : EReal := Ideal.div (∑ d, z d) (Ideal.ofBits FTy.f32 1149239296#32)

/-- The layer norm of a row at an entry. -/
def norm (z : Fin 1024 → EReal) (w b : EReal) (c : Fin 1024) : EReal :=
  (z c - mean z) * Ideal.rsqrt (mean (fun d => (z d - mean z) * (z d - mean z)) + Ideal.ofBits FTy.f32 925353388#32) * w
    + b

/-- The row that is normalised: the scaled token plus the gated sum of the experts. -/
def residual (x gate2 y : Fin 1024 → EReal) (d : Fin 1024) : EReal :=
  Ideal.ofBits FTy.f32 1068827891#32 * x d + gate2 d * y d

end Cert.Moe

end
-- ==== Proof.KBlock.lean ====
module

public import proofs.«01_k».proof.Proof.Points
public import proofs.«01_k».proof.Proof.KRoute
public import proofs.«01_k».proof.Proof.Spec

/-
  The kernel's blocks at an index: the hidden rows, the logits, the weights, one grid point's four experts, the stored
  block.
-/

@[expose] public section

set_option maxRecDepth 16384

noncomputable section

namespace Cert.Moe

open Idealize.ShloMosaic Idealize.ShloMosaic.TcCoe Idealize.SL.Sem Cert.KernelIdeal Cert.KernelIdeal.Gen

/-! ## The weight a column of the widened block reads -/

/-- The quotient of a column number by 256, as the kernel computes it on words. -/
def colGroup (c : ℕ) : BitVec 32 :=
  Scalar.select
    (IntOp.andi
      (IntOp.cmpi CmpIPredicate.ne
        (IntOp.subi (BitVec.setWidth 32 (IntOp.cmpi CmpIPredicate.sgt (BitVec.ofNat 32 c) 0#32))
          (BitVec.setWidth 32 (IntOp.cmpi CmpIPredicate.slt (BitVec.ofNat 32 c) 0#32)))
        (Scalar.subi (Scalar.extui (Scalar.cmpi CmpIPredicate.sgt 256#32 0#32))
          (Scalar.extui (Scalar.cmpi CmpIPredicate.slt 256#32 0#32))))
      (IntOp.cmpi CmpIPredicate.ne (IntOp.remsi ArithUnit.vector (BitVec.ofNat 32 c) 256#32) 0#32))
    (IntOp.subi (IntOp.divsi ArithUnit.vector (BitVec.ofNat 32 c) 256#32) 1#32)
    (IntOp.divsi ArithUnit.vector (BitVec.ofNat 32 c) 256#32)

theorem colGroup_eq : ∀ c : Fin 1024, colGroup c.val = BitVec.ofNat 32 (c.val / 256) := by decide +kernel

theorem expertWord : ∀ (j : Fin 8) (q : Fin 4),
    IntOp.addi (Scalar.muli (BitVec.ofNat 32 j.val) 4#32) (BitVec.ofNat 32 q.val) = BitVec.ofNat 32 (4 * j.val + q.val) := by
  decide +kernel

theorem word_eq_bit : ∀ r q : Fin 128,
    IntOp.cmpi CmpIPredicate.eq (BitVec.ofNat 32 r.val) (BitVec.ofNat 32 q.val) = BitVec.ofBool (decide (r = q)) := by
  decide +kernel

/-- Column `256 q + f` of the widened weights holds the weight of the point's expert `q`. -/
theorem pay20_at (i : grid0.Coords) (G : Vec Ideal S1024x128 .f32) (n c : Fin 1024) (j : Fin 8) (q : Fin 4)
    (hj : (i 1).val = j.val) (hq : c.val / 256 = q.val) :
    k0_pay20 i G (ix2 n c) = G (ix2 n ⟨4 * j.val + q.val, by omega⟩) := by
  pointwise [k0_pay20]
  have hw := colGroup_eq c
  simp only [colGroup] at hw
  rw [hw, hj, hq, expertWord]
  have hb := fun r : Fin 128 => word_eq_bit r ⟨4 * j.val + q.val, by omega⟩
  simp only at hb
  simp only [hb, sel_if]
  rw [Finset.sum_ite_eq' Finset.univ _ fun r => G (ix2 n r)]
  simp

/-! ## One grid point's experts -/

variable (H : Vec Ideal S1024x1024 .bf16) (G : Vec Ideal S1024x128 .f32) (A : Vec Ideal S1024x1024 .f32)
  (wg wu : Vec Ideal S4x1024x256 .bf16) (wd : Vec Ideal S4x256x1024 .bf16)

/-- Expert `q` of a point's four, at an entry: `γ` its weight. -/
def pointExpert (q : Fin 4) (γ : EReal) (n c : Fin 1024) : EReal :=
  expert (fun d => H (ix2 n d)) (fun d f => wg (ix3 q d f)) (fun d f => wu (ix3 q d f)) (fun f => wd (ix3 q f c)) γ

/-- A point adds its four experts to the accumulator. -/
theorem accStep_at (i : grid0.Coords) (j : Fin 8) (hj : (i 1).val = j.val) (n c : Fin 1024) :
    accStep i H G A wg wu wd (ix2 n c)
      = A (ix2 n c) + ∑ q : Fin 4, pointExpert H wg wu wd q (G (ix2 n ⟨4 * j.val + q.val, by omega⟩)) n c := by
  rw [Fin.sum_univ_four, ← add_assoc, ← add_assoc, ← add_assoc]
  pointwise [accStep, k0_pay1, k0_pay21, k0_pay22, k0_pay23, k0_pay24, k0_pay25, k0_pay26, k0_pay27, inSlice0, inSlice1,
    inSlice2, inSlice3, outSlice0, outSlice1, outSlice2, outSlice3]
  have h0 := fun f : Fin 256 => pay20_at i G n ⟨f.val, by omega⟩ j 0 hj (by simp <;> omega)
  have h1 := fun f : Fin 256 => pay20_at i G n ⟨256 + f.val, by omega⟩ j 1 hj (by simp <;> omega)
  have h2 := fun f : Fin 256 => pay20_at i G n ⟨512 + f.val, by omega⟩ j 2 hj (by simp <;> omega)
  have h3 := fun f : Fin 256 => pay20_at i G n ⟨768 + f.val, by omega⟩ j 3 hj (by simp <;> omega)
  simp only [h0, h1, h2, h3]
  rfl

/-! ## The hidden rows, the logits and the stored block -/

variable (M : Vec Ideal S1x6x1024 .f32) (X : Vec Ideal S1024x1024 .f32) (W : Vec Ideal S128x1024 .f32)

/-- Row `k` of the modulation block. -/
abbrev modRow (k : Fin 6) (d : Fin 1024) : EReal := M (ix3 0 k d)

theorem hiddenBlock_at (n d : Fin 1024) :
    hiddenBlock M X (ix2 n d) = hidden (fun d => X (ix2 n d)) (modRow M 4) (modRow M 3) d := by
  pointwise [hiddenBlock, k0_pay4, k0_pay3]
  rfl

theorem logitCol_at (n : Fin 1024) (r : Fin 128) :
    logitCol M X W n r = ∑ d, W (ix2 r d) * hidden (fun d => X (ix2 n d)) (modRow M 4) (modRow M 3) d := by
  show k0_pay5 M X W (ix2 r n) = _
  pointwise [k0_pay5, k0_pay3]
  rfl

theorem gatesBlock_at {n : Fin 1024} {g : Fin 4 → EReal} {e : Fin 4 → Fin 8 → EReal} {s : Fin 4} {a b : Fin 8}
    (h : Col (logitCol M X W n) g e) (hr : Routed g e s a b) (r : Fin 128) :
    gatesBlock M X W (ix2 n r) = gate g e s a b r.val :=
  pay18_at M X W h hr r

theorem zeroBlock_at (n c : Fin 1024) : (k0_pay19 (F := Ideal)) (ix2 n c) = 0 := by
  pointwise [k0_pay19]

theorem outBlock_at (w b : Vec Ideal S1x1024 .f32) (n c : Fin 1024) :
    k0_pay2 M X A w b (ix2 n c)
      = norm (residual (fun d => X (ix2 n d)) (modRow M 5) (fun d => A (ix2 n d))) (w (ix2 0 c)) (b (ix2 0 c)) c := by
  pointwise [k0_pay2]
  rfl

end Cert.Moe

end
-- ==== Proof.Layer.lean ====
module

public import proofs.«01_k».proof.Proof.Spec

/-
  The layer over plain functions of its nine arguments, for every token: its hidden row, its routing logits, its
  mixture of experts and its result. `s n`, `a n`, `b n` name token `n`'s group, best and second best expert.
-/

@[expose] public section

noncomputable section

namespace Cert.Moe

open Idealize.ShloMosaic

/-- The layer's arguments: the `N` tokens, each token's six modulation rows, the two routers, the experts' matrices, the
    norm's weight and bias. -/
structure Layer (N : ℕ) where
  x : Fin N → Fin 1024 → EReal
  mod : Fin N → Fin 6 → Fin 1024 → EReal
  group : Fin 1024 → Fin 4 → EReal
  router : Fin 1024 → Fin 32 → EReal
  wg : Fin 32 → Fin 1024 → Fin 256 → EReal
  wu : Fin 32 → Fin 1024 → Fin 256 → EReal
  wd : Fin 32 → Fin 256 → Fin 1024 → EReal
  lnw : Fin 1024 → EReal
  lnb : Fin 1024 → EReal

namespace Layer

variable {N : ℕ} (L : Layer N)

/-- Token `n`'s hidden row. -/
def hid (n : Fin N) : Fin 1024 → EReal := hidden (L.x n) (L.mod n 4) (L.mod n 3)

/-- Token `n`'s group logits. -/
def glog (n : Fin N) (k : Fin 4) : EReal := ∑ d, L.hid n d * L.group d k

/-- Token `n`'s expert logits, group by group. -/
def elog (n : Fin N) (s : Fin 4) (k : Fin 8) : EReal := ∑ d, L.hid n d * L.router d ⟨8 * s.val + k.val, by omega⟩

/-- Every routing logit is finite. -/
structure FiniteLogits : Prop where
  group : ∀ n k, IsFin (L.glog n k)
  expert : ∀ n s k, IsFin (L.elog n s k)

variable (s : Fin N → Fin 4) (a b : Fin N → Fin 8)

/-- The tokens' choices are those of the routing. -/
def Choice : Prop := ∀ n, Routed (L.glog n) (L.elog n) (s n) (a n) (b n)

/-- The weight of expert `r` for token `n`. -/
def weight (n : Fin N) (r : ℕ) : EReal := gate (L.glog n) (L.elog n) (s n) (a n) (b n) r

/-- Token `n`'s mixture. -/
def mixture (n : Fin N) (c : Fin 1024) : EReal :=
  mix (L.hid n) L.wg L.wu (fun E f => L.wd E f c) fun E => L.weight s a b n E.val

/-- Token `n`'s result. -/
def result (n : Fin N) (c : Fin 1024) : EReal :=
  norm (residual (L.x n) (L.mod n 5) (L.mixture s a b n)) (L.lnw c) (L.lnb c) c

/-- Expert `E`'s summand of the mixture, 0 past the last expert. -/
def part (n : Fin N) (c : Fin 1024) (E : ℕ) : EReal :=
  if h : E < 32 then
    expert (L.hid n) (L.wg ⟨E, h⟩) (L.wu ⟨E, h⟩) (fun f => L.wd ⟨E, h⟩ f c) (L.weight s a b n E)
  else 0

/-- The mixture is the sum of its 32 summands, in the order of the experts. -/
theorem mixture_eq (n : Fin N) (c : Fin 1024) :
    L.mixture s a b n c = ∑ E ∈ Finset.range 32, L.part s a b n c E := by
  rw [mixture, mix, Finset.sum_range]
  refine Finset.sum_congr rfl fun E _ => ?_
  rw [part, dif_pos E.isLt]

/-- Four more experts. -/
theorem range_four (f : ℕ → EReal) (j : ℕ) :
    ∑ E ∈ Finset.range (4 * (j + 1)), f E = ∑ E ∈ Finset.range (4 * j), f E + ∑ q : Fin 4, f (4 * j + q.val) := by
  rw [Nat.mul_succ, Finset.sum_range_add f (4 * j) 4, Finset.sum_range fun q => f (4 * j + q)]

theorem exists_choice (h : L.FiniteLogits) : ∃ s a b, L.Choice s a b := by
  have := fun n => exists_routed (L.glog n) (L.elog n)
  choose s a b h using this
  exact ⟨s, a, b, h⟩

end Layer

end Cert.Moe

end
-- ==== Proof.Sweep.lean ====
module

public import proofs.«01_k».proof.Proof.KBlock
public import proofs.«01_k».proof.Proof.Layer

/-
  The run of the experts' kernel over its grid, for any number of tokens. By induction over the grid points: after point
  `t` the two held scratch arrays are the hidden rows and the weights of token block `t / 8`, and the accumulator is the
  sum over the experts of the groups up to `t % 8`. At the last group the block written is the layer's result.
-/

@[expose] public section

set_option maxRecDepth 16384

noncomputable section

namespace Cert.Moe

open Idealize.ShloMosaic Cert.KernelIdeal Cert.KernelIdeal.Gen

/-- The blocks of one grid point: the tokens, the modulation rows, the router matrix, the four experts' weights, the
    norm's weight and bias. -/
structure PointBlocks where
  X : Vec Ideal S1024x1024 .f32
  M : Vec Ideal S1x6x1024 .f32
  W : Vec Ideal S128x1024 .f32
  wg : Vec Ideal S4x1024x256 .bf16
  wu : Vec Ideal S4x1024x256 .bf16
  wd : Vec Ideal S4x256x1024 .bf16
  lnw : Vec Ideal S1x1024 .f32
  lnb : Vec Ideal S1x1024 .f32

/-- What a grid point leaves behind: the output block and the three scratch arrays. -/
abbrev PointState := Vec Ideal S1024x1024 .f32 × Vec Ideal S1024x1024 .bf16 × Vec Ideal S1024x128 .f32
  × Vec Ideal S1024x1024 .f32

/-- The points' blocks are those of the layer `L`: point `t` is token block `t / 8` and expert group `t % 8`. -/
structure BlocksOf {N K : ℕ} (L : Layer N) (tok : Fin K → Fin 1024 → Fin N) (B : Fin K → PointBlocks) : Prop where
  tok_val : ∀ t r, (tok t r).val = 1024 * (t.val / 8) + r.val
  x : ∀ t r d, (B t).X (ix2 r d) = L.x (tok t r) d
  mod : ∀ t r k d, (B t).M (ix3 0 k d) = L.mod (tok t r) k d
  group : ∀ t (k : Fin 4) d, (B t).W (ix2 ⟨32 + k.val, by omega⟩ d) = L.group d k
  router : ∀ t (E : Fin 32) d, (B t).W (ix2 ⟨E.val, by omega⟩ d) = L.router d E
  wg : ∀ t (q : Fin 4) d f, (B t).wg (ix3 q d f) = L.wg ⟨4 * (t.val % 8) + q.val, by omega⟩ d f
  wu : ∀ t (q : Fin 4) d f, (B t).wu (ix3 q d f) = L.wu ⟨4 * (t.val % 8) + q.val, by omega⟩ d f
  wd : ∀ t (q : Fin 4) f d, (B t).wd (ix3 q f d) = L.wd ⟨4 * (t.val % 8) + q.val, by omega⟩ f d
  lnw : ∀ t d, (B t).lnw (ix2 0 d) = L.lnw d
  lnb : ∀ t d, (B t).lnb (ix2 0 d) = L.lnb d

/-- How the points run: the first of a token block's eight computes the hidden rows and the weights, every point adds its
    four experts, the last one stores. `co t` is a grid coordinate whose second part is the point's expert group. -/
structure Swept {K : ℕ} (B : Fin K → PointBlocks) (co : Fin K → grid0.Coords) (st : ∀ n, n < K → PointState) : Prop where
  coord : ∀ t, ((co t) 1).val = t.val % 8
  first : ∀ n (h : n < K), n % 8 = 0 → (st n h).2
    = (hiddenBlock (B ⟨n, h⟩).M (B ⟨n, h⟩).X, gatesBlock (B ⟨n, h⟩).M (B ⟨n, h⟩).X (B ⟨n, h⟩).W,
        accStep (co ⟨n, h⟩) (hiddenBlock (B ⟨n, h⟩).M (B ⟨n, h⟩).X) (gatesBlock (B ⟨n, h⟩).M (B ⟨n, h⟩).X (B ⟨n, h⟩).W)
          (k0_pay19 (F := Ideal)) (B ⟨n, h⟩).wg (B ⟨n, h⟩).wu (B ⟨n, h⟩).wd)
  next : ∀ n (h : n + 1 < K), ¬ (n + 1) % 8 = 0 → (st (n + 1) h).2
    = ((st n (Nat.lt_of_succ_lt h)).2.1, (st n (Nat.lt_of_succ_lt h)).2.2.1,
        accStep (co ⟨n + 1, h⟩) (st n (Nat.lt_of_succ_lt h)).2.1 (st n (Nat.lt_of_succ_lt h)).2.2.1
          (st n (Nat.lt_of_succ_lt h)).2.2.2 (B ⟨n + 1, h⟩).wg (B ⟨n + 1, h⟩).wu (B ⟨n + 1, h⟩).wd)
  last : ∀ n (h : n < K), n % 8 = 7 → (st n h).1
    = k0_pay2 (B ⟨n, h⟩).M (B ⟨n, h⟩).X (st n h).2.2.2 (B ⟨n, h⟩).lnw (B ⟨n, h⟩).lnb

section sweep
variable {N K : ℕ} {L : Layer N} {tok : Fin K → Fin 1024 → Fin N} {B : Fin K → PointBlocks}

theorem BlocksOf.hidden (hB : BlocksOf L tok B) (t : Fin K) (r : Fin 1024) :
    hidden (fun d => (B t).X (ix2 r d)) (modRow (B t).M 4) (modRow (B t).M 3) = L.hid (tok t r) := by
  have h4 : modRow (B t).M 4 = L.mod (tok t r) 4 := funext fun d => hB.mod t r 4 d
  have h3 : modRow (B t).M 3 = L.mod (tok t r) 3 := funext fun d => hB.mod t r 3 d
  have hx : (fun d => (B t).X (ix2 r d)) = L.x (tok t r) := funext fun d => hB.x t r d
  rw [h4, h3, hx]
  rfl

/-- A token's column of logits in the block: its expert logits, then its group logits. -/
theorem BlocksOf.col (hB : BlocksOf L tok B) (hf : L.FiniteLogits) (t : Fin K) (r : Fin 1024) :
    Col (logitCol (B t).M (B t).X (B t).W r) (L.glog (tok t r)) (L.elog (tok t r)) where
  g_eq q k hq := by
    rw [logitCol_at]
    refine Finset.sum_congr rfl fun d _ => ?_
    rw [hB.hidden, mul_comm, show q = ⟨32 + k.val, by omega⟩ from Fin.ext hq]
    exact congrArg _ (hB.group t k d)
  e_eq q s k hq := by
    rw [logitCol_at]
    refine Finset.sum_congr rfl fun d _ => ?_
    rw [hB.hidden, mul_comm, show q = ⟨(⟨8 * s.val + k.val, by omega⟩ : Fin 32).val, by simp only; omega⟩ from Fin.ext hq]
    exact congrArg _ (hB.router t ⟨8 * s.val + k.val, by omega⟩ d)
  g_fin k := hf.group _ k
  e_fin s k := hf.expert _ s k

variable (s : Fin N → Fin 4) (a b : Fin N → Fin 8)

/-- What the scratch arrays hold after point `t`. -/
structure Held (L : Layer N) (tok : Fin K → Fin 1024 → Fin N) (t : Fin K)
    (S : Vec Ideal S1024x1024 .bf16 × Vec Ideal S1024x128 .f32 × Vec Ideal S1024x1024 .f32) : Prop where
  hid : ∀ r d, S.1 (ix2 r d) = L.hid (tok t r) d
  weight : ∀ r (q : Fin 128), S.2.1 (ix2 r q) = L.weight s a b (tok t r) q.val
  acc : ∀ r d, S.2.2 (ix2 r d) = ∑ E ∈ Finset.range (4 * (t.val % 8 + 1)), L.part s a b (tok t r) d E

/-- A point's four experts, over scratch arrays that hold the block's hidden rows and weights. -/
theorem BlocksOf.accStep (hB : BlocksOf L tok B) (i : grid0.Coords) (t : Fin K) (hi : (i 1).val = t.val % 8)
    (H : Vec Ideal S1024x1024 .bf16) (G : Vec Ideal S1024x128 .f32)
    (A : Vec Ideal S1024x1024 .f32) (hH : ∀ r d, H (ix2 r d) = L.hid (tok t r) d)
    (hG : ∀ r (q : Fin 128), G (ix2 r q) = L.weight s a b (tok t r) q.val)
    (hA : ∀ r d, A (ix2 r d) = ∑ E ∈ Finset.range (4 * (t.val % 8)), L.part s a b (tok t r) d E) (r d : Fin 1024) :
    accStep i H G A (B t).wg (B t).wu (B t).wd (ix2 r d)
      = ∑ E ∈ Finset.range (4 * (t.val % 8 + 1)), L.part s a b (tok t r) d E := by
  have hj : t.val % 8 < 8 := Nat.mod_lt _ (by decide)
  rw [accStep_at H G A _ _ _ i ⟨t.val % 8, hj⟩ hi, hA, Layer.range_four]
  refine congrArg (_ + ·) (Finset.sum_congr rfl fun q _ => ?_)
  rw [Layer.part, dif_pos (by omega), hG]
  have h1 : (fun d => H (ix2 r d)) = L.hid (tok t r) := funext fun d => hH r d
  rw [pointExpert, h1]
  have h3 : (fun d f => (B t).wg (ix3 q d f)) = L.wg ⟨4 * (t.val % 8) + q.val, by omega⟩ :=
    funext fun d => funext fun f => hB.wg t q d f
  have h4 : (fun d f => (B t).wu (ix3 q d f)) = L.wu ⟨4 * (t.val % 8) + q.val, by omega⟩ :=
    funext fun d => funext fun f => hB.wu t q d f
  have h5 : (fun f => (B t).wd (ix3 q f d)) = fun f => L.wd ⟨4 * (t.val % 8) + q.val, by omega⟩ f d :=
    funext fun f => hB.wd t q f d
  rw [← h3, ← h4, ← h5]

variable {co : Fin K → grid0.Coords} {st : ∀ n, n < K → PointState} {s a b}

/-- The scratch arrays after every point. -/
theorem Swept.held (hS : Swept B co st) (hB : BlocksOf L tok B) (hf : L.FiniteLogits) (hc : L.Choice s a b) (n : ℕ)
    (hn : n < K) : Held s a b L tok ⟨n, hn⟩ (st n hn).2 := by
  have hfirst : ∀ n (hn : n < K), n % 8 = 0 → Held s a b L tok ⟨n, hn⟩ (st n hn).2 := fun n hn h0 => by
    rw [hS.first n hn h0]
    have hH : ∀ r d, hiddenBlock (B ⟨n, hn⟩).M (B ⟨n, hn⟩).X (ix2 r d) = L.hid (tok ⟨n, hn⟩ r) d := fun r d => by
      rw [hiddenBlock_at, hB.hidden]
    have hG : ∀ r (q : Fin 128), gatesBlock (B ⟨n, hn⟩).M (B ⟨n, hn⟩).X (B ⟨n, hn⟩).W (ix2 r q)
        = L.weight s a b (tok ⟨n, hn⟩ r) q.val := fun r q => gatesBlock_at _ _ _ (hB.col hf ⟨n, hn⟩ r) (hc _) q
    exact ⟨hH, hG, hB.accStep s a b _ ⟨n, hn⟩ (hS.coord _) _ _ _ hH hG fun r d => by rw [zeroBlock_at, h0]; simp⟩
  induction n with
  | zero => exact hfirst 0 hn rfl
  | succ n ih =>
    by_cases h0 : (n + 1) % 8 = 0
    · exact hfirst (n + 1) hn h0
    · have h := ih (Nat.lt_of_succ_lt hn)
      rw [hS.next n hn h0]
      have hr : ∀ r, tok ⟨n, Nat.lt_of_succ_lt hn⟩ r = tok ⟨n + 1, hn⟩ r := fun r =>
        Fin.ext (by rw [hB.tok_val, hB.tok_val]; simp only; omega)
      have hm : (n + 1) % 8 = n % 8 + 1 := by omega
      have hH : ∀ r d, (st n (Nat.lt_of_succ_lt hn)).2.1 (ix2 r d) = L.hid (tok ⟨n + 1, hn⟩ r) d := fun r d => by
        rw [h.hid, hr]
      have hG : ∀ r (q : Fin 128), (st n (Nat.lt_of_succ_lt hn)).2.2.1 (ix2 r q)
          = L.weight s a b (tok ⟨n + 1, hn⟩ r) q.val := fun r q => by rw [h.weight, hr]
      exact ⟨hH, hG, hB.accStep s a b _ ⟨n + 1, hn⟩ (hS.coord _) _ _ _ hH hG fun r d => by rw [h.acc, hr]; simp only [hm]⟩

/-- The block stored at a token block's last point. -/
theorem Swept.stored (hS : Swept B co st) (hB : BlocksOf L tok B) (hf : L.FiniteLogits) (hc : L.Choice s a b) (n : ℕ)
    (hn : n < K) (h1 : n % 8 = 7) (r d : Fin 1024) :
    (st n hn).1 (ix2 r d) = L.result s a b (tok ⟨n, hn⟩ r) d := by
  have hacc := (hS.held hB hf hc n hn).acc
  rw [hS.last n hn h1, outBlock_at, Layer.result]
  have h5 : modRow (B ⟨n, hn⟩).M 5 = L.mod (tok ⟨n, hn⟩ r) 5 := funext fun d => hB.mod _ r 5 d
  have hx : (fun d => (B ⟨n, hn⟩).X (ix2 r d)) = L.x (tok ⟨n, hn⟩ r) := funext fun d => hB.x _ r d
  have hm : ∀ d, ∑ E ∈ Finset.range (4 * (n % 8 + 1)), L.part s a b (tok ⟨n, hn⟩ r) d E
      = L.mixture s a b (tok ⟨n, hn⟩ r) d := fun d => by rw [h1, Layer.mixture_eq]
  simp only [hacc, hm]
  rw [h5, hB.lnw, hB.lnb, hx]

end sweep

end Cert.Moe

end
-- ==== Proof.KValue.lean ====
module

public import proofs.«01_k».proof.Proof.Points
public import proofs.«01_k».proof.Proof.Operands
public import proofs.«01_k».proof.Proof.Sweep

/-
  What the kernel's array holds: its points' blocks are those of the layer the argument arrays spell, and its points run
  as `Sweep.lean` says, so each block stored is the layer's result.
-/

@[expose] public section

set_option maxRecDepth 16384

noncomputable section

namespace Cert.Moe

open Idealize.ShloMosaic Idealize.ShloMosaic.TcCoe Idealize.SL.Sem Cert.KernelIdeal Cert.KernelIdeal.Gen

variable (m : (ℓ : Loc nD τ sig) → Buf (Elt Ideal) ℓ) (c : Dev nD)

/-- The layer's arguments, read off the kernel program's argument arrays. -/
def layerK : Layer 8192 where
  x n d := m ((c : Thread nD τ).loc main_arg0) (ix2 n d)
  mod _ k d := m ((c : Thread nD τ).loc main_arg1) (ix3 0 k d)
  group d k := m ((c : Thread nD τ).loc main_arg2) (ix2 d k)
  router d k := m ((c : Thread nD τ).loc main_arg3) (ix2 d k)
  wg E d f := m ((c : Thread nD τ).loc main_arg4) (ix3 E d f)
  wu E d f := m ((c : Thread nD τ).loc main_arg5) (ix3 E d f)
  wd E f d := m ((c : Thread nD τ).loc main_arg6) (ix3 E f d)
  lnw d := m ((c : Thread nD τ).loc main_arg7) (ix1 d)
  lnb d := m ((c : Thread nD τ).loc main_arg8) (ix1 d)

/-- Token `r` of point `t`'s block. -/
def tokenOf (t : Fin cfg0.N) (r : Fin 1024) : Fin 8192 :=
  ⟨1024 * (t.val / 8) + r.val, by have := pointCount t; omega⟩

/-- The blocks of the kernel's points. -/
def blocksK (t : Fin cfg0.N) : PointBlocks :=
  ⟨iblk m c 0 t, iblk m c 1 t, iblk m c 2 t, iblk m c 3 t, iblk m c 4 t, iblk m c 5 t, iblk m c 6 t, iblk m c 7 t⟩

attribute [local irreducible] iblk Value.stAt0 outsAt0 accStep hiddenBlock gatesBlock

theorem blocksOfK : BlocksOf (layerK m c) tokenOf (blocksK m c) where
  tok_val t r := rfl
  x t r d := blkX m c t r d
  mod t r k d := blkM m c t k d
  group t k d := blkRouter_group m c t k d
  router t E d := blkRouter_expert m c t E d
  wg t q d f := blkGate m c t q d f
  wu t q d f := blkUp m c t q d f
  wd t q f d := blkDown m c t q f d
  lnw t d := blkNormW m c t d
  lnb t d := blkNormB m c t d

theorem sweptK : Swept (blocksK m c) grid0.coords (outsAt0 m c) where
  coord := pointGroup
  first n h h0 := by
    cases n with
    | zero =>
      rw [Value.outsAt0_zero]
      exact stAt_first m c ⟨0, h⟩ _ h0 (by simp)
    | succ n =>
      rw [Value.outsAt0_succ]
      exact stAt_first m c ⟨n + 1, h⟩ _ h0 (by simp only; omega)
  next n h h0 := by
    rw [Value.outsAt0_succ]
    by_cases h1 : (n + 1) % 8 = 7
    · rw [stAt_last m c ⟨n + 1, h⟩ _ h0 h1]
      rfl
    · exact stAt_middle m c ⟨n + 1, h⟩ _ h0 h1
  last n h h1 := by
    obtain ⟨k, rfl⟩ : ∃ k, n = k + 1 := ⟨n - 1, by omega⟩
    rw [Value.outsAt0_succ, stAt_last m c ⟨k + 1, h⟩ _ (by simp only; omega) h1]
    rfl

variable (s : Fin 8192 → Fin 4) (a b : Fin 8192 → Fin 8)

/-- The kernel's array after the run. -/
theorem kernelArray (hf : (layerK m c).FiniteLogits) (hc : (layerK m c).Choice s a b) (n : Fin 8192) (d : Fin 1024) :
    Value.G8 m c (ix2 n d) = (layerK m c).result s a b n d := by
  have hp : Value.pt8Of (ix2 n d) = 8 * (n.val / 1024) + 7 := by
    show 8 * (1 * (n.val / 1024 - 0) + 1 * (d.val / 1024 - 0)) + 7 = _
    omega
  have hlt : Value.pt8Of (ix2 n d) < cfg0.N := by rw [hp]; show _ < 64; omega
  have hl : Value.loc8Of (ix2 n d) = ix2 ⟨n.val % 1024, Nat.mod_lt _ (by decide)⟩ d :=
    index2 _ _ _ rfl (Nat.mod_eq_of_lt d.isLt)
  rw [Value.G8, dif_pos hlt, ← Value.outsAt0_sweep m c _ hlt, hl, (sweptK m c).stored (blocksOfK m c) hf hc _ hlt (by rw [hp]; omega)]
  refine congrArg (fun n => (layerK m c).result s a b n d) (Fin.ext ?_)
  simp only [tokenOf, hp]
  omega

end Cert.Moe

end
-- ==== Proof.TopK.lean ====
module

public import Idealize.ShloMosaic.Lib.StableHlo
public import Idealize.ShloMosaic.PureOps
public import Idealize.ShloMosaic.Lib.SortPrefix
public import Idealize.ShloMosaic.Lib.Pointwise
public import proofs.«01_k».proof.Proof.Route

/-
  The host's top-k along the rows of a matrix of extended reals: the values and positions it returns are those of any
  selection that is ordered (larger first, equal values by position) and leaves out nothing that should come earlier.
-/

@[expose] public section

set_option maxRecDepth 16384

noncomputable section

namespace Cert.Moe

open Idealize.ShloMosaic

/-- Position `k` comes before position `k'`: its value is larger, or equal and it stands earlier. -/
def Before {N : ℕ} (f : Fin N → EReal) (k k' : Fin N) : Prop := f k' < f k ∨ (f k' = f k ∧ k < k')

/-- On a list whose positions increase, a stable sort asks its relation only about a later position against an earlier
    one. -/
theorem stableSort_congr_increasing {N : ℕ} (R R' : Fin N → Fin N → Bool) (h : ∀ a b, a < b → R b a = R' b a)
    (l : List (Fin N)) (hl : l.Pairwise (· < ·)) : stableSort R l = stableSort R' l := by
  induction l with
  | nil => rfl
  | cons a l ih =>
    obtain ⟨h1, h2⟩ := List.pairwise_cons.mp hl
    unfold stableSort
    rw [ih h2]
    exact insertBefore_congr R R' a _ fun b hb => h a b (h1 b ((perm_stableSort R' l).mem_iff.mp hb))

/-- The stable descending sort by value is the sort by value and then position. -/
theorem sortedFrom_desc {N : ℕ} (f : Fin N → EReal) :
    sortedFrom (fun k k' => FloatOps.cmpfTotal (F := Ideal) (φ := .f32) .gt (f k) (f k') == 1#1)
      = sortedFrom fun k k' : Fin N =>
          (fun a b : EReal => decide (b < a)) (f k) (f k') || (decide (f k = f k') && decide (k < k')) := by
  have hs : sortPositions N (fun k k' => FloatOps.cmpfTotal (F := Ideal) (φ := .f32) .gt (f k) (f k') == 1#1)
      = sortPositions N fun k k' : Fin N =>
          (fun a b : EReal => decide (b < a)) (f k) (f k') || (decide (f k = f k') && decide (k < k')) := by
    refine stableSort_congr_increasing _ _ (fun a b hab => ?_) _ (List.pairwise_lt_finRange N)
    have hn : ¬ b < a := not_lt.mpr hab.le
    rw [Ideal.cmpfTotal_def]
    simp only [hn, decide_false, Bool.and_false, Bool.or_false]
    by_cases hlt : f a < f b <;> simp [Ideal.cmp, CmpDirection.ordered, hlt]
  funext k
  unfold sortedFrom
  rw [List.get_of_eq hs]
  rfl

/-- TOP-K READ AT A ROW: where `σ` picks `k` different positions of the row, in order, ahead of all the others, the
    `i`-th value is the one at `σ i` and the `i`-th index is `σ i`. -/
theorem topK_row {R N k : ℕ} (hk : k ≤ N) (x : FVec Ideal ⟨2, ![R, N]⟩ .f32)
    (h : (⟨2, ![R, N]⟩ : Shape).Slices (fun _ => 0) ⟨2, ![R, k]⟩) (n : Fin R) (σ : Fin k → Fin N)
    (hinj : Function.Injective σ)
    (hord : ∀ i j, i < j → Before (fun c => x (ix2 n c)) (σ i) (σ j))
    (hdom : ∀ i p, (∀ j, σ j ≠ p) → Before (fun c => x (ix2 n c)) (σ i) p) (i : Fin k) :
    (Host.topK ⟨2, ![R, k]⟩ 1 (FloatOps.cmpfTotal (F := Ideal) (φ := .f32) .gt) x h).1 (ix2 n i) = x (ix2 n (σ i))
    ∧ (Host.topK ⟨2, ![R, k]⟩ 1 (FloatOps.cmpfTotal (F := Ideal) (φ := .f32) .gt) x h).2 (ix2 n i)
        = BitVec.ofNat 32 (σ i).val := by
  have hB := StrictTotalBefore.of_key_then_position (fun a b : EReal => decide (b < a)) (fun c : Fin N => x (ix2 n c))
    (fun a => by simp) (fun a b c hab hbc => by simp only [decide_eq_true_eq] at *; exact hbc.trans hab)
    (fun a b => by simp only [decide_eq_true_eq]; rcases lt_trichotomy a b with h | h | h <;> simp [h])
  have hnot : ∀ p q : Fin N, Before (fun c => x (ix2 n c)) q p →
      ((fun a b : EReal => decide (b < a)) (x (ix2 n p)) (x (ix2 n q))
        || (decide (x (ix2 n p) = x (ix2 n q)) && decide (p < q))) = false := by
    intro p q hb
    rcases hb with hb | ⟨he, hb⟩
    · have h1 : ¬ x (ix2 n q) < x (ix2 n p) := not_lt.mpr hb.le
      have h2 : ¬ x (ix2 n p) = x (ix2 n q) := ne_of_lt hb
      simp [h1, h2]
    · have h1 : ¬ x (ix2 n q) < x (ix2 n p) := by
        intro hlt; simp only at he; rw [he] at hlt; exact lt_irrefl _ hlt
      have h2 : ¬ p < q := not_lt.mpr hb.le
      simp [h1, h2]
  have key := hB.sortedFrom_eq_of_prefix hk σ hinj (fun i j hij => hnot _ _ (hord i j hij))
    (fun i p hp => hnot _ _ (hdom i p hp)) i
  have hpos := (congrFun (sortedFrom_desc fun c : Fin N => x (ix2 n c)) (i.castLE hk)).trans key
  have hsl : ∀ {α : Type} (v : (⟨2, ![R, N]⟩ : Shape).Idx → α),
      extractStridedSlice ⟨2, ![R, k]⟩ (fun _ => 0) v h (ix2 n i) = v (ix2 n (i.castLE hk)) := by
    intro α v
    unfold extractStridedSlice
    congr 1
    funext a
    match a with
    | ⟨0, _⟩ => exact Fin.ext (Nat.zero_add _)
    | ⟨1, _⟩ => exact Fin.ext (Nat.zero_add _)
  have h1 : 1 < (⟨2, ![R, N]⟩ : Shape).rank := one_lt_two
  have hal : ∀ q c : Fin N, (ix2 n q : (⟨2, ![R, N]⟩ : Shape).Idx).along ⟨1, h1⟩ c = ix2 n c := by
    intro q c
    funext a
    match a with
    | ⟨0, _⟩ => rfl
    | ⟨1, _⟩ => rfl
  unfold Host.topK
  simp only [hsl]
  unfold Host.sort2
  simp only [dif_pos h1, hal]
  have hpos' : sortedFrom (fun k k' => FloatOps.cmpfTotal (F := Ideal) (φ := .f32) .gt (x (ix2 n k)) (x (ix2 n k')) == 1#1)
      ((ix2 n (i.castLE hk) : (⟨2, ![R, N]⟩ : Shape).Idx) ⟨1, h1⟩) = σ i := hpos
  have hpos'' : sortedFrom (fun k k' =>
        FloatOps.cmpfTotal (F := Ideal) (φ := .f32) .gt
          (x ((ix2 n (i.castLE hk) : (⟨2, ![R, N]⟩ : Shape).Idx).along ⟨1, h1⟩ k))
          (x ((ix2 n (i.castLE hk) : (⟨2, ![R, N]⟩ : Shape).Idx).along ⟨1, h1⟩ k')) == 1#1)
      ((ix2 n (i.castLE hk) : (⟨2, ![R, N]⟩ : Shape).Idx) ⟨1, h1⟩) = σ i := by
    refine Eq.trans (congrFun (congrArg sortedFrom (funext fun k => funext fun k' => ?_)) _) hpos'
    exact congrArg₂ (fun a b => FloatOps.cmpfTotal (F := Ideal) (φ := .f32) .gt (x a) (x b) == 1#1) (hal _ k) (hal _ k')
  have hix := (hal (i.castLE hk) _).trans (congrArg (ix2 n) hpos'')
  exact ⟨congrArg x hix, congrArg (iotaInDim ⟨2, ![R, N]⟩ 32 ⟨1, h1⟩) hix⟩

end Cert.Moe

end
-- ==== Proof.RowRoute.lean ====
module

public import Idealize.ShloMosaic.Lib.Pointwise
public import proofs.«01_k».proof.Proof.Layer
public import proofs.«01_k».proof.Proof.TopK

/-
  The reference's routing operations read at one row, for any number of tokens: the top-1 over the groups, the two row
  reads at the chosen group, the top-2 over that group's experts, the largest entry of a row, and the two weights an
  expert is given, summed.
-/

@[expose] public section

set_option maxRecDepth 16384

noncomputable section

namespace Cert.Moe

open Idealize.ShloMosaic

/-! ## Words and folds -/

theorem chosen_word : ∀ s : Fin 4, Scalar.select (IntOp.cmpi CmpIPredicate.slt (BitVec.ofNat 32 s.val) 0#32)
    (IntOp.addi (BitVec.ofNat 32 s.val) 4#32) (BitVec.ofNat 32 s.val) = BitVec.ofNat 32 s.val := by decide +kernel

theorem chosen_inside : ∀ s : Fin 4, IntOp.andi (IntOp.cmpi CmpIPredicate.sge (BitVec.ofNat 32 s.val) 0#32)
    (IntOp.cmpi CmpIPredicate.sle (BitVec.ofNat 32 s.val) 3#32) = 1#1 := by decide +kernel

theorem chosen_int : ∀ s : Fin 4, min (BitVec.ofNat 32 s.val).toInt.toNat 3 = s.val := by decide +kernel

theorem expert_hit : ∀ (s : Fin 4) (k : Fin 8) (E : Fin 32),
    IntOp.cmpi CmpIPredicate.eq (IntOp.addi (IntOp.muli (BitVec.ofNat 32 s.val) 8#32) (BitVec.ofNat 32 k.val))
      (BitVec.ofNat 32 E.val) = BitVec.ofBool (decide (E.val = 8 * s.val + k.val)) := by decide +kernel

theorem bit_float (p : Prop) [Decidable p] :
    (FloatOps.uitofp .f32 (BitVec.ofBool (decide p)) : Ideal .f32) = if p then (1 : EReal) else 0 := by
  by_cases h : p
  · simp only [h, decide_true, if_true]
    show (((BitVec.ofBool true).toNat : ℝ) : EReal) = 1
    simp
  · simp only [h, decide_false, if_false]
    show (((BitVec.ofBool false).toNat : ℝ) : EReal) = 0
    simp

theorem fold_and_one {ι : Type} (S : Finset ι) (f : ι → BitVec 1) (h : ∀ x, f x = 1#1) :
    S.fold IntOp.andi 1#1 f = 1#1 := by
  classical
  induction S using Finset.induction_on with
  | empty => rfl
  | insert a S ha ih => rw [Finset.fold_insert ha, ih, h]; decide

theorem select_one {α : Type} (x y : α) : Scalar.select 1#1 x y = x := rfl

theorem index3_unit {R : ℕ} (x : (⟨3, ![R, 1, 1]⟩ : Shape).Idx) : x = ix3 ⟨(x 0).val, (x 0).isLt⟩ 0 0 := by
  funext a
  match a with
  | ⟨0, _⟩ => rfl
  | ⟨1, _⟩ => exact Fin.ext (by have : (x 1).val < 1 := (x 1).isLt; show (x 1).val = 0; omega)
  | ⟨2, _⟩ => exact Fin.ext (by have : (x 2).val < 1 := (x 2).isLt; show (x 2).val = 0; omega)

/-! ## Reading a row at the chosen group -/

/-- The dimension numbers of the two row reads, over `R` tokens. -/
abbrev dims4 {R : ℕ} (wf : GatherDims.WF ⟨2, ![R, 4]⟩ ⟨3, ![R, 1, 1]⟩ ⟨2, ![R, 1]⟩ [] [1] [0] [1] [0] 2 ![1, 1]) :
    GatherDims ⟨2, ![R, 4]⟩ ⟨3, ![R, 1, 1]⟩ ⟨2, ![R, 1]⟩ := ⟨[], [1], [0], [0], [1], 2, ![1, 1], wf⟩
abbrev dims8 {R : ℕ}
    (wf : GatherDims.WF ⟨3, ![R, 4, 8]⟩ ⟨3, ![R, 1, 1]⟩ ⟨3, ![R, 1, 8]⟩ [2] [1] [0] [1] [0] 2 ![1, 1, 8]) :
    GatherDims ⟨3, ![R, 4, 8]⟩ ⟨3, ![R, 1, 1]⟩ ⟨3, ![R, 1, 8]⟩ := ⟨[2], [1], [0], [0], [1], 2, ![1, 1, 8], wf⟩

theorem gather4_at {α : Type} {R : ℕ} (wf) (x : (⟨2, ![R, 4]⟩ : Shape).Idx → α) (idx : IVec ⟨3, ![R, 1, 1]⟩ 32) (n : Fin R)
    (s : Fin 4) (h : idx (ix3 n 0 0) = BitVec.ofNat 32 s.val) :
    Host.gather (dims4 wf) x idx (ix2 n 0) = x (ix2 n s) := by
  unfold Host.gather
  refine congrArg x ?_
  funext a
  refine Fin.ext ?_
  show (dims4 wf).start (ix2 n 0) idx a + (dims4 wf).batchCoord (ix2 n 0) a + (dims4 wf).offCoord (ix2 n 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (dims4 wf).operandBatchingDims from List.mem_singleton.mpr rfl)]
    rfl
  · rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims4 wf).startIndexMap from List.mem_singleton.mpr rfl)]
    have hsi : ∀ q, (dims4 wf).siIdx (ix2 n 0) q = ix3 n 0 0 := fun q => by
      rw [index3_unit (GatherDims.siIdx _ _ _)]
      rfl
    rw [hsi, h]
    exact chosen_int s

theorem gather8_at {α : Type} {R : ℕ} (wf) (x : (⟨3, ![R, 4, 8]⟩ : Shape).Idx → α) (idx : IVec ⟨3, ![R, 1, 1]⟩ 32)
    (n : Fin R) (k : Fin 8) (s : Fin 4) (h : idx (ix3 n 0 0) = BitVec.ofNat 32 s.val) :
    Host.gather (dims8 wf) x idx (ix3 n 0 k) = x (ix3 n s k) := by
  unfold Host.gather
  refine congrArg x ?_
  funext a
  refine Fin.ext ?_
  show (dims8 wf).start (ix3 n 0 k) idx a + (dims8 wf).batchCoord (ix3 n 0 k) a + (dims8 wf).offCoord (ix3 n 0 k) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (dims8 wf).operandBatchingDims from List.mem_singleton.mpr rfl)]
    rfl
  · rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims8 wf).startIndexMap from List.mem_singleton.mpr rfl)]
    have hsi : ∀ q, (dims8 wf).siIdx (ix3 n 0 k) q = ix3 n 0 0 := fun q => by
      rw [index3_unit (GatherDims.siIdx _ _ _)]
      rfl
    rw [hsi, h]
    exact chosen_int s
  · rw [GatherDims.batchCoord_eq_zero _ _ _ (show (2 : Fin 3) ∉ [(0 : Fin 3)] by decide)]
    unfold GatherDims.start GatherDims.offCoord
    rw [dif_neg (show (2 : Fin 3) ∉ [(1 : Fin 3)] by decide),
      dif_pos ((GatherDims.mem_sKept (dims8 wf) (2 : Fin 3)).mpr ⟨(by decide : (2 : Fin 3) ∉ [(1 : Fin 3)]), (by decide : (2 : Fin 3) ∉ [(0 : Fin 3)])⟩)]
    simp only [Nat.zero_add]
    rfl

/-- The largest entry of a row, as the reference takes it. -/
theorem fold_row {R C : ℕ} (h : (⟨2, ![R, C]⟩ : Shape).ReducesTo [1] ⟨1, ![R]⟩) (n : Fin R)
    (f : (⟨2, ![R, C]⟩ : Shape).Idx → EReal) (v : EReal) (hle : ∀ k, f (ix2 n k) ≤ v) (hat : ∃ k, f (ix2 n k) = v) :
    max (Ideal.ofBits FTy.f32 4286578688#32)
      (Finset.fold max (Ideal.ofBits FTy.f32 4286578688#32) f (Finset.univ.filter fun i => h.drop i = ix1 n)) = v := by
  have hb : Ideal.ofBits .f32 4286578688#32 = (⊥ : EReal) := by simp [Ideal.ofBits, Ideal.ieee]
  rw [h.fold_fiber_r2_a1, hb, max_eq_right bot_le]
  exact fold_max_eq _ v hle hat

/-! ## The choices -/

/-- The chosen group is a group, so a row read at it is not replaced. -/
theorem fold_inside {R : ℕ} (v : IVec ⟨3, ![R, 1, 1]⟩ 32) (h : ∀ n, ∃ s : Fin 4, v (ix3 n 0 0) = BitVec.ofNat 32 s.val)
    (S : Finset (⟨3, ![R, 1, 1]⟩ : Shape).Idx) :
    S.fold IntOp.andi 1#1 (fun x => IntOp.andi (IntOp.cmpi CmpIPredicate.sge (v x) 0#32)
      (IntOp.cmpi CmpIPredicate.sle (v x) 3#32)) = 1#1 := by
  refine fold_and_one S _ fun x => ?_
  obtain ⟨s, e⟩ := h ⟨(x 0).val, (x 0).isLt⟩
  rw [(congrArg v (index3_unit x)).trans e, chosen_inside]

/-- The top-1 of a row of four. -/
theorem top_one {R : ℕ} (x : FVec Ideal ⟨2, ![R, 4]⟩ .f32) (h : (⟨2, ![R, 4]⟩ : Shape).Slices (fun _ => 0) ⟨2, ![R, 1]⟩)
    (n : Fin R) (l : Fin 4 → EReal) (hx : ∀ k, x (ix2 n k) = l k) (s : Fin 4) (hs : FirstMax l s) :
    (Host.topK ⟨2, ![R, 1]⟩ 1 (FloatOps.cmpfTotal (F := Ideal) (φ := .f32) .gt) x h).2 (ix2 n 0)
      = BitVec.ofNat 32 s.val := by
  refine (topK_row (by decide) x h n (fun _ => s) (fun i j _ => Subsingleton.elim i j)
    (fun i j h => absurd h (by have := Subsingleton.elim i j; rw [this]; exact lt_irrefl _)) (fun i p h => ?_) 0).2
  unfold Before
  simp only [hx]
  rcases lt_trichotomy s p with hl | rfl | hl
  · rcases (hs.le p).lt_or_eq with h1 | h1
    · exact Or.inl h1
    · exact Or.inr ⟨h1, hl⟩
  · exact absurd rfl (h 0)
  · exact Or.inl (hs.lt p hl)

/-- The positions of the two largest logits. -/
def pair (a b : Fin 8) (i : Fin 2) : Fin 8 := if i = 0 then a else b

/-- The top-2 of a row of eight. -/
theorem top_two {R : ℕ} (x : FVec Ideal ⟨2, ![R, 8]⟩ .f32) (hx2 : (⟨2, ![R, 8]⟩ : Shape).Slices (fun _ => 0) ⟨2, ![R, 2]⟩)
    (n : Fin R) (l : Fin 8 → EReal) (hx : ∀ k, x (ix2 n k) = l k) (a b : Fin 8) (ha : FirstMax l a) (hb : SecondMax l a b)
    (i : Fin 2) :
    (Host.topK ⟨2, ![R, 2]⟩ 1 (FloatOps.cmpfTotal (F := Ideal) (φ := .f32) .gt) x hx2).1 (ix2 n i) = l (pair a b i)
    ∧ (Host.topK ⟨2, ![R, 2]⟩ 1 (FloatOps.cmpfTotal (F := Ideal) (φ := .f32) .gt) x hx2).2 (ix2 n i)
        = BitVec.ofNat 32 (pair a b i).val := by
  have key := topK_row (R := R) (N := 8) (k := 2) (by decide) x hx2 n (pair a b) ?_ ?_ ?_ i
  · exact ⟨key.1.trans (hx _), key.2⟩
  · intro i j h
    fin_cases i <;> fin_cases j
    · rfl
    · exact absurd h.symm hb.ne
    · exact absurd h hb.ne
    · rfl
  · intro i j h
    fin_cases i <;> fin_cases j
    · exact absurd h (lt_irrefl _)
    · show Before _ a b
      unfold Before
      simp only [hx]
      rcases lt_trichotomy a b with hl | hl | hl
      · rcases (ha.le b).lt_or_eq with h1 | h1
        · exact Or.inl h1
        · exact Or.inr ⟨h1, hl⟩
      · exact absurd hl.symm hb.ne
      · exact Or.inl (ha.lt b hl)
    · exact absurd h (by decide)
    · exact absurd h (lt_irrefl _)
  · intro i p h
    have hpa : p ≠ a := fun e => h 0 (by rw [e]; rfl)
    have hpb : p ≠ b := fun e => h 1 (by rw [e]; rfl)
    fin_cases i
    · show Before _ a p
      unfold Before
      simp only [hx]
      rcases lt_or_gt_of_ne hpa with hl | hl
      · exact Or.inl (ha.lt p hl)
      · rcases (ha.le p).lt_or_eq with h1 | h1
        · exact Or.inl h1
        · exact Or.inr ⟨h1, hl⟩
    · show Before _ b p
      unfold Before
      simp only [hx]
      rcases lt_or_gt_of_ne hpb with hl | hl
      · exact Or.inl (hb.lt p hpa hl)
      · rcases (hb.le p hpa).lt_or_eq with h1 | h1
        · exact Or.inl h1
        · exact Or.inr ⟨h1, hl⟩

/-! ## The weights -/

section weights
variable {g : Fin 4 → EReal} {e : Fin 4 → Fin 8 → EReal} {s : Fin 4} {a b : Fin 8}

/-- The sum of the group softmax's numerators is not zero: the largest logit's is one. -/
theorem groupSum_ne (hg : IsFin (g s)) : ∑ k, Ideal.exp (g k - g s) ≠ 0 := by
  have h1 : Ideal.exp (g s - g s) = 1 := exp_sub_self _ hg.1 hg.2
  have h2 := Finset.single_le_sum (f := fun k => Ideal.exp (g k - g s)) (fun k _ => exp_pos_or_zero _) (Finset.mem_univ s)
  rw [h1] at h2
  exact ne_of_gt (lt_of_lt_of_le zero_lt_one h2)

/-- The group's softmax weight, read at the chosen group. -/
theorem groupWeight_of (hg : IsFin (g s)) (v : Fin 4 → EReal) (hv : ∀ k, v k = Ideal.exp (g k - g s)) :
    Ideal.div (v s) (∑ k, v k) = groupWeight g s := by
  simp only [hv]
  rw [exp_sub_self _ hg.1 hg.2]
  rfl

/-- The two weights an expert is given, one for each of the two chosen, summed. -/
theorem gate_of (he : IsFin (e s a)) (v : Fin 2 → EReal) (hv : ∀ i, v i = Ideal.exp (e s (pair a b i) - e s a)) (E : Fin 32)
    (w : EReal) (hw : w = groupWeight g s) :
    (if E.val = 8 * s.val + a.val then (1 : EReal) else 0) * (Ideal.div (v 0) (v 0 + v 1) * w)
        + (if E.val = 8 * s.val + b.val then (1 : EReal) else 0) * (Ideal.div (v 1) (v 0 + v 1) * w)
      = gate g e s a b E.val := by
  have h0 : v 0 = 1 := (hv 0).trans (exp_sub_self _ he.1 he.2)
  have h1 : v 1 = ratio (e s) a b := hv 1
  have hne : 1 + ratio (e s) a b ≠ 0 := one_add_exp_ne_zero _
  rw [h0, h1, hw, gate, div_of_ne hne, div_of_ne hne, div_of_ne hne, div_of_ne hne]
  simp only [ite_mul, one_mul, zero_mul]
  rw [mul_comm _⁻¹, mul_right_comm, mul_comm (ratio _ _ _)]

end weights

end Cert.Moe

end
-- ==== Proof.RRoute.lean ====
module

public import proofs.«01_k».proof.Proof.Gen.ReferenceIdeal.Run
public import Idealize.ShloMosaic.Lib.Pointwise
public import proofs.«01_k».proof.Proof.RowRoute

/-
  The reference's routing for one token, its values read with `RowRoute.lean`: its top-1 over the groups, the two row
  reads at the chosen group, its top-2 over that group's experts and the two softmaxes give the weights of the layer.
-/

@[expose] public section

set_option maxRecDepth 16384

noncomputable section

namespace Cert.Moe

open Idealize.ShloMosaic Idealize.ShloMosaic.TcCoe Idealize.SL.Sem Cert.ReferenceIdeal Cert.ReferenceIdeal.Gen Cert.ReferenceIdeal.Value

variable (V0 : Valuation τ sig (Elt Ideal))

/-- The layer's arguments, read off the reference program's argument arrays. -/
def layerR : Layer 8192 where
  x n d := V0 (Proc.devRef .tc main_arg0) (ix2 n d)
  mod _ k d := V0 (Proc.devRef .tc main_arg1) (ix3 0 k d)
  group d k := V0 (Proc.devRef .tc main_arg2) (ix2 d k)
  router d k := V0 (Proc.devRef .tc main_arg3) (ix2 d k)
  wg E d f := V0 (Proc.devRef .tc main_arg4) (ix3 E d f)
  wu E d f := V0 (Proc.devRef .tc main_arg5) (ix3 E d f)
  wd E f d := V0 (Proc.devRef .tc main_arg6) (ix3 E f d)
  lnw d := V0 (Proc.devRef .tc main_arg7) (ix1 d)
  lnb d := V0 (Proc.devRef .tc main_arg8) (ix1 d)

theorem ref_hidden (n : Fin 8192) (d : Fin 1024) : res_main_v11 V0 (ix2 n d) = (layerR V0).hid n d := by
  pointwise [res_main_v11]
  rfl

theorem ref_group (n : Fin 8192) (k : Fin 4) : res_main_v12 V0 (ix2 n k) = (layerR V0).glog n k := by
  pointwise [res_main_v12]
  simp only [ref_hidden]
  rfl

section token
variable {n : Fin 8192} {s : Fin 4} {a b : Fin 8} (hr : Routed ((layerR V0).glog n) ((layerR V0).elog n) s a b)
include hr

theorem ref_chosen : res_main_v24 V0 (ix1 n) = BitVec.ofNat 32 s.val := by
  pointwise [res_main_v24]
  exact top_one (res_main_v12 V0) _ n _ (ref_group V0 n) s hr.group

theorem ref_chosen0 : res_main_call0_v5 V0 (ix3 n 0 0) = BitVec.ofNat 32 s.val := by
  pointwise [res_main_call0_v5, res_main_v25]
  rw [ref_chosen V0 hr, chosen_word]

theorem ref_chosen1 : res_main_call1_v4 V0 (ix3 n 0 0) = BitVec.ofNat 32 s.val := by
  pointwise [res_main_call1_v4, res_main_v29]
  rw [ref_chosen V0 hr, chosen_word]

end token

/-- The chosen group is a group, so neither row read is replaced. -/
theorem ref_inside0 (S : Finset S8192x1x1.Idx) :
    S.fold IntOp.andi 1#1 (fun x => IntOp.andi (IntOp.cmpi CmpIPredicate.sge (res_main_call0_v5 V0 x) 0#32)
      (IntOp.cmpi CmpIPredicate.sle (res_main_call0_v5 V0 x) 3#32)) = 1#1 :=
  fold_inside _ (fun n => by
    obtain ⟨s, a, b, hr⟩ := exists_routed ((layerR V0).glog n) ((layerR V0).elog n)
    exact ⟨s, ref_chosen0 V0 hr⟩) S

theorem ref_inside1 (S : Finset S8192x1x1.Idx) :
    S.fold IntOp.andi 1#1 (fun x => IntOp.andi (IntOp.cmpi CmpIPredicate.sge (res_main_call1_v4 V0 x) 0#32)
      (IntOp.cmpi CmpIPredicate.sle (res_main_call1_v4 V0 x) 3#32)) = 1#1 :=
  fold_inside _ (fun n => by
    obtain ⟨s, a, b, hr⟩ := exists_routed ((layerR V0).glog n) ((layerR V0).elog n)
    exact ⟨s, ref_chosen1 V0 hr⟩) S

section token
variable {n : Fin 8192} {s : Fin 4} {a b : Fin 8} (hr : Routed ((layerR V0).glog n) ((layerR V0).elog n) s a b)
include hr

/-- The chosen group's expert logits. -/
theorem ref_row (k : Fin 8) : res_main_v31 V0 (ix2 n k) = (layerR V0).elog n s k := by
  pointwise [res_main_v31]
  rw [ref_inside1, select_one]
  refine (gather8_at _ _ _ n k s (ref_chosen1 V0 hr)).trans ?_
  pointwise []
  simp only [ref_hidden, Nat.mul_comm s.val 8]
  rfl

theorem ref_top (i : Fin 2) :
    res_main_values_3 V0 (ix2 n i) = (layerR V0).elog n s (pair a b i)
    ∧ (Host.topK S8192x2 1 (FloatOps.cmpfTotal CmpDirection.gt) (res_main_v31 V0) sliceFits_S8192x8_S8192x2).2 (ix2 n i)
        = BitVec.ofNat 32 (pair a b i).val :=
  top_two (res_main_v31 V0) _ n _ (ref_row V0 hr) a b hr.first hr.second i

/-- The group softmax's numerators. -/
theorem ref_groupExp (k : Fin 4) :
    res_main_v19 V0 (ix2 n k) = Ideal.exp ((layerR V0).glog n k - (layerR V0).glog n s) := by
  pointwise [res_main_v19]
  exact congrArg₂ (fun p q : EReal => Ideal.exp (p - q)) (ref_group V0 n k)
    (fold_row reducesTo_S8192x4_S8192_d1 n (res_main_v12 V0) ((layerR V0).glog n s)
      (fun k => le_of_eq_of_le (α := EReal) (ref_group V0 n k) (hr.group.le k)) ⟨s, ref_group V0 n s⟩)

/-- The expert softmax's numerators. -/
theorem ref_expertExp (i : Fin 2) :
    res_main_v38 V0 (ix2 n i) = Ideal.exp ((layerR V0).elog n s (pair a b i) - (layerR V0).elog n s a) := by
  pointwise [res_main_v38]
  exact congrArg₂ (fun p q : EReal => Ideal.exp (p - q)) (ref_top V0 hr i).1
    (fold_row reducesTo_S8192x2_S8192_d1 n (res_main_values_3 V0) ((layerR V0).elog n s a)
      (fun k => le_of_eq_of_le (α := EReal) (ref_top V0 hr k).1 (hr.first.le _)) ⟨0, (ref_top V0 hr 0).1⟩)

/-- The two weights the reference gives an expert, summed, are the layer's. -/
theorem ref_gate (hf : (layerR V0).FiniteLogits) (E : Fin 32) :
    (if E.val = 8 * s.val + a.val then (1 : EReal) else 0)
          * (Ideal.div (res_main_v38 V0 (ix2 n 0)) (HAdd.hAdd (α := EReal) (β := EReal) (γ := EReal) (res_main_v38 V0 (ix2 n 0)) (res_main_v38 V0 (ix2 n 1)))
            * Ideal.div (res_main_v19 V0 (ix2 n s)) (∑ k : Fin 4, (res_main_v19 V0 (ix2 n k) : EReal)))
        + (if E.val = 8 * s.val + b.val then (1 : EReal) else 0)
          * (Ideal.div (res_main_v38 V0 (ix2 n 1)) (HAdd.hAdd (α := EReal) (β := EReal) (γ := EReal) (res_main_v38 V0 (ix2 n 0)) (res_main_v38 V0 (ix2 n 1)))
            * Ideal.div (res_main_v19 V0 (ix2 n s)) (∑ k : Fin 4, (res_main_v19 V0 (ix2 n k) : EReal)))
      = gate ((layerR V0).glog n) ((layerR V0).elog n) s a b E.val :=
  gate_of (g := (layerR V0).glog n) (e := (layerR V0).elog n) (hf.expert n s a) (fun i => res_main_v38 V0 (ix2 n i))
    (ref_expertExp V0 hr) E (Ideal.div (res_main_v19 V0 (ix2 n s)) (∑ k : Fin 4, (res_main_v19 V0 (ix2 n k) : EReal)))
    (groupWeight_of (hf.group n s) (fun k => res_main_v19 V0 (ix2 n k)) (ref_groupExp V0 hr))

end token

end Cert.Moe

end
-- ==== Proof.RValue.lean ====
module

public import proofs.«01_k».proof.Proof.RRoute

/-
  The reference's array: every entry is the layer's result for its token.
-/

@[expose] public section

set_option maxRecDepth 16384

noncomputable section

namespace Cert.Moe

open Idealize.ShloMosaic Idealize.ShloMosaic.TcCoe Idealize.SL.Sem Cert.ReferenceIdeal Cert.ReferenceIdeal.Gen Cert.ReferenceIdeal.Value

variable (V0 : Valuation τ sig (Elt Ideal))

/-- The experts' first products. -/
theorem ref_up (n : Fin 8192) (E : Fin 32) (f : Fin 256) :
    @Eq EReal (res_main_v55 V0 (ix3 n E f)) (∑ d, (layerR V0).hid n d * (layerR V0).wg E d f) := by
  pointwise [res_main_v55]
  simp only [ref_hidden]
  rfl

variable (s : Fin 8192 → Fin 4) (a b : Fin 8192 → Fin 8)
  (hf : (layerR V0).FiniteLogits) (hc : (layerR V0).Choice s a b)
include hf hc

/-- The row that is normalised. -/
theorem ref_residual (n : Fin 8192) (c : Fin 1024) :
    @Eq EReal (res_main_v67 V0 (ix2 n c))
      (residual ((layerR V0).x n) ((layerR V0).mod n 5) ((layerR V0).mixture s a b n) c) := by
  pointwise [res_main_v67]
  rw [ref_inside0, select_one, show Host.gather gather_S8192x4_S8192x1x1_S8192x1_n_1_0_0_1_2_11 _ (res_main_call0_v5 V0) (ix2 n 0) = _ from
    gather4_at _ _ _ n (s n) (ref_chosen0 V0 (hc n))]
  simp only [ref_up, ref_hidden, Fin.sum_univ_two (M := EReal), ref_chosen V0 (hc n), (ref_top V0 (hc n) _).2, expert_hit,
    bit_float]
  pointwise []
  refine congrArg₂ (fun p q : EReal => p + q) rfl (congrArg₂ (fun p q : EReal => p * q) rfl ?_)
  rw [Layer.mixture, mix]
  refine Finset.sum_congr (M := EReal) rfl fun E _ => ?_
  rw [expert]
  refine Finset.sum_congr (M := EReal) rfl fun f _ => ?_
  rw [silu_eq, Layer.weight, ← ref_gate V0 (hc n) hf E]
  rfl

/-- The row mean. -/
theorem ref_mean (n : Fin 8192) :
    @Eq EReal (res_main_v71 V0 (ix2 n 0))
      (mean (residual ((layerR V0).x n) ((layerR V0).mod n 5) ((layerR V0).mixture s a b n))) := by
  pointwise [res_main_v71]
  simp only [ref_residual V0 s a b hf hc]
  rfl

/-- The reference's result. -/
theorem referenceArray (n : Fin 8192) (c : Fin 1024) :
    addf (mulf (mulf (subf (res_main_v67 V0) (broadcastInDim S8192x1024 ![0, 1] bcast_S8192x1_S8192x1024_0_1 (res_main_v71 V0))) (broadcastInDim S8192x1024 ![0, 1] bcast_S8192x1_S8192x1024_0_1 (Host.rsqrt (addf (Host.divf (broadcastInDim S8192x1 ![0] bcast_S8192_S8192x1_0 (Host.reduceAdd (mulf (res_main_v73 V0) (res_main_v73 V0)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 (V0 (Proc.devRef .tc main_arg7))))) (broadcastInDim S8192x1024 ![0, 1] bcast_S1x1024_S8192x1024_0_1 (broadcastInDim S1x1024 ![1] bcast_S1024_S1x1024_1 (V0 (Proc.devRef .tc main_arg8))))
        (ix2 n c) = (layerR V0).result s a b n c := by
  pointwise [res_main_v73]
  simp only [ref_residual V0 s a b hf hc, ref_mean V0 s a b hf hc]
  rfl

end Cert.Moe

end
-- ==== Proof.Pre.lean ====
module

public import proofs.«01_k».proof.Pre_finite_logits
public import Idealize.ShloMosaic.Lib.ReduceAll
public import Idealize.ShloMosaic.Lib.Pointwise
public import proofs.«01_k».proof.Proof.Layer

/-
  What the precondition says: the tokens, the two modulation rows and the two routers are finite. So the hidden rows and
  the routing logits, sums of products of them, are finite too.
-/

@[expose] public section

set_option maxRecDepth 16384

noncomputable section

namespace Cert.Moe

open Idealize.ShloMosaic Cert.Pre_finite_logits

instance preFacts : Cert.Pre_finite_logits.Facts where
  bcast_S_S8192x1024 := by decide
  reducesTo_S8192x1024_S_d0_1 := by decide
  h_S_ := by decide
  slices_S8x6x1024_S1x2x1024_0_3_0 := by decide
  shapeCasts_S1x2x1024_S2x1024 := by decide
  bcast_S_S2x1024 := by decide
  reducesTo_S2x1024_S_d0_1 := by decide
  bcast_S_S1024x4 := by decide
  reducesTo_S1024x4_S_d0_1 := by decide
  bcast_S_S1024x32 := by decide
  reducesTo_S1024x32_S_d0_1 := by decide

/-- A word compared below `+∞` in absolute value is finite. -/
theorem fin_of_bit {x : EReal} (h : Ideal.cmp .olt (max x (-x)) (Ideal.ofBits .f32 2139095040#32) = 1#1) : IsFin x := by
  have ht : Ideal.ofBits .f32 2139095040#32 = (⊤ : EReal) := by simp [Ideal.ofBits, Ideal.ieee]
  rw [ht] at h
  refine IsFin.of_abs_lt ?_
  by_contra hn
  simp [Ideal.cmp, hn] at h

/-- One conjunct of the precondition: an array whose absolute values all lie below `+∞` is finite. -/
theorem fin_of_all {s : Shape} (x : FVec Ideal s .f32) (hb : S_.BroadcastsInDim s (![] : Fin 0 → Fin s.rank))
    {ax : List (Fin s.rank)} (hr : s.ReducesTo ax S_) (h0 : 0 < S_.numel) (j : S_.Idx)
    (h : Host.reduce IntOp.andi (cmpf .olt (Host.absf x) (broadcastInDim s ![] hb (constant S_ .f32 0x7F800000#32)))
      (constantI S_ 1 1#1) hr h0 j = 1#1) (i : s.Idx) : IsFin (x i) := by
  have : Subsingleton S_.Idx := ⟨fun a b => funext fun k => k.elim0⟩
  exact fin_of_bit (Host.reduce_andi_all _ _ hr h0 j h i)

/-- The precondition's four conjuncts. -/
theorem pre_split (x0 : FVec Ideal S8192x1024 .f32) (x1 : FVec Ideal S8x6x1024 .f32) (x2 : FVec Ideal S1024x4 .f32)
    (x3 : FVec Ideal S1024x32 .f32) (x4 x5 : FVec Ideal S32x1024x256 .f32) (x6 : FVec Ideal S32x256x1024 .f32)
    (x7 x8 : FVec Ideal S1024 .f32)
    (h : Cert.Pre_finite_logits.fn (F := Ideal) x0 x1 x2 x3 x4 x5 x6 x7 x8 = fun _ => 1#1) :
    (∀ i, IsFin (x0 i)) ∧ (∀ k d, (k = 3 ∨ k = 4) → IsFin (x1 (ix3 0 k d))) ∧ (∀ i, IsFin (x2 i)) ∧ ∀ i, IsFin (x3 i) := by
  have h := congrFun h (fun k => k.elim0)
  dsimp only [fn, fn_part1] at h
  obtain ⟨h, h3⟩ := IntOp.andi_eq_one.1 h
  obtain ⟨h, h2⟩ := IntOp.andi_eq_one.1 h
  obtain ⟨h0, h1⟩ := IntOp.andi_eq_one.1 h
  refine ⟨fin_of_all _ _ _ _ _ h0, fun k d hk => ?_, fin_of_all _ _ _ _ _ h2, fin_of_all _ _ _ _ _ h3⟩
  have hrow := fin_of_all _ _ _ _ _ h1
  rcases hk with rfl | rfl
  · have := hrow (ix2 0 d)
    pointwise [] at this
    exact this
  · have := hrow (ix2 1 d)
    pointwise [] at this
    exact this

/-- Finite operands give finite logits. -/
theorem finite_of {N : ℕ} (L : Layer N) (hx : ∀ n d, IsFin (L.x n d)) (h3 : ∀ n d, IsFin (L.mod n 3 d))
    (h4 : ∀ n d, IsFin (L.mod n 4 d)) (hg : ∀ d k, IsFin (L.group d k)) (hr : ∀ d k, IsFin (L.router d k)) : L.FiniteLogits := by
  have hh : ∀ n d, IsFin (L.hid n d) := fun n d => ((hx n d).mul (IsFin.one.add (h4 n d))).add (h3 n d)
  exact ⟨fun n k => IsFin.sum _ _ fun d _ => (hh n d).mul (hg d k),
    fun n s k => IsFin.sum _ _ fun d _ => (hh n d).mul (hr d _)⟩

end Cert.Moe

end
-- ==== Proof.SamplePoints.lean ====
module

public import proofs.«01_k».proof.Proof.Gen.Kernel5Ideal.Value
public import proofs.«01_k».proof.Proof.Points

/-
  What one grid point of the sample's call leaves behind, as the terms of `Points.lean` over the point's blocks: the
  kernel's body is the same, its grid has 4 token blocks instead of 8.
-/

@[expose] public section

set_option maxRecDepth 16384

noncomputable section

namespace Cert.Moe

open Idealize.ShloMosaic Idealize.ShloMosaic.TcCoe Idealize.SL.Sem Cert.Kernel5Ideal Cert.Kernel5Ideal.Gen

/-- A coordinate of the sample's grid as one of the prompt's, which has more token blocks. -/
def wide (i : Cert.Kernel5Ideal.grid0.Coords) : Cert.KernelIdeal.grid0.Coords := fun a => match a with
  | ⟨0, _⟩ => ⟨(i 0).val, lt_of_lt_of_le (show (i 0).val < 4 from (i 0).isLt) (by decide : 4 ≤ 8)⟩
  | ⟨1, _⟩ => ⟨(i 1).val, (i 1).isLt⟩

/-- The hidden rows of a token block, as the sample's call has them. -/
def sampleHidden (M : Vec Ideal S1x6x1024 .f32) (X : Vec Ideal S1024x1024 .f32) : Vec Ideal S1024x1024 .bf16 :=
  k0_pay4 M X

/-- The expert weights of a token block's tokens, as the sample's call has them. -/
def sampleGates (M : Vec Ideal S1x6x1024 .f32) (X : Vec Ideal S1024x1024 .f32) (W : Vec Ideal S128x1024 .f32) :
    Vec Ideal S1024x128 .f32 :=
  k0_pay18 (k0_pay6 (F := Ideal)) (k0_pay12 (F := Ideal) (k0_pay7 (F := Ideal)) (k0_pay8 M X W) (k0_pay9 M X W))
    (k0_pay14 (k0_pay5 M X W) (k0_pay6 (F := Ideal)) (k0_pay10 M X W) (k0_pay11 (F := Ideal)))
    (k0_pay15 (k0_pay5 M X W) (k0_pay6 (F := Ideal)) (k0_pay10 M X W) (k0_pay11 (F := Ideal)))
    (k0_pay16 (k0_pay5 M X W) (k0_pay6 (F := Ideal)) (k0_pay10 M X W) (k0_pay11 (F := Ideal)))
    (k0_pay17 (k0_pay5 M X W) (k0_pay6 (F := Ideal)) (k0_pay10 M X W) (k0_pay11 (F := Ideal)))

/-- The accumulator after a point, as the sample's call has it. -/
def sampleStep (i : grid0.Coords) (H : Vec Ideal S1024x1024 .bf16) (G : Vec Ideal S1024x128 .f32)
    (A : Vec Ideal S1024x1024 .f32) (wg wu : Vec Ideal S4x1024x256 .bf16) (wd : Vec Ideal S4x256x1024 .bf16) :
    Vec Ideal S1024x1024 .f32 :=
  k0_pay1 (k0_pay20 i G)
    (k0_pay24 (k0_pay20 i G) H (k0_pay21 (k0_pay20 i G) H A (inSlice0 wg) (inSlice0 wu) (outSlice0 wd))
      (k0_pay22 H (inSlice1 wg) (inSlice1 wu)) (k0_pay23 (k0_pay20 i G)) (outSlice1 wd)
      (inSlice2 wg) (inSlice2 wu) (outSlice2 wd))
    (k0_pay25 H (inSlice3 wg)) (k0_pay26 H (inSlice3 wu)) (k0_pay27 (F := Ideal)) (outSlice3 wd)

theorem sampleHidden_eq (M X) : sampleHidden M X = hiddenBlock M X := rfl

theorem sampleGates_eq (M X W) : sampleGates M X W = gatesBlock M X W := rfl

theorem sampleStep_eq (i H G A wg wu wd) : sampleStep i H G A wg wu wd = accStep (wide i) H G A wg wu wd := rfl

variable (m : (ℓ : Loc nD τ sig) → Buf (Elt Ideal) ℓ)

/-- A token block's first point. -/
theorem sampleStAt_first (c : Dev nD) (t : Fin cfg0.N) (acc) (h0 : t.val % 8 = 0) (h1 : ¬ t.val % 8 = 7) :
    (Value.stAt0 m c t.val t.isLt acc).2
      = (sampleHidden (iblk m c 1 t) (iblk m c 0 t), sampleGates (iblk m c 1 t) (iblk m c 0 t) (iblk m c 2 t),
          sampleStep (grid0.coords t) (sampleHidden (iblk m c 1 t) (iblk m c 0 t))
            (sampleGates (iblk m c 1 t) (iblk m c 0 t) (iblk m c 2 t)) (k0_pay19 (F := Ideal))
            (iblk m c 3 t) (iblk m c 4 t) (iblk m c 5 t)) := by
  rw [Value.stAt0_A m c t acc h0 h1]
  frame_out
  rfl

/-- A point in the middle of a token block's eight. -/
theorem sampleStAt_middle (c : Dev nD) (t : Fin cfg0.N) (acc) (h0 : ¬ t.val % 8 = 0) (h1 : ¬ t.val % 8 = 7) :
    (Value.stAt0 m c t.val t.isLt acc).2
      = (acc.2.1, acc.2.2.1, sampleStep (grid0.coords t) acc.2.1 acc.2.2.1 acc.2.2.2 (iblk m c 3 t) (iblk m c 4 t)
          (iblk m c 5 t)) := by
  rw [Value.stAt0_B m c t acc h0 h1]
  frame_out
  simp only [read_unread_whole]
  rfl

/-- A token block's last point: it stores the normalised sum of the block's rows and the accumulator. -/
theorem sampleStAt_last (c : Dev nD) (t : Fin cfg0.N) (acc) (h0 : ¬ t.val % 8 = 0) (h1 : t.val % 8 = 7) :
    Value.stAt0 m c t.val t.isLt acc
      = (k0_pay2 (iblk m c 1 t) (iblk m c 0 t)
          (sampleStep (grid0.coords t) acc.2.1 acc.2.2.1 acc.2.2.2 (iblk m c 3 t) (iblk m c 4 t) (iblk m c 5 t))
          (iblk m c 6 t) (iblk m c 7 t),
        acc.2.1, acc.2.2.1, sampleStep (grid0.coords t) acc.2.1 acc.2.2.1 acc.2.2.2 (iblk m c 3 t) (iblk m c 4 t)
          (iblk m c 5 t)) := by
  rw [Value.stAt0_C m c t acc h0 h1]
  frame_out
  simp only [read_unread_whole]
  rfl

end Cert.Moe

end
-- ==== Proof.SampleOperands.lean ====
module

public import proofs.«01_k».proof.Proof.Gen.Kernel5Ideal.Value
public import Idealize.ShloMosaic.Lib.Pipeline.ValueKit
public import Idealize.ShloMosaic.Lib.Pointwise
public import proofs.«01_k».proof.Proof.Operands
public import Idealize.ShloMosaic.Lib.Claim
public import Idealize.ShloMosaic.Lib.Routing.OpsSet
public import Idealize.ShloMosaic.Lib.Routing.OpsPair

/-
  What the blocks of a grid point of the sample's call hold, in terms of the arguments. Point `t` is token block `t / 8`
  and expert group `t % 8`; the first two token blocks are the first request, the others the second.
-/

@[expose] public section

set_option maxRecDepth 16384

noncomputable section

namespace Cert.Moe

open Idealize.ShloMosaic Idealize.ShloMosaic.TcCoe Idealize.SL.Sem Cert.Kernel5Ideal Cert.Kernel5Ideal.Gen

/-- Where each window's block of point `t` lies. -/
theorem sampleBlockIndex : ∀ t : Fin cfg0.N,
    win0_0.index t = ![t.val / 8, 0] ∧ win0_1.index t = ![1 + t.val / 16, 0, 0] ∧ win0_2.index t = ![0, 0]
      ∧ win0_3.index t = ![t.val % 8, 0, 0] ∧ win0_4.index t = ![t.val % 8, 0, 0]
      ∧ win0_5.index t = ![t.val % 8, 0, 0] ∧ win0_6.index t = ![0, 0] ∧ win0_7.index t = ![0, 0] :=
  (by decide +kernel : ∀ t : Fin grid0.N, _)

/-- The second coordinate of point `t` is its expert group. -/
theorem samplePointGroup : ∀ t : Fin cfg0.N, ((grid0.coords t) 1).val = t.val % 8 :=
  (by decide +kernel : ∀ t : Fin grid0.N, _)

theorem samplePointCount (t : Fin cfg0.N) : t.val < 32 := t.isLt

variable (m : (ℓ : Loc nD τ sig) → Buf (Elt Ideal) ℓ) (c : Dev nD) (t : Fin cfg0.N)

theorem sampleBlkX (n d : Fin 1024) :
    iblk m c 0 t (ix2 n d) = m ((c : Thread nD τ).loc main_arg0) (ix2 ⟨1024 * (t.val / 8) + n.val, by have := samplePointCount t; omega⟩ d) := by
  have e := (sampleBlockIndex t).1
  blk_ext [iblk, V, e]

theorem sampleBlkM (k : Fin 6) (d : Fin 1024) :
    iblk m c 1 t (ix3 0 k d) = m ((c : Thread nD τ).loc main_arg1) (ix3 ⟨1 + t.val / 16, by have := samplePointCount t; omega⟩ k d) := by
  have e := (sampleBlockIndex t).2.1
  blk_ext [iblk, V, e]

theorem sampleBlkGate (q : Fin 4) (d : Fin 1024) (f : Fin 256) :
    iblk m c 3 t (ix3 q d f) = m ((c : Thread nD τ).loc main_arg4) (ix3 ⟨4 * (t.val % 8) + q.val, by omega⟩ d f) := by
  have e := (sampleBlockIndex t).2.2.2.1
  blk_ext [iblk, V, e]

theorem sampleBlkUp (q : Fin 4) (d : Fin 1024) (f : Fin 256) :
    iblk m c 4 t (ix3 q d f) = m ((c : Thread nD τ).loc main_arg5) (ix3 ⟨4 * (t.val % 8) + q.val, by omega⟩ d f) := by
  have e := (sampleBlockIndex t).2.2.2.2.1
  blk_ext [iblk, V, e]

theorem sampleBlkDown (q : Fin 4) (f : Fin 256) (d : Fin 1024) :
    iblk m c 5 t (ix3 q f d) = m ((c : Thread nD τ).loc main_arg6) (ix3 ⟨4 * (t.val % 8) + q.val, by omega⟩ f d) := by
  have e := (sampleBlockIndex t).2.2.2.2.2.1
  blk_ext [iblk, V, e]

theorem sampleBlkNormW (d : Fin 1024) : iblk m c 6 t (ix2 0 d) = m ((c : Thread nD τ).loc main_arg7) (ix1 d) := by
  have e := (sampleBlockIndex t).2.2.2.2.2.2.1
  have hx : (win0_6.blk t).view.emb (ix2 0 d) = ix2 0 d := by blk_ext [e]
  blk_simp [iblk, e]
  rw [hx]
  entry_read
  pointwise []

theorem sampleBlkNormB (d : Fin 1024) : iblk m c 7 t (ix2 0 d) = m ((c : Thread nD τ).loc main_arg8) (ix1 d) := by
  have e := (sampleBlockIndex t).2.2.2.2.2.2.2
  have hx : (win0_7.blk t).view.emb (ix2 0 d) = ix2 0 d := by blk_ext [e]
  blk_simp [iblk, e]
  rw [hx]
  entry_read
  pointwise []

theorem sampleBlkRouter_eq (r : Fin 128) (d : Fin 1024) :
    iblk m c 2 t (ix2 r d)
      = Host.scatter scatter_S128x1024_S1_S4x1024_01_n_0_0 (fun _ b => b)
          (Host.scatter scatter_S128x1024_S1_S32x1024_01_n_0_0 (fun _ b => b)
            (broadcastInDim S128x1024 ![] bcast_S_S128x1024 (constant (F := Ideal) S_ FTy.f32 0#32)) (fun _ => 0#32)
            (transpose S32x1024 [1, 0] (m ((c : Thread nD τ).loc main_arg3)) transposes_S1024x32_S32x1024_1_0))
          (fun _ => 32#32)
          (transpose S4x1024 [1, 0] (m ((c : Thread nD τ).loc main_arg2)) transposes_S1024x4_S4x1024_1_0) (ix2 r d) := by
  have e := (sampleBlockIndex t).2.2.1
  have hx : (win0_2.blk t).view.emb (ix2 r d) = ix2 r d := by blk_ext [e]
  blk_simp [iblk, e]
  rw [hx]
  entry_read
  rfl

/-- Row `e` of the assembled matrix is column `e` of the expert router. -/
theorem sampleBlkRouter_expert (e : Fin 32) (d : Fin 1024) :
    iblk m c 2 t (ix2 ⟨e.val, by omega⟩ d) = m ((c : Thread nD τ).loc main_arg3) (ix2 d e) := by
  rw [sampleBlkRouter_eq, Routing.scatter_set_miss _ _ _ _ _ fun k hk => ?_]
  · refine Routing.scatter_set_hit _ _ _ _ _ _ (fun k hk => ?_) (ix2 e d) ?_
    · obtain ⟨h0, h1⟩ := (expertRows_land _ _ _ _).1 hk
      simp at h0 h1
      rw [index2 k e d (by omega) (by omega)]
      pointwise []
    · exact (expertRows_land _ _ _ _).2 ⟨by simp, by simp⟩
  · obtain ⟨h0, h1⟩ := (groupRows_land _ _ _ _).1 hk
    have : (32#32 : BitVec 32).toInt = 32 := by decide
    rw [this] at h0
    simp only at h0
    omega

/-- Row `32 + k` of the assembled matrix is column `k` of the group router. -/
theorem sampleBlkRouter_group (g : Fin 4) (d : Fin 1024) :
    iblk m c 2 t (ix2 ⟨32 + g.val, by omega⟩ d) = m ((c : Thread nD τ).loc main_arg2) (ix2 d g) := by
  rw [sampleBlkRouter_eq]
  have hw : (32#32 : BitVec 32).toInt = 32 := by decide
  refine Routing.scatter_set_hit _ _ _ _ _ _ (fun k hk => ?_) (ix2 g d) ?_
  · obtain ⟨h0, h1⟩ := (groupRows_land _ _ _ _).1 hk
    rw [hw] at h0
    simp only at h0 h1
    rw [index2 k g d (by omega) (by omega)]
    pointwise []
  · refine (groupRows_land _ _ _ _).2 ⟨?_, by simp⟩
    rw [hw]
    simp

end Cert.Moe

end
-- ==== Proof.SampleKernel.lean ====
module

public import proofs.«01_k».proof.Proof.SamplePoints
public import proofs.«01_k».proof.Proof.SampleOperands
public import proofs.«01_k».proof.Proof.Sweep

/-
  What the sample call's array holds: its points' blocks are those of the layer the argument arrays spell, each token with
  its request's modulation row, and its points run as `Sweep.lean` says, so each block stored is the layer's result.
-/

@[expose] public section

set_option maxRecDepth 16384

noncomputable section

namespace Cert.Moe

open Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The layer's arguments, read off the sample call's argument arrays: each token has its request's modulation
    row. -/
def layerK5 : Layer 4096 where
  x n d := m ((c : Thread nD τ).loc main_arg0) (ix2 n d)
  mod n k d := m ((c : Thread nD τ).loc main_arg1) (ix3 ⟨1 + n.val / 2048, by omega⟩ k d)
  group d k := m ((c : Thread nD τ).loc main_arg2) (ix2 d k)
  router d k := m ((c : Thread nD τ).loc main_arg3) (ix2 d k)
  wg E d f := m ((c : Thread nD τ).loc main_arg4) (ix3 E d f)
  wu E d f := m ((c : Thread nD τ).loc main_arg5) (ix3 E d f)
  wd E f d := m ((c : Thread nD τ).loc main_arg6) (ix3 E f d)
  lnw d := m ((c : Thread nD τ).loc main_arg7) (ix1 d)
  lnb d := m ((c : Thread nD τ).loc main_arg8) (ix1 d)

/-- Token `r` of point `t`'s block. -/
def sampleTokenOf (t : Fin cfg0.N) (r : Fin 1024) : Fin 4096 :=
  ⟨1024 * (t.val / 8) + r.val, by have := samplePointCount t; omega⟩

/-- The blocks of the kernel's points. -/
def sampleBlocks (t : Fin cfg0.N) : PointBlocks :=
  ⟨iblk m c 0 t, iblk m c 1 t, iblk m c 2 t, iblk m c 3 t, iblk m c 4 t, iblk m c 5 t, iblk m c 6 t, iblk m c 7 t⟩

attribute [local irreducible] iblk Value.stAt0 outsAt0 accStep hiddenBlock gatesBlock sampleStep sampleHidden sampleGates

theorem sampleBlocksOf : BlocksOf (layerK5 m c) sampleTokenOf (sampleBlocks m c) where
  tok_val t r := rfl
  x t r d := sampleBlkX m c t r d
  mod t r k d := (sampleBlkM m c t k d).trans (congrArg (fun n => m ((c : Thread nD τ).loc main_arg1) (ix3 n k d))
    (Fin.ext (by have := r.isLt; simp only [sampleTokenOf]; omega)))
  group t k d := sampleBlkRouter_group m c t k d
  router t E d := sampleBlkRouter_expert m c t E d
  wg t q d f := sampleBlkGate m c t q d f
  wu t q d f := sampleBlkUp m c t q d f
  wd t q f d := sampleBlkDown m c t q f d
  lnw t d := sampleBlkNormW m c t d
  lnb t d := sampleBlkNormB m c t d

theorem sampleSwept : Swept (sampleBlocks m c) (fun t => wide (grid0.coords t)) (outsAt0 m c) where
  coord := samplePointGroup
  first n h h0 := by
    cases n with
    | zero =>
      rw [Value.outsAt0_zero, sampleStAt_first m c ⟨0, h⟩ _ h0 (by simp), sampleHidden_eq, sampleGates_eq, sampleStep_eq]
      rfl
    | succ n =>
      rw [Value.outsAt0_succ, sampleStAt_first m c ⟨n + 1, h⟩ _ h0 (by simp only; omega), sampleHidden_eq, sampleGates_eq,
        sampleStep_eq]
      rfl
  next n h h0 := by
    rw [Value.outsAt0_succ]
    by_cases h1 : (n + 1) % 8 = 7
    · rw [sampleStAt_last m c ⟨n + 1, h⟩ _ h0 h1, sampleStep_eq]
      rfl
    · rw [sampleStAt_middle m c ⟨n + 1, h⟩ _ h0 h1, sampleStep_eq]
      rfl
  last n h h1 := by
    obtain ⟨k, rfl⟩ : ∃ k, n = k + 1 := ⟨n - 1, by omega⟩
    rw [Value.outsAt0_succ, sampleStAt_last m c ⟨k + 1, h⟩ _ (by simp only; omega) h1, sampleStep_eq]
    rfl

variable (s : Fin 4096 → Fin 4) (a b : Fin 4096 → Fin 8)

/-- The kernel's array after the run. -/
theorem sampleKernelArray (hf : (layerK5 m c).FiniteLogits) (hc : (layerK5 m c).Choice s a b) (n : Fin 4096) (d : Fin 1024) :
    Value.G8 m c (ix2 n d) = (layerK5 m c).result s a b n d := by
  have hp : Value.pt8Of (ix2 n d) = 8 * (n.val / 1024) + 7 := by
    show 8 * (1 * (n.val / 1024 - 0) + 1 * (d.val / 1024 - 0)) + 7 = _
    omega
  have hlt : Value.pt8Of (ix2 n d) < cfg0.N := by rw [hp]; show _ < 32; omega
  have hl : Value.loc8Of (ix2 n d) = ix2 ⟨n.val % 1024, Nat.mod_lt _ (by decide)⟩ d :=
    index2 _ _ _ rfl (Nat.mod_eq_of_lt d.isLt)
  rw [Value.G8, dif_pos hlt, ← Value.outsAt0_sweep m c _ hlt, hl, (sampleSwept m c).stored (sampleBlocksOf m c) hf hc _ hlt (by rw [hp]; omega)]
  refine congrArg (fun n => (layerK5 m c).result s a b n d) (Fin.ext ?_)
  simp only [sampleTokenOf, hp]
  omega

end Cert.Moe

end
-- ==== Proof.SampleRoute.lean ====
module

public import proofs.«01_k».proof.Proof.Gen.Reference5Ideal.Run
public import Idealize.ShloMosaic.Lib.Pointwise
public import proofs.«01_k».proof.Proof.RowRoute

/-
  The sample reference's routing for one token, its values read with `RowRoute.lean`: its top-1 over the groups, the two row
  reads at the chosen group, its top-2 over that group's experts and the two softmaxes give the weights of the layer.
-/

@[expose] public section

set_option maxRecDepth 16384

noncomputable section

namespace Cert.Moe

open Idealize.ShloMosaic Idealize.ShloMosaic.TcCoe Idealize.SL.Sem Cert.Reference5Ideal Cert.Reference5Ideal.Gen Cert.Reference5Ideal.Value

variable (V0 : Valuation τ sig (Elt Ideal))

/-- The layer's arguments, read off the sample reference's argument arrays: each token has its request's modulation
    row. -/
def layerR5 : Layer 4096 where
  x n d := V0 (Proc.devRef .tc main_arg0) (ix2 n d)
  mod n k d := V0 (Proc.devRef .tc main_arg1) (ix3 ⟨1 + n.val / 2048, by omega⟩ k d)
  group d k := V0 (Proc.devRef .tc main_arg2) (ix2 d k)
  router d k := V0 (Proc.devRef .tc main_arg3) (ix2 d k)
  wg E d f := V0 (Proc.devRef .tc main_arg4) (ix3 E d f)
  wu E d f := V0 (Proc.devRef .tc main_arg5) (ix3 E d f)
  wd E f d := V0 (Proc.devRef .tc main_arg6) (ix3 E f d)
  lnw d := V0 (Proc.devRef .tc main_arg7) (ix1 d)
  lnb d := V0 (Proc.devRef .tc main_arg8) (ix1 d)

theorem sample_hidden (n : Fin 4096) (d : Fin 1024) : res_main_v18 V0 (ix2 n d) = (layerR5 V0).hid n d := by
  pointwise [res_main_v18]
  rfl

theorem sample_group (n : Fin 4096) (k : Fin 4) : res_main_v19 V0 (ix2 n k) = (layerR5 V0).glog n k := by
  pointwise [res_main_v19]
  simp only [sample_hidden]
  rfl

section token
variable {n : Fin 4096} {s : Fin 4} {a b : Fin 8} (hr : Routed ((layerR5 V0).glog n) ((layerR5 V0).elog n) s a b)
include hr

theorem sample_chosen : res_main_v31 V0 (ix1 n) = BitVec.ofNat 32 s.val := by
  pointwise [res_main_v31]
  exact top_one (res_main_v19 V0) _ n _ (sample_group V0 n) s hr.group

theorem sample_chosen0 : res_main_call0_v5 V0 (ix3 n 0 0) = BitVec.ofNat 32 s.val := by
  pointwise [res_main_call0_v5, res_main_v32]
  rw [sample_chosen V0 hr, chosen_word]

theorem sample_chosen1 : res_main_call1_v4 V0 (ix3 n 0 0) = BitVec.ofNat 32 s.val := by
  pointwise [res_main_call1_v4, res_main_v36]
  rw [sample_chosen V0 hr, chosen_word]

end token

/-- The chosen group is a group, so neither row read is replaced. -/
theorem sample_inside0 (S : Finset S4096x1x1.Idx) :
    S.fold IntOp.andi 1#1 (fun x => IntOp.andi (IntOp.cmpi CmpIPredicate.sge (res_main_call0_v5 V0 x) 0#32)
      (IntOp.cmpi CmpIPredicate.sle (res_main_call0_v5 V0 x) 3#32)) = 1#1 :=
  fold_inside _ (fun n => by
    obtain ⟨s, a, b, hr⟩ := exists_routed ((layerR5 V0).glog n) ((layerR5 V0).elog n)
    exact ⟨s, sample_chosen0 V0 hr⟩) S

theorem sample_inside1 (S : Finset S4096x1x1.Idx) :
    S.fold IntOp.andi 1#1 (fun x => IntOp.andi (IntOp.cmpi CmpIPredicate.sge (res_main_call1_v4 V0 x) 0#32)
      (IntOp.cmpi CmpIPredicate.sle (res_main_call1_v4 V0 x) 3#32)) = 1#1 :=
  fold_inside _ (fun n => by
    obtain ⟨s, a, b, hr⟩ := exists_routed ((layerR5 V0).glog n) ((layerR5 V0).elog n)
    exact ⟨s, sample_chosen1 V0 hr⟩) S

section token
variable {n : Fin 4096} {s : Fin 4} {a b : Fin 8} (hr : Routed ((layerR5 V0).glog n) ((layerR5 V0).elog n) s a b)
include hr

/-- The chosen group's expert logits. -/
theorem sample_row (k : Fin 8) : res_main_v38 V0 (ix2 n k) = (layerR5 V0).elog n s k := by
  pointwise [res_main_v38]
  rw [sample_inside1, select_one]
  refine (gather8_at _ _ _ n k s (sample_chosen1 V0 hr)).trans ?_
  pointwise []
  simp only [sample_hidden, Nat.mul_comm s.val 8]
  rfl

theorem sample_top (i : Fin 2) :
    res_main_values_3 V0 (ix2 n i) = (layerR5 V0).elog n s (pair a b i)
    ∧ (Host.topK S4096x2 1 (FloatOps.cmpfTotal CmpDirection.gt) (res_main_v38 V0) sliceFits_S4096x8_S4096x2).2 (ix2 n i)
        = BitVec.ofNat 32 (pair a b i).val :=
  top_two (res_main_v38 V0) _ n _ (sample_row V0 hr) a b hr.first hr.second i

/-- The group softmax's numerators. -/
theorem sample_groupExp (k : Fin 4) :
    res_main_v26 V0 (ix2 n k) = Ideal.exp ((layerR5 V0).glog n k - (layerR5 V0).glog n s) := by
  pointwise [res_main_v26]
  exact congrArg₂ (fun p q : EReal => Ideal.exp (p - q)) (sample_group V0 n k)
    (fold_row reducesTo_S4096x4_S4096_d1 n (res_main_v19 V0) ((layerR5 V0).glog n s)
      (fun k => le_of_eq_of_le (α := EReal) (sample_group V0 n k) (hr.group.le k)) ⟨s, sample_group V0 n s⟩)

/-- The expert softmax's numerators. -/
theorem sample_expertExp (i : Fin 2) :
    res_main_v45 V0 (ix2 n i) = Ideal.exp ((layerR5 V0).elog n s (pair a b i) - (layerR5 V0).elog n s a) := by
  pointwise [res_main_v45]
  exact congrArg₂ (fun p q : EReal => Ideal.exp (p - q)) (sample_top V0 hr i).1
    (fold_row reducesTo_S4096x2_S4096_d1 n (res_main_values_3 V0) ((layerR5 V0).elog n s a)
      (fun k => le_of_eq_of_le (α := EReal) (sample_top V0 hr k).1 (hr.first.le _)) ⟨0, (sample_top V0 hr 0).1⟩)

/-- The two weights the reference gives an expert, summed, are the layer's. -/
theorem sample_gate (hf : (layerR5 V0).FiniteLogits) (E : Fin 32) :
    (if E.val = 8 * s.val + a.val then (1 : EReal) else 0)
          * (Ideal.div (res_main_v45 V0 (ix2 n 0)) (HAdd.hAdd (α := EReal) (β := EReal) (γ := EReal) (res_main_v45 V0 (ix2 n 0)) (res_main_v45 V0 (ix2 n 1)))
            * Ideal.div (res_main_v26 V0 (ix2 n s)) (∑ k : Fin 4, (res_main_v26 V0 (ix2 n k) : EReal)))
        + (if E.val = 8 * s.val + b.val then (1 : EReal) else 0)
          * (Ideal.div (res_main_v45 V0 (ix2 n 1)) (HAdd.hAdd (α := EReal) (β := EReal) (γ := EReal) (res_main_v45 V0 (ix2 n 0)) (res_main_v45 V0 (ix2 n 1)))
            * Ideal.div (res_main_v26 V0 (ix2 n s)) (∑ k : Fin 4, (res_main_v26 V0 (ix2 n k) : EReal)))
      = gate ((layerR5 V0).glog n) ((layerR5 V0).elog n) s a b E.val :=
  gate_of (g := (layerR5 V0).glog n) (e := (layerR5 V0).elog n) (hf.expert n s a) (fun i => res_main_v45 V0 (ix2 n i))
    (sample_expertExp V0 hr) E (Ideal.div (res_main_v26 V0 (ix2 n s)) (∑ k : Fin 4, (res_main_v26 V0 (ix2 n k) : EReal)))
    (groupWeight_of (hf.group n s) (fun k => res_main_v26 V0 (ix2 n k)) (sample_groupExp V0 hr))

end token

end Cert.Moe

end
-- ==== Proof.SampleValue.lean ====
module

public import proofs.«01_k».proof.Proof.SampleRoute

/-
  The sample reference's array: every entry is the layer's result for its token.
-/

@[expose] public section

set_option maxRecDepth 16384

noncomputable section

namespace Cert.Moe

open Idealize.ShloMosaic Idealize.ShloMosaic.TcCoe Idealize.SL.Sem Cert.Reference5Ideal Cert.Reference5Ideal.Gen Cert.Reference5Ideal.Value

variable (V0 : Valuation τ sig (Elt Ideal))

/-- The experts' first products. -/
theorem sample_up (n : Fin 4096) (E : Fin 32) (f : Fin 256) :
    @Eq EReal (res_main_v62 V0 (ix3 n E f)) (∑ d, (layerR5 V0).hid n d * (layerR5 V0).wg E d f) := by
  pointwise [res_main_v62]
  simp only [sample_hidden]
  rfl

variable (s : Fin 4096 → Fin 4) (a b : Fin 4096 → Fin 8)
  (hf : (layerR5 V0).FiniteLogits) (hc : (layerR5 V0).Choice s a b)
include hf hc

/-- The row that is normalised. -/
theorem sample_residual (n : Fin 4096) (c : Fin 1024) :
    @Eq EReal (res_main_v73 V0 (ix2 n c))
      (residual ((layerR5 V0).x n) ((layerR5 V0).mod n 5) ((layerR5 V0).mixture s a b n) c) := by
  pointwise [res_main_v73]
  rw [sample_inside0, select_one, show Host.gather gather_S4096x4_S4096x1x1_S4096x1_n_1_0_0_1_2_11 _ (res_main_call0_v5 V0) (ix2 n 0) = _ from
    gather4_at _ _ _ n (s n) (sample_chosen0 V0 (hc n))]
  simp only [sample_up, sample_hidden, Fin.sum_univ_two (M := EReal), sample_chosen V0 (hc n), (sample_top V0 (hc n) _).2, expert_hit,
    bit_float]
  pointwise []
  refine congrArg₂ (fun p q : EReal => p + q) rfl (congrArg₂ (fun p q : EReal => p * q) rfl ?_)
  rw [Layer.mixture, mix]
  refine Finset.sum_congr (M := EReal) rfl fun E _ => ?_
  rw [expert]
  refine Finset.sum_congr (M := EReal) rfl fun f _ => ?_
  rw [silu_eq, Layer.weight, ← sample_gate V0 (hc n) hf E]
  rfl

/-- The row mean. -/
theorem sample_mean (n : Fin 4096) :
    @Eq EReal (res_main_v77 V0 (ix2 n 0))
      (mean (residual ((layerR5 V0).x n) ((layerR5 V0).mod n 5) ((layerR5 V0).mixture s a b n))) := by
  pointwise [res_main_v77]
  simp only [sample_residual V0 s a b hf hc]
  rfl

/-- The reference's result. -/
theorem sampleArray (n : Fin 4096) (c : Fin 1024) :
    addf (mulf (mulf (subf (res_main_v73 V0) (broadcastInDim S4096x1024 ![0, 1] bcast_S4096x1_S4096x1024_0_1 (res_main_v77 V0))) (broadcastInDim S4096x1024 ![0, 1] bcast_S4096x1_S4096x1024_0_1 (Host.rsqrt (addf (Host.divf (broadcastInDim S4096x1 ![0] bcast_S4096_S4096x1_0 (Host.reduceAdd (mulf (res_main_v79 V0) (res_main_v79 V0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 (V0 (Proc.devRef .tc main_arg7))))) (broadcastInDim S4096x1024 ![0, 1] bcast_S1x1024_S4096x1024_0_1 (broadcastInDim S1x1024 ![1] bcast_S1024_S1x1024_1 (V0 (Proc.devRef .tc main_arg8))))
        (ix2 n c) = (layerR5 V0).result s a b n c := by
  pointwise [res_main_v79]
  simp only [sample_residual V0 s a b hf hc, sample_mean V0 s a b hf hc]
  rfl

end Cert.Moe

end
-- ==== Proof.SamplePre.lean ====
module

public import proofs.«01_k».proof.Pre_finite_sample_logits
public import proofs.«01_k».proof.Proof.Pre

/-
  What the sample's precondition says: the tokens, the two modulation rows of each request and the two routers are finite.
-/

@[expose] public section

set_option maxRecDepth 16384

noncomputable section

namespace Cert.Moe

open Idealize.ShloMosaic Cert.Pre_finite_sample_logits

instance samplePreFacts : Cert.Pre_finite_sample_logits.Facts where
  bcast_S_S4096x1024 := by decide
  reducesTo_S4096x1024_S_d0_1 := by decide
  h_S_ := by decide
  slices_S8x6x1024_S2x2x1024_1_3_0 := by decide
  bcast_S_S2x2x1024 := by decide
  reducesTo_S2x2x1024_S_d0_1_2 := by decide
  bcast_S_S1024x4 := by decide
  reducesTo_S1024x4_S_d0_1 := by decide
  bcast_S_S1024x32 := by decide
  reducesTo_S1024x32_S_d0_1 := by decide

/-- The precondition's four conjuncts. -/
theorem samplePre_split (x0 : FVec Ideal S4096x1024 .f32) (x1 : FVec Ideal S8x6x1024 .f32) (x2 : FVec Ideal S1024x4 .f32)
    (x3 : FVec Ideal S1024x32 .f32) (x4 x5 : FVec Ideal S32x1024x256 .f32) (x6 : FVec Ideal S32x256x1024 .f32)
    (x7 x8 : FVec Ideal S1024 .f32)
    (h : Cert.Pre_finite_sample_logits.fn (F := Ideal) x0 x1 x2 x3 x4 x5 x6 x7 x8 = fun _ => 1#1) :
    (∀ i, IsFin (x0 i)) ∧ (∀ (q k : Fin 2) d, IsFin (x1 (ix3 ⟨1 + q.val, by omega⟩ ⟨3 + k.val, by omega⟩ d)))
      ∧ (∀ i, IsFin (x2 i)) ∧ ∀ i, IsFin (x3 i) := by
  have h := congrFun h (fun k => k.elim0)
  dsimp only [fn, fn_part1] at h
  obtain ⟨h, h3⟩ := IntOp.andi_eq_one.1 h
  obtain ⟨h, h2⟩ := IntOp.andi_eq_one.1 h
  obtain ⟨h0, h1⟩ := IntOp.andi_eq_one.1 h
  refine ⟨fin_of_all _ _ _ _ _ h0, fun q k d => ?_, fin_of_all _ _ _ _ _ h2, fin_of_all _ _ _ _ _ h3⟩
  have := fin_of_all _ _ _ _ _ h1 (ix3 q k d)
  pointwise [] at this
  exact this

end Cert.Moe

end
-- ==== Proof.Modulation.lean ====
module

public import proofs.«01_k».proof.Proof.Route
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

/-
  The modulation vectors: for each layer, the conditioning vectors through `x · σ(x)`, times the layer's matrix, plus
  its bias. The kernel's array (a layer and a sixth of the columns per grid point) and the reference's both hold
  `modulation` at every entry.
-/

@[expose] public section

set_option maxRecDepth 16384

noncomputable section

namespace Cert.Moe

open Idealize.ShloMosaic Idealize.ShloMosaic.TcCoe Idealize.SL.Sem

/-- Entry `k` of layer `l`'s vector for condition `b`. -/
def modulation (cond : Fin 8 → Fin 1024 → EReal) (w : Fin 2 → Fin 1024 → Fin 6144 → EReal) (bias : Fin 2 → Fin 6144 → EReal)
    (l : Fin 2) (b : Fin 8) (k : Fin 6144) : EReal :=
  ∑ d, cond b d * Ideal.div 1 (1 + Ideal.exp (-cond b d)) * w l d k + bias l k

section Kernel

open Cert.Kernel2Ideal Cert.Kernel2Ideal.Gen

/-- Where each window's block of point `t` lies. -/
theorem modBlockIndex : ∀ t : Fin cfg0.N,
    win0_0.index t = ![0, 0] ∧ win0_1.index t = ![t.val / 6, 0, t.val % 6] ∧ win0_2.index t = ![t.val / 6, 0, t.val % 6]
      ∧ win0_3.index t = ![t.val / 6, 0, t.val % 6] :=
  (by decide +kernel : ∀ t : Fin grid0.N, _)

theorem modPointCount (t : Fin cfg0.N) : t.val < 12 := t.isLt

variable (m : (ℓ : Loc nD τ sig) → Buf (Elt Ideal) ℓ) (c : Dev nD) (t : Fin cfg0.N)

theorem blkCond (b : Fin 8) (d : Fin 1024) :
    iblk m c 0 t (ix2 b d) = m ((c : Thread nD τ).loc main_arg0) (ix2 b d) := by
  have e := (modBlockIndex t).1
  blk_ext [iblk, V, e]

theorem blkModW (d k : Fin 1024) :
    iblk m c 1 t (ix3 0 d k) = m ((c : Thread nD τ).loc main_arg1)
      (ix3 ⟨t.val / 6, by have := modPointCount t; omega⟩ d ⟨1024 * (t.val % 6) + k.val, by omega⟩) := by
  have e := (modBlockIndex t).2.1
  blk_ext [iblk, V, e]

theorem blkModB (k : Fin 1024) :
    iblk m c 2 t (ix3 0 0 k) = m ((c : Thread nD τ).loc main_arg2)
      (ix2 ⟨t.val / 6, by have := modPointCount t; omega⟩ ⟨1024 * (t.val % 6) + k.val, by omega⟩) := by
  have e := (modBlockIndex t).2.2.1
  have hx : (win0_2.blk t).view.emb (ix3 0 0 k)
      = ix3 ⟨t.val / 6, by have := modPointCount t; omega⟩ 0 ⟨1024 * (t.val % 6) + k.val, by omega⟩ := by blk_ext [e]
  blk_simp [iblk, e]
  rw [hx]
  entry_read
  pointwise []

/-- The layer of modulation vectors the kernel program's arguments spell. -/
def modulationK (l : Fin 2) (b : Fin 8) (k : Fin 6144) : EReal :=
  modulation (fun b d => m ((c : Thread nD τ).loc main_arg0) (ix2 b d))
    (fun l d k => m ((c : Thread nD τ).loc main_arg1) (ix3 l d k))
    (fun l k => m ((c : Thread nD τ).loc main_arg2) (ix2 l k)) l b k

/-- What the body computes of its blocks. -/
theorem modPayload (C : Vec Ideal S8x1024 .f32) (W : Vec Ideal S1x1024x1024 .f32) (B : Vec Ideal S1x1x1024 .f32)
    (b : Fin 8) (k : Fin 1024) :
    @Eq EReal (k0_pay1 C W B (ix3 0 b k))
      (∑ d, HMul.hMul (α := EReal) (HMul.hMul (α := EReal) (C (ix2 b d)) (Ideal.div 1 (1 + Ideal.exp (-(C (ix2 b d) : EReal))))) (W (ix3 0 d k))
        + B (ix3 0 0 k)) := by
  pointwise [k0_pay1]
  refine congrArg₂ (fun p q : EReal => p + q) (Finset.sum_congr (M := EReal) rfl fun d _ => ?_) rfl
  rw [silu_eq]

/-- The kernel's array. -/
def modArray : S2x8x6144.Idx → EReal := fun i => modulationK m c (i 0) (i 1) (i 2)

theorem modKernel : (dats m 0 c).arrAt 3 cfg0.N = modArray m c := by
  refine (dats m 0 c).arrAt_eq_of_covers 3 _ (by decide +kernel) fun t hf y => ?_
  have e := (modBlockIndex t).2.2.2
  blk_simp
  rw [after0_3]
  frame_out
  obtain ⟨b, k, rfl⟩ : ∃ (b : Fin 8) (k : Fin 1024), y = ix3 0 b k :=
    ⟨y 1, y 2, (eq_ix3 y).trans (congrArg (fun a => ix3 a (y 1) (y 2)) (Fin.ext (by have h : (y 0).val < 1 := (y 0).isLt; show (y 0).val = 0; omega)))⟩
  have hx : (win0_3.blk t).view.emb (ix3 0 b k)
      = ix3 ⟨t.val / 6, by have := modPointCount t; omega⟩ b ⟨1024 * (t.val % 6) + k.val, by omega⟩ := by blk_ext [e]
  refine (modPayload _ _ _ b k).trans ?_
  refine Eq.trans ?_ (congrArg (modArray m c) hx).symm
  unfold modArray modulationK modulation
  refine congrArg₂ (fun p q : EReal => p + q) (Finset.sum_congr (M := EReal) rfl fun d _ => ?_) (blkModB m c t k)
  exact congrArg₂ (fun p q : EReal => p * Ideal.div 1 (1 + Ideal.exp (-p)) * q) (blkCond m c t b d) (blkModW m c t d k)

end Kernel

section Reference

open Cert.Reference2Ideal Cert.Reference2Ideal.Gen

variable (m : (ℓ : Loc nD τ sig) → Buf (Elt Ideal) ℓ) (c : Dev nD)

theorem modReference (l : Fin 2) (b : Fin 8) (k : Fin 6144) :
    @Eq EReal (addf (F := Ideal) (transpose S2x8x6144 [0, 2, 1] (Host.dotGeneral (φ₁ := .f32) (φ₂ := .f32) dot_S2x1024x6144_S8x1024_S2x6144x8_1_1_02_0_n_n none (m ((c.tc : Thread nD τ).loc main_arg1)) (mulf (m ((c.tc : Thread nD τ).loc main_arg0)) (Host.divf (broadcastInDim S8x1024 ![] bcast_S_S8x1024 (constant S_ .f32 0x3F800000#32)) (addf (broadcastInDim S8x1024 ![] bcast_S_S8x1024 (constant S_ .f32 0x3F800000#32)) (Host.exp (Host.negf (m ((c.tc : Thread nD τ).loc main_arg0)))))))) transposes_S2x6144x8_S2x8x6144_0_2_1) (broadcastInDim S2x8x6144 ![0, 1, 2] bcast_S2x1x6144_S2x8x6144_0_1_2 (broadcastInDim S2x1x6144 ![0, 2] bcast_S2x6144_S2x1x6144_0_2 (m ((c.tc : Thread nD τ).loc main_arg2)))) (ix3 l b k))
      (modulation (fun b d => m ((c.tc : Thread nD τ).loc main_arg0) (ix2 b d))
        (fun l d k => m ((c.tc : Thread nD τ).loc main_arg1) (ix3 l d k))
        (fun l k => m ((c.tc : Thread nD τ).loc main_arg2) (ix2 l k)) l b k) := by
  pointwise []
  rw [modulation]
  exact congrArg₂ (fun p q : EReal => p + q) (Finset.sum_congr (M := EReal) rfl fun d _ => mul_comm (G := EReal) _ _) rfl

end Reference

end Cert.Moe

end
-- ==== Proof.ProjectionColumns.lean ====
module

public import Idealize.ShloMosaic.Lib.Pipeline.ValueKit
public import Idealize.ShloMosaic.Lib.Pointwise
public import Idealize.ShloMosaic.Lib.Claim
public import Idealize.ShloMosaic.Lib.WholeRead

/-
  A token's projection and the arrays its columns are dealt out to, as a concatenation of column ranges and as pieces
  stored one by one. Both batches' calls and both references use these.
-/

@[expose] public section

set_option maxRecDepth 16384

noncomputable section

namespace Cert.Moe

open Idealize.ShloMosaic Idealize.ShloMosaic.TcCoe Idealize.SL.Sem

/-- Column `k` of a token's projection. -/
def proj (x scale shift : Fin 1024 → EReal) (w : Fin 1024 → Fin 3456 → EReal) (k : Fin 3456) : EReal :=
  ∑ d, (x d * (1 + scale d) + shift d) * w d k

/-- A projection's columns from `o` on. -/
def colsFrom {N : ℕ} (o : ℕ) (h : o + N ≤ 3456) (P : Fin 3456 → EReal) (k : Fin N) : EReal := P ⟨o + k.val, by omega⟩

/-- The queries: of the neighbourhood, the retention, the latent and the differential attention. -/
def queries (P : Fin 3456 → EReal) (k : Fin 1408) : EReal :=
  if h : k.val < 384 then P ⟨k.val, by omega⟩
  else if h : k.val < 768 then P ⟨1152 + (k.val - 384), by omega⟩
  else if h : k.val < 1152 then P ⟨2304 + (k.val - 768), by omega⟩
  else P ⟨2688 + (k.val - 1152), by omega⟩

/-- The keys and values: of the neighbourhood, the retention (its keys scaled by an eighth) and the differential
    attention. -/
def keysValues (eighth : EReal) (P : Fin 3456 → EReal) (k : Fin 2048) : EReal :=
  if h : k.val < 768 then P ⟨384 + k.val, by omega⟩
  else if h : k.val < 1152 then P ⟨1536 + (k.val - 768), by omega⟩ * eighth
  else if h : k.val < 1536 then P ⟨1920 + (k.val - 1152), by omega⟩
  else P ⟨2944 + (k.val - 1536), by omega⟩

/-- The queries as a concatenation of four column ranges. -/
theorem queries_concat (P : Fin 3456 → EReal) (k : Fin 1408) :
    (if h : k.val < 384 then P ⟨k.val, by omega⟩
      else if h : k.val - 384 < 384 then P ⟨1152 + (k.val - 384), by omega⟩
      else if h : k.val - 384 - 384 < 384 then P ⟨2304 + (k.val - 384 - 384), by omega⟩
      else P ⟨2688 + (k.val - 384 - 384 - 384), by omega⟩) = queries P k := by
  unfold queries
  have hk := k.isLt
  split_ifs <;> first | (exfalso; omega) | exact congrArg P (Fin.ext (by first | omega | (simp only []; omega)))

/-- The keys and values as a concatenation of six column ranges. -/
theorem keysValues_concat (eighth : EReal) (P : Fin 3456 → EReal) (k : Fin 2048) :
    (if h : k.val < 384 then P ⟨384 + k.val, by omega⟩
      else if h : k.val - 384 < 384 then P ⟨768 + (k.val - 384), by omega⟩
      else if h : k.val - 384 - 384 < 384 then P ⟨1536 + (k.val - 384 - 384), by omega⟩ * eighth
      else if h : k.val - 384 - 384 - 384 < 384 then P ⟨1920 + (k.val - 384 - 384 - 384), by omega⟩
      else if h : k.val - 384 - 384 - 384 - 384 < 256 then P ⟨2944 + (k.val - 384 - 384 - 384 - 384), by omega⟩
      else P ⟨3200 + (k.val - 384 - 384 - 384 - 384 - 256), by omega⟩) = keysValues eighth P k := by
  unfold keysValues
  have hk := k.isLt
  split_ifs <;> first | (exfalso; omega) | exact congrArg P (Fin.ext (by first | omega | (simp only []; omega))) |
    exact congrArg (fun j => P j * eighth) (Fin.ext (by first | omega | (simp only []; omega)))

/-- Each of the queries' four ranges is a column range of the projection. -/
theorem queries_from {M q o : ℕ} (h : M = 384 ∧ (q = 0 ∧ o = 0 ∨ q = 384 ∧ o = 1152 ∨ q = 768 ∧ o = 2304) ∨ M = 256 ∧ q = 1152 ∧ o = 2688)
    (ho : o + M ≤ 3456) (P : Fin 3456 → EReal) (k : Fin M) (hk : q + k.val < 1408) :
    queries P ⟨q + k.val, hk⟩ = colsFrom o ho P k := by
  have hM := k.isLt
  unfold queries colsFrom
  simp only []
  split_ifs <;> first | (exfalso; omega) | exact congrArg P (Fin.ext (by first | omega | (simp only []; omega)))

/-- Each of the keys' and values' unscaled ranges is a column range of the projection. -/
theorem keysValues_from {M q o : ℕ} (eighth : EReal)
    (h : M = 384 ∧ (q = 0 ∧ o = 384 ∨ q = 384 ∧ o = 768 ∨ q = 1152 ∧ o = 1920) ∨ M = 256 ∧ (q = 1536 ∧ o = 2944 ∨ q = 1792 ∧ o = 3200))
    (ho : o + M ≤ 3456) (P : Fin 3456 → EReal) (k : Fin M) (hk : q + k.val < 2048) :
    keysValues eighth P ⟨q + k.val, hk⟩ = colsFrom o ho P k := by
  have hM := k.isLt
  unfold keysValues colsFrom
  simp only []
  split_ifs <;> first | (exfalso; omega) | exact congrArg P (Fin.ext (by first | omega | (simp only []; omega)))

/-- The retention's keys are a column range of the projection, scaled. -/
theorem keysValues_scaled (eighth : EReal) (P : Fin 3456 → EReal) (k : Fin 384) (hk : 768 + k.val < 2048) :
    keysValues eighth P ⟨768 + k.val, hk⟩ = colsFrom (N := 384) 1536 (by decide) P k * eighth := by
  have hM := k.isLt
  unfold keysValues colsFrom
  simp only []
  split_ifs <;> first | (exfalso; omega) | exact congrArg (fun j => P j * eighth) (Fin.ext (by first | omega | (simp only []; omega)))

/-- A block of `N` columns, its rows' entries as `f` deals them out of the block's projection. -/
def dealt (p : (⟨2, ![512, 3456]⟩ : Shape).Idx → EReal) (φ : FTy) {N : ℕ} (f : (Fin 3456 → EReal) → Fin N → EReal) : FVec Ideal ⟨2, ![512, N]⟩ φ :=
  fun i => f (fun k => p (ix2 (i 0) k)) (i 1)

/-- A whole read of a whole buffer. -/
theorem wholeRead {sig : RefSig} {s : Shape} {e : EltTy} (arg : Memref sig .tc .vmem s e) (harg : arg.IsWhole)
    (x : s.Idx → Elt Ideal e) {off : Fin s.rank → ℕ} (h : off = fun _ => 0) (inb) :
    View.readAt (Elt Ideal) arg.view (Rect.unit off s.size inb).toLoadRect (harg.unread x) = x :=
  funext fun y => (harg.readAt_unread x _ y).trans (congrFun (View.ld_unit_zero h _ x) y)

theorem zero2 : (![0, 0] : Fin 2 → ℕ) = fun _ => 0 := by funext a; fin_cases a <;> rfl
theorem zero3 : (![0, 0, 0] : Fin 3 → ℕ) = fun _ => 0 := by funext a; fin_cases a <;> rfl

/-- A stored piece: `M` columns of the projection from `o` on, stored from column `q` on. -/
theorem piece (p : (⟨2, ![512, 3456]⟩ : Shape).Idx → EReal) {N M : ℕ} {φ : FTy} (f : (Fin 3456 → EReal) → Fin N → EReal) (g : (Fin 3456 → EReal) → Fin M → EReal) (q : ℕ) (inb)
    (hfg : ∀ P (k : Fin M) (h : q + k.val < N), f P ⟨q + k.val, h⟩ = g P k)
    (w : FVec Ideal ⟨2, ![512, M]⟩ φ) (hw : w = dealt p φ g)
    (x : (Rect.unit (s := ⟨2, ![512, N]⟩) ![0, q] ![512, M] inb).shape.Idx) :
    @Eq EReal (w x) (dealt p φ f ((Rect.unit (s := ⟨2, ![512, N]⟩) ![0, q] ![512, M] inb).emb x)) := by
  subst hw
  have hk : q + (x 1).val < N := lt_of_lt_of_le (Nat.add_lt_add_left (x 1).isLt q) (inb 1)
  have h0 : (Rect.unit (s := ⟨2, ![512, N]⟩) ![0, q] ![512, M] inb).emb x 0 = x 0 :=
    Fin.ext (by show 0 + 1 * (x 0).val = _; omega)
  have h1 : (Rect.unit (s := ⟨2, ![512, N]⟩) ![0, q] ![512, M] inb).emb x 1 = ⟨q + (x 1).val, hk⟩ :=
    Fin.ext (by show q + 1 * (x 1).val = q + (x 1).val; omega)
  unfold dealt
  rw [h0, h1]
  exact (hfg _ (x 1) hk).symm

end Cert.Moe

end
-- ==== Proof.Projection.lean ====
module

public import proofs.«01_k».proof.Proof.ProjectionColumns
public import proofs.«01_k».proof.Proof.Gen.Kernel3Ideal.Value
public import Idealize.ShloMosaic.Lib.Pipeline.ValueKit
public import Idealize.ShloMosaic.Lib.Pointwise
public import Idealize.ShloMosaic.Lib.Claim
public import Idealize.ShloMosaic.Lib.WholeRead

/-
  The prompt's projection: each token times the modulation's scale plus its shift, times the projection's matrix, and the
  six arrays the kernel stores.
-/

@[expose] public section

set_option maxRecDepth 16384

noncomputable section

namespace Cert.Moe

open Idealize.ShloMosaic Idealize.ShloMosaic.TcCoe Idealize.SL.Sem

section Kernel

open Cert.Kernel3Ideal Cert.Kernel3Ideal.Gen

/-- Where each window's block of point `t` lies. -/
theorem projBlockIndex : ∀ t : Fin cfg0.N,
    win0_0.index t = ![t.val, 0] ∧ win0_1.index t = ![0, 0, 0] ∧ win0_2.index t = ![0, 0]
      ∧ win0_3.index t = ![t.val, 0] ∧ win0_4.index t = ![t.val, 0] ∧ win0_5.index t = ![t.val, 0]
      ∧ win0_6.index t = ![t.val, 0] ∧ win0_7.index t = ![t.val, 0] ∧ win0_8.index t = ![t.val, 0] :=
  (by decide +kernel : ∀ t : Fin grid0.N, _)

theorem projPointCount (t : Fin cfg0.N) : t.val < 16 := t.isLt

variable (m : (ℓ : Loc nD τ sig) → Buf (Elt Ideal) ℓ) (c : Dev nD) (t : Fin cfg0.N)

/-- Token `r` of point `t`'s block. -/
def projToken (r : Fin 512) : Fin 8192 := ⟨512 * t.val + r.val, by have := projPointCount t; omega⟩

theorem blkTokens (r : Fin 512) (d : Fin 1024) :
    iblk m c 0 t (ix2 r d) = m ((c : Thread nD τ).loc main_arg0) (ix2 (projToken t r) d) := by
  have e := (projBlockIndex t).1
  blk_ext [iblk, V, e, projToken]

theorem blkVectors (k : Fin 6) (d : Fin 1024) :
    iblk m c 1 t (ix3 0 k d) = m ((c : Thread nD τ).loc main_arg1) (ix3 0 k d) := by
  have e := (projBlockIndex t).2.1
  blk_ext [iblk, V, e]

theorem blkMatrix (d : Fin 1024) (k : Fin 3456) :
    iblk m c 2 t (ix2 d k) = m ((c : Thread nD τ).loc main_arg2) (ix2 d k) := by
  have e := (projBlockIndex t).2.2.1
  have hx : (win0_2.blk t).view.emb (ix2 d k) = ix2 d k := by blk_ext [e]
  blk_simp [iblk, e]
  rw [hx]
  entry_read
  pointwise []

/-- What the body's product holds. -/
theorem projPayload (M : Vec Ideal S1x6x1024 .f32) (X : Vec Ideal S512x1024 .f32) (W : Vec Ideal S1024x3456 .bf16)
    (r : Fin 512) (k : Fin 3456) :
    @Eq EReal (k0_pay6 M X W (ix2 r k))
      (proj (fun d => X (ix2 r d)) (fun d => M (ix3 0 1 d)) (fun d => M (ix3 0 0 d)) (fun d k => W (ix2 d k)) k) := by
  pointwise [k0_pay6]
  rfl

/-- The projection of token `n`, of the kernel program's arguments. -/
def projK (n : Fin 8192) : Fin 3456 → EReal :=
  proj (fun d => m ((c : Thread nD τ).loc main_arg0) (ix2 n d)) (fun d => m ((c : Thread nD τ).loc main_arg1) (ix3 0 1 d))
    (fun d => m ((c : Thread nD τ).loc main_arg1) (ix3 0 0 d)) (fun d k => m ((c : Thread nD τ).loc main_arg2) (ix2 d k))

/-- The constant an eighth, as the kernel spells it. -/
def eighthK : EReal := Scalar.ofBits (F := Ideal) .f32 0x3E000000#32

theorem projBlock (r : Fin 512) (k : Fin 3456) :
    @Eq EReal (k0_pay6 (iblk m c 1 t) (iblk m c 0 t) (iblk m c 2 t) (ix2 r k)) (projK m c (projToken t r) k) := by
  rw [projPayload]
  unfold projK proj
  refine Finset.sum_congr (M := EReal) rfl fun d _ => ?_
  dsimp only
  rw [blkTokens, blkVectors, blkVectors, blkMatrix]

section Body

variable (i : grid0.Coords) (arg1 : Memref sig .tc .vmem S512x1024 .f32) (harg1 : arg1.IsWhole) (arg2 : Memref sig .tc .vmem S1x6x1024 .f32) (harg2 : arg2.IsWhole) (arg3 : Memref sig .tc .vmem S1024x3456 .bf16) (harg3 : arg3.IsWhole) (arg4 : Memref sig .tc .vmem S512x1408 .bf16) (harg4 : arg4.IsWhole) (arg5 : Memref sig .tc .vmem S512x2048 .bf16) (harg5 : arg5.IsWhole) (arg6 : Memref sig .tc .vmem S512x384 .f32) (harg6 : arg6.IsWhole) (arg7 : Memref sig .tc .vmem S512x384 .f32) (harg7 : arg7.IsWhole) (arg8 : Memref sig .tc .vmem S512x256 .f32) (harg8 : arg8.IsWhole) (arg9 : Memref sig .tc .vmem S512x256 .f32) (harg9 : arg9.IsWhole)
  (x0 : Vec Ideal S512x1024 .f32) (x1 : Vec Ideal S1x6x1024 .f32) (x2 : Vec Ideal S1024x3456 .bf16)

theorem projOut3 :
    out0_A_3 (F := Ideal) c i arg1 harg1 arg2 harg2 arg3 harg3 arg4 harg4 arg5 harg5 arg6 harg6 arg7 harg7 arg8 harg8 arg9 harg9 x0 x1 x2 = dealt (k0_pay6 x1 x0 x2) .bf16 queries := by
  funext y
  refine View.read_writes_apply_of_pieces (Val := Elt Ideal) VO0_3 VO0_3.junk (dealt (k0_pay6 x1 x0 x2) .bf16 queries) _ ?_ y
    (cover0_A_3 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  obtain rfl | rfl | rfl | rfl := hp
  · refine fun x => piece (k0_pay6 x1 x0 x2) _ (colsFrom (N := 256) 2688 (by decide)) 1152 (by decide) (fun P k h => ?_) _ ?_ x
    · exact queries_from (by decide) _ P k h
    · funext i
      rw [eq_ix2 i]
      pointwise [k0_pay16]
      rfl
  · refine fun x => piece (k0_pay6 x1 x0 x2) _ (colsFrom (N := 384) 2304 (by decide)) 768 (by decide) (fun P k h => ?_) _ ?_ x
    · exact queries_from (by decide) _ P k h
    · funext i
      rw [eq_ix2 i]
      pointwise [k0_pay15]
      rfl
  · refine fun x => piece (k0_pay6 x1 x0 x2) _ (colsFrom (N := 384) 1152 (by decide)) 384 (by decide) (fun P k h => ?_) _ ?_ x
    · exact queries_from (by decide) _ P k h
    · funext i
      rw [eq_ix2 i]
      pointwise [k0_pay14]
      rfl
  · refine fun x => piece (k0_pay6 x1 x0 x2) _ (colsFrom (N := 384) 0 (by decide)) 0 (by decide) (fun P k h => ?_) _ ?_ x
    · exact queries_from (by decide) _ P k h
    · funext i
      rw [eq_ix2 i]
      pointwise [k0_pay13]
      exact congrArg (fun j => k0_pay6 x1 x0 x2 (ix2 (i 0) j)) (Fin.ext (Nat.zero_add _).symm)

theorem projOut4 :
    out0_A_4 (F := Ideal) c i arg1 harg1 arg2 harg2 arg3 harg3 arg4 harg4 arg5 harg5 arg6 harg6 arg7 harg7 arg8 harg8 arg9 harg9 x0 x1 x2 = dealt (k0_pay6 x1 x0 x2) .bf16 (keysValues eighthK) := by
  funext y
  refine View.read_writes_apply_of_pieces (Val := Elt Ideal) VO0_4 VO0_4.junk (dealt (k0_pay6 x1 x0 x2) .bf16 (keysValues eighthK)) _ ?_ y
    (cover0_A_4 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  obtain rfl | rfl | rfl | rfl | rfl | rfl := hp
  · refine fun x => piece (k0_pay6 x1 x0 x2) _ (colsFrom (N := 256) 3200 (by decide)) 1792 (by decide) (fun P k h => ?_) _ ?_ x
    · exact keysValues_from _ (by decide) _ P k h
    · funext i
      rw [eq_ix2 i]
      pointwise [k0_pay5, k0_pay12]
      rfl
  · refine fun x => piece (k0_pay6 x1 x0 x2) _ (colsFrom (N := 256) 2944 (by decide)) 1536 (by decide) (fun P k h => ?_) _ ?_ x
    · exact keysValues_from _ (by decide) _ P k h
    · funext i
      rw [eq_ix2 i]
      pointwise [k0_pay4, k0_pay11]
      rfl
  · refine fun x => piece (k0_pay6 x1 x0 x2) _ (colsFrom (N := 384) 1920 (by decide)) 1152 (by decide) (fun P k h => ?_) _ ?_ x
    · exact keysValues_from _ (by decide) _ P k h
    · funext i
      rw [eq_ix2 i]
      pointwise [k0_pay3, k0_pay10]
      rfl
  · refine fun x => piece (k0_pay6 x1 x0 x2) _ (fun P k => colsFrom (N := 384) 1536 (by decide) P k * eighthK) 768 (by decide) (fun P k h => ?_) _ ?_ x
    · exact keysValues_scaled _ P k h
    · funext i
      rw [eq_ix2 i]
      pointwise [k0_pay2, k0_pay9]
      rfl
  · refine fun x => piece (k0_pay6 x1 x0 x2) _ (colsFrom (N := 384) 768 (by decide)) 384 (by decide) (fun P k h => ?_) _ ?_ x
    · exact keysValues_from _ (by decide) _ P k h
    · funext i
      rw [eq_ix2 i]
      pointwise [k0_pay1, k0_pay8]
      rfl
  · refine fun x => piece (k0_pay6 x1 x0 x2) _ (colsFrom (N := 384) 384 (by decide)) 0 (by decide) (fun P k h => ?_) _ ?_ x
    · exact keysValues_from _ (by decide) _ P k h
    · funext i
      rw [eq_ix2 i]
      pointwise [k0_pay17, k0_pay7]
      rfl

theorem projOut5 :
    out0_A_5 (F := Ideal) c i arg1 harg1 arg2 harg2 arg3 harg3 arg4 harg4 arg5 harg5 arg6 harg6 arg7 harg7 arg8 harg8 arg9 harg9 x0 x1 x2 = dealt (k0_pay6 x1 x0 x2) .f32 (colsFrom (N := 384) 384 (by decide)) := by
  funext y
  refine View.read_writes_apply_of_pieces (Val := Elt Ideal) VO0_5 VO0_5.junk (dealt (k0_pay6 x1 x0 x2) .f32 (colsFrom (N := 384) 384 (by decide))) _ ?_ y
    (cover0_A_5 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  subst hp
  · refine fun x => piece (k0_pay6 x1 x0 x2) _ (colsFrom (N := 384) 384 (by decide)) 0 (by decide) (fun P k h => ?_) _ ?_ x
    · unfold colsFrom
      have hk := k.isLt
      simp only []
      exact congrArg P (Fin.ext (by simp only []; omega))
    · funext i
      rw [eq_ix2 i]
      pointwise [k0_pay7]
      rfl

theorem projOut6 :
    out0_A_6 (F := Ideal) c i arg1 harg1 arg2 harg2 arg3 harg3 arg4 harg4 arg5 harg5 arg6 harg6 arg7 harg7 arg8 harg8 arg9 harg9 x0 x1 x2 = dealt (k0_pay6 x1 x0 x2) .f32 (colsFrom (N := 384) 768 (by decide)) := by
  funext y
  refine View.read_writes_apply_of_pieces (Val := Elt Ideal) VO0_6 VO0_6.junk (dealt (k0_pay6 x1 x0 x2) .f32 (colsFrom (N := 384) 768 (by decide))) _ ?_ y
    (cover0_A_6 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  subst hp
  · refine fun x => piece (k0_pay6 x1 x0 x2) _ (colsFrom (N := 384) 768 (by decide)) 0 (by decide) (fun P k h => ?_) _ ?_ x
    · unfold colsFrom
      have hk := k.isLt
      simp only []
      exact congrArg P (Fin.ext (by simp only []; omega))
    · funext i
      rw [eq_ix2 i]
      pointwise [k0_pay8]
      rfl

theorem projOut7 :
    out0_A_7 (F := Ideal) c i arg1 harg1 arg2 harg2 arg3 harg3 arg4 harg4 arg5 harg5 arg6 harg6 arg7 harg7 arg8 harg8 arg9 harg9 x0 x1 x2 = dealt (k0_pay6 x1 x0 x2) .f32 (colsFrom (N := 256) 2944 (by decide)) := by
  funext y
  refine View.read_writes_apply_of_pieces (Val := Elt Ideal) VO0_7 VO0_7.junk (dealt (k0_pay6 x1 x0 x2) .f32 (colsFrom (N := 256) 2944 (by decide))) _ ?_ y
    (cover0_A_7 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  subst hp
  · refine fun x => piece (k0_pay6 x1 x0 x2) _ (colsFrom (N := 256) 2944 (by decide)) 0 (by decide) (fun P k h => ?_) _ ?_ x
    · unfold colsFrom
      have hk := k.isLt
      simp only []
      exact congrArg P (Fin.ext (by simp only []; omega))
    · funext i
      rw [eq_ix2 i]
      pointwise [k0_pay11]
      rfl

theorem projOut8 :
    out0_A_8 (F := Ideal) c i arg1 harg1 arg2 harg2 arg3 harg3 arg4 harg4 arg5 harg5 arg6 harg6 arg7 harg7 arg8 harg8 arg9 harg9 x0 x1 x2 = dealt (k0_pay6 x1 x0 x2) .f32 (colsFrom (N := 256) 3200 (by decide)) := by
  funext y
  refine View.read_writes_apply_of_pieces (Val := Elt Ideal) VO0_8 VO0_8.junk (dealt (k0_pay6 x1 x0 x2) .f32 (colsFrom (N := 256) 3200 (by decide))) _ ?_ y
    (cover0_A_8 (F := Ideal) c i arg1 harg1 arg2 harg2 arg3 harg3 arg4 harg4 arg5 harg5 arg6 harg6 arg7 harg7 arg8 harg8 arg9 harg9 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  subst hp
  · refine fun x => piece (k0_pay6 x1 x0 x2) _ (colsFrom (N := 256) 3200 (by decide)) 0 (by decide) (fun P k h => ?_) _ ?_ x
    · unfold colsFrom
      have hk := k.isLt
      simp only []
      exact congrArg P (Fin.ext (by simp only []; omega))
    · funext i
      rw [eq_ix2 i]
      pointwise [k0_pay12]
      rfl

end Body

/-- A block's projection is its tokens'. -/
theorem dealt_block (φ : FTy) {N : ℕ} (f : (Fin 3456 → EReal) → Fin N → EReal) (r : Fin 512) (k : Fin N) :
    @Eq EReal (dealt (k0_pay6 (iblk m c 1 t) (iblk m c 0 t) (iblk m c 2 t)) φ f (ix2 r k)) (f (projK m c (projToken t r)) k) := by
  unfold dealt
  exact congrArg (fun P => f P k) (funext fun k => projBlock m c t r k)

/-- The array whose rows deal out the tokens' projections by `f`. -/
def projArray {N : ℕ} (f : (Fin 3456 → EReal) → Fin N → EReal) : (⟨2, ![8192, N]⟩ : Shape).Idx → EReal :=
  fun i => f (projK m c (i 0)) (i 1)

theorem projKernel3 : (dats m 0 c).arrAt 3 cfg0.N = projArray m c queries := by
  refine (dats m 0 c).arrAt_eq_of_covers 3 _ (by decide +kernel) fun t hf y => ?_
  have e := (projBlockIndex t).2.2.2.1
  blk_simp
  rw [after0_3]
  unfold outsAt0
  dsimp only
  rw [projOut3]
  obtain ⟨r, k, rfl⟩ : ∃ (r : Fin 512) (k : Fin 1408), y = ix2 r k := ⟨y 0, y 1, eq_ix2 y⟩
  have hx : (win0_3.blk t).view.emb (ix2 r k) = ix2 (projToken t r) k := by blk_ext [e, projToken]
  refine (dealt_block m c t .bf16 queries r k).trans ?_
  exact (congrArg (projArray m c queries) hx).symm

theorem projKernel4 : (dats m 0 c).arrAt 4 cfg0.N = projArray m c (keysValues eighthK) := by
  refine (dats m 0 c).arrAt_eq_of_covers 4 _ (by decide +kernel) fun t hf y => ?_
  have e := (projBlockIndex t).2.2.2.2.1
  blk_simp
  rw [after0_4]
  unfold outsAt0
  dsimp only
  rw [projOut4]
  obtain ⟨r, k, rfl⟩ : ∃ (r : Fin 512) (k : Fin 2048), y = ix2 r k := ⟨y 0, y 1, eq_ix2 y⟩
  have hx : (win0_4.blk t).view.emb (ix2 r k) = ix2 (projToken t r) k := by blk_ext [e, projToken]
  refine (dealt_block m c t .bf16 (keysValues eighthK) r k).trans ?_
  exact (congrArg (projArray m c (keysValues eighthK)) hx).symm

theorem projKernel5 : (dats m 0 c).arrAt 5 cfg0.N = projArray m c (colsFrom (N := 384) 384 (by decide)) := by
  refine (dats m 0 c).arrAt_eq_of_covers 5 _ (by decide +kernel) fun t hf y => ?_
  have e := (projBlockIndex t).2.2.2.2.2.1
  blk_simp
  rw [after0_5]
  unfold outsAt0
  dsimp only
  rw [projOut5]
  obtain ⟨r, k, rfl⟩ : ∃ (r : Fin 512) (k : Fin 384), y = ix2 r k := ⟨y 0, y 1, eq_ix2 y⟩
  have hx : (win0_5.blk t).view.emb (ix2 r k) = ix2 (projToken t r) k := by blk_ext [e, projToken]
  refine (dealt_block m c t .f32 (colsFrom (N := 384) 384 (by decide)) r k).trans ?_
  exact (congrArg (projArray m c (colsFrom (N := 384) 384 (by decide))) hx).symm

theorem projKernel6 : (dats m 0 c).arrAt 6 cfg0.N = projArray m c (colsFrom (N := 384) 768 (by decide)) := by
  refine (dats m 0 c).arrAt_eq_of_covers 6 _ (by decide +kernel) fun t hf y => ?_
  have e := (projBlockIndex t).2.2.2.2.2.2.1
  blk_simp
  rw [after0_6]
  unfold outsAt0
  dsimp only
  rw [projOut6]
  obtain ⟨r, k, rfl⟩ : ∃ (r : Fin 512) (k : Fin 384), y = ix2 r k := ⟨y 0, y 1, eq_ix2 y⟩
  have hx : (win0_6.blk t).view.emb (ix2 r k) = ix2 (projToken t r) k := by blk_ext [e, projToken]
  refine (dealt_block m c t .f32 (colsFrom (N := 384) 768 (by decide)) r k).trans ?_
  exact (congrArg (projArray m c (colsFrom (N := 384) 768 (by decide))) hx).symm

theorem projKernel7 : (dats m 0 c).arrAt 7 cfg0.N = projArray m c (colsFrom (N := 256) 2944 (by decide)) := by
  refine (dats m 0 c).arrAt_eq_of_covers 7 _ (by decide +kernel) fun t hf y => ?_
  have e := (projBlockIndex t).2.2.2.2.2.2.2.1
  blk_simp
  rw [after0_7]
  unfold outsAt0
  dsimp only
  rw [projOut7]
  obtain ⟨r, k, rfl⟩ : ∃ (r : Fin 512) (k : Fin 256), y = ix2 r k := ⟨y 0, y 1, eq_ix2 y⟩
  have hx : (win0_7.blk t).view.emb (ix2 r k) = ix2 (projToken t r) k := by blk_ext [e, projToken]
  refine (dealt_block m c t .f32 (colsFrom (N := 256) 2944 (by decide)) r k).trans ?_
  exact (congrArg (projArray m c (colsFrom (N := 256) 2944 (by decide))) hx).symm

theorem projKernel8 : (dats m 0 c).arrAt 8 cfg0.N = projArray m c (colsFrom (N := 256) 3200 (by decide)) := by
  refine (dats m 0 c).arrAt_eq_of_covers 8 _ (by decide +kernel) fun t hf y => ?_
  have e := (projBlockIndex t).2.2.2.2.2.2.2.2
  blk_simp
  rw [after0_8]
  unfold outsAt0
  dsimp only
  rw [projOut8]
  obtain ⟨r, k, rfl⟩ : ∃ (r : Fin 512) (k : Fin 256), y = ix2 r k := ⟨y 0, y 1, eq_ix2 y⟩
  have hx : (win0_8.blk t).view.emb (ix2 r k) = ix2 (projToken t r) k := by blk_ext [e, projToken]
  refine (dealt_block m c t .f32 (colsFrom (N := 256) 3200 (by decide)) r k).trans ?_
  exact (congrArg (projArray m c (colsFrom (N := 256) 3200 (by decide))) hx).symm

end Kernel

end Cert.Moe

end
-- ==== Proof.ProjectionReference.lean ====
module

public import proofs.«01_k».proof.Proof.Projection
public import proofs.«01_k».proof.Proof.Gen.Reference3Ideal.Run

/-
  The reference's projection: its six arrays deal out the columns of one product, as the kernel's do.
-/

@[expose] public section

set_option maxRecDepth 16384

noncomputable section

namespace Cert.Moe

open Idealize.ShloMosaic Idealize.ShloMosaic.TcCoe Idealize.SL.Sem Cert.Reference3Ideal Cert.Reference3Ideal.Gen Cert.Reference3Ideal.Value

variable (m : (ℓ : Loc nD τ sig) → Buf (Elt Ideal) ℓ) (c : Dev nD)

/-- The product the reference's arrays are cut from. -/
def hostProduct : FVec Ideal S8192x3456 .f32 :=
  (Host.dotGeneral (F := Ideal) (φ₁ := .f32) (φ₂ := .f32) dot_S8192x1024_S1024x3456_S8192x3456_1_0_0_1_n_n none (addf (mulf (m ((c.tc : Thread nD τ).loc main_arg0)) (broadcastInDim S8192x1024 ![0, 1] bcast_S1x1024_S8192x1024_0_1 (addf (broadcastInDim S1x1024 ![] bcast_S_S1x1024 (constant S_ .f32 0x3F800000#32)) (shapeCast _ (extractStridedSlice S1x1x1024 ![0, 1, 0] (m ((c.tc : Thread nD τ).loc main_arg1)) slices_S8x6x1024_S1x1x1024_0_1_0) shapeCasts_S1x1x1024_S1x1024)))) (broadcastInDim S8192x1024 ![0, 1] bcast_S1x1024_S8192x1024_0_1 (shapeCast _ (extractStridedSlice S1x1x1024 ![0, 0, 0] (m ((c.tc : Thread nD τ).loc main_arg1)) slices_S8x6x1024_S1x1x1024_0_0_0) shapeCasts_S1x1x1024_S1x1024))) (m ((c.tc : Thread nD τ).loc main_arg2)))

/-- The projection of token `n`, of the reference's arguments. -/
def projR (n : Fin 8192) : Fin 3456 → EReal :=
  proj (fun d => m ((c.tc : Thread nD τ).loc main_arg0) (ix2 n d)) (fun d => m ((c.tc : Thread nD τ).loc main_arg1) (ix3 0 1 d))
    (fun d => m ((c.tc : Thread nD τ).loc main_arg1) (ix3 0 0 d)) (fun d k => m ((c.tc : Thread nD τ).loc main_arg2) (ix2 d k))

theorem hostProduct_at (n : Fin 8192) (k : Fin 3456) : @Eq EReal (hostProduct m c (ix2 n k)) (projR m c n k) := by
  pointwise [hostProduct]
  rfl

/-- The array whose rows deal out the tokens' projections by `f`. -/
def projArrayR {N : ℕ} (f : (Fin 3456 → EReal) → Fin N → EReal) : (⟨2, ![8192, N]⟩ : Shape).Idx → EReal :=
  fun i => f (projR m c (i 0)) (i 1)

/-- The queries' array. -/
theorem projReference_v24 : truncf (F := Ideal) (φ := .f32) .bf16 ((concatenate S8192x1408 1 [⟨S8192x384, ((extractStridedSlice S8192x384 ![0, 0] (hostProduct m c) slices_S8192x3456_S8192x384_0_0) : (⟨S8192x384, .f32⟩ : BufTy).Contents (Elt Ideal))⟩, ⟨S8192x384, ((extractStridedSlice S8192x384 ![0, 1152] (hostProduct m c) slices_S8192x3456_S8192x384_0_1152) : (⟨S8192x384, .f32⟩ : BufTy).Contents (Elt Ideal))⟩, ⟨S8192x384, ((extractStridedSlice S8192x384 ![0, 2304] (hostProduct m c) slices_S8192x3456_S8192x384_0_2304) : (⟨S8192x384, .f32⟩ : BufTy).Contents (Elt Ideal))⟩, ⟨S8192x256, ((extractStridedSlice S8192x256 ![0, 2688] (hostProduct m c) slices_S8192x3456_S8192x256_0_2688) : (⟨S8192x256, .f32⟩ : BufTy).Contents (Elt Ideal))⟩] concatenates_S8192x384_S8192x384_S8192x384_S8192x256_S8192x1408_d1 : (⟨S8192x1408, .f32⟩ : BufTy).Contents (Elt Ideal))) bitsLt_bf16_f32
    = projArrayR m c queries := by
  funext i
  obtain ⟨n, k, rfl⟩ : ∃ (n : Fin 8192) (k : Fin 1408), i = ix2 n k := ⟨i 0, i 1, eq_ix2 i⟩
  pointwise []
  simp only [hostProduct_at]
  exact queries_concat (projR m c n) k

/-- The keys' and values' array. -/
theorem projReference_v26 : truncf (F := Ideal) (φ := .f32) .bf16 ((concatenate S8192x2048 1 [⟨S8192x384, ((extractStridedSlice S8192x384 ![0, 384] (hostProduct m c) slices_S8192x3456_S8192x384_0_384) : (⟨S8192x384, .f32⟩ : BufTy).Contents (Elt Ideal))⟩, ⟨S8192x384, ((extractStridedSlice S8192x384 ![0, 768] (hostProduct m c) slices_S8192x3456_S8192x384_0_768) : (⟨S8192x384, .f32⟩ : BufTy).Contents (Elt Ideal))⟩, ⟨S8192x384, ((mulf (extractStridedSlice S8192x384 ![0, 1536] (hostProduct m c) slices_S8192x3456_S8192x384_0_1536) (broadcastInDim S8192x384 ![] bcast_S_S8192x384 (constant S_ .f32 0x3E000000#32))) : (⟨S8192x384, .f32⟩ : BufTy).Contents (Elt Ideal))⟩, ⟨S8192x384, ((extractStridedSlice S8192x384 ![0, 1920] (hostProduct m c) slices_S8192x3456_S8192x384_0_1920) : (⟨S8192x384, .f32⟩ : BufTy).Contents (Elt Ideal))⟩, ⟨S8192x256, ((extractStridedSlice S8192x256 ![0, 2944] (hostProduct m c) slices_S8192x3456_S8192x256_0_2944) : (⟨S8192x256, .f32⟩ : BufTy).Contents (Elt Ideal))⟩, ⟨S8192x256, ((extractStridedSlice S8192x256 ![0, 3200] (hostProduct m c) slices_S8192x3456_S8192x256_0_3200) : (⟨S8192x256, .f32⟩ : BufTy).Contents (Elt Ideal))⟩] concatenates_S8192x384_S8192x384_S8192x384_S8192x384_S8192x256_S8192x256_S8192x2048_d1 : (⟨S8192x2048, .f32⟩ : BufTy).Contents (Elt Ideal))) bitsLt_bf16_f32
    = projArrayR m c (keysValues (Scalar.ofBits (F := Ideal) .f32 0x3E000000#32)) := by
  funext i
  obtain ⟨n, k, rfl⟩ : ∃ (n : Fin 8192) (k : Fin 2048), i = ix2 n k := ⟨i 0, i 1, eq_ix2 i⟩
  pointwise []
  simp only [hostProduct_at]
  exact keysValues_concat _ (projR m c n) k

/-- The four cached arrays. -/
theorem projReference_v12 : extractStridedSlice S8192x384 ![0, 384] (hostProduct m c) slices_S8192x3456_S8192x384_0_384
    = projArrayR m c (colsFrom (N := 384) 384 (by decide)) := by
  funext i
  obtain ⟨n, k, rfl⟩ : ∃ (n : Fin 8192) (k : Fin 384), i = ix2 n k := ⟨i 0, i 1, eq_ix2 i⟩
  pointwise []
  simp only [hostProduct_at]
  rfl

theorem projReference_v13 : extractStridedSlice S8192x384 ![0, 768] (hostProduct m c) slices_S8192x3456_S8192x384_0_768
    = projArrayR m c (colsFrom (N := 384) 768 (by decide)) := by
  funext i
  obtain ⟨n, k, rfl⟩ : ∃ (n : Fin 8192) (k : Fin 384), i = ix2 n k := ⟨i 0, i 1, eq_ix2 i⟩
  pointwise []
  simp only [hostProduct_at]
  rfl

theorem projReference_v19 : extractStridedSlice S8192x256 ![0, 2944] (hostProduct m c) slices_S8192x3456_S8192x256_0_2944
    = projArrayR m c (colsFrom (N := 256) 2944 (by decide)) := by
  funext i
  obtain ⟨n, k, rfl⟩ : ∃ (n : Fin 8192) (k : Fin 256), i = ix2 n k := ⟨i 0, i 1, eq_ix2 i⟩
  pointwise []
  simp only [hostProduct_at]
  rfl

theorem projReference_v20 : extractStridedSlice S8192x256 ![0, 3200] (hostProduct m c) slices_S8192x3456_S8192x256_0_3200
    = projArrayR m c (colsFrom (N := 256) 3200 (by decide)) := by
  funext i
  obtain ⟨n, k, rfl⟩ : ∃ (n : Fin 8192) (k : Fin 256), i = ix2 n k := ⟨i 0, i 1, eq_ix2 i⟩
  pointwise []
  simp only [hostProduct_at]
  rfl

end Cert.Moe

end
-- ==== Proof.SampleProjection.lean ====
module

public import proofs.«01_k».proof.Proof.Projection
public import proofs.«01_k».proof.Proof.Gen.Kernel6Ideal.Value
public import Idealize.ShloMosaic.Lib.Pipeline.ValueKit
public import Idealize.ShloMosaic.Lib.Pointwise
public import Idealize.ShloMosaic.Lib.Claim
public import Idealize.ShloMosaic.Lib.WholeRead

/-
  The sample's projection: the body of the prompt's, without the four caches, and with each request's own modulation row.
  A point's block of tokens lies in one request.
-/

@[expose] public section

set_option maxRecDepth 16384

noncomputable section

namespace Cert.Moe

open Idealize.ShloMosaic Idealize.ShloMosaic.TcCoe Idealize.SL.Sem

section Kernel

open Cert.Kernel6Ideal Cert.Kernel6Ideal.Gen

/-- Where each window's block of point `t` lies. -/
theorem sampleProjBlockIndex : ∀ t : Fin cfg0.N,
    win0_0.index t = ![t.val, 0] ∧ win0_1.index t = ![1 + t.val / 4, 0, 0] ∧ win0_2.index t = ![0, 0]
      ∧ win0_3.index t = ![t.val, 0] ∧ win0_4.index t = ![t.val, 0] :=
  (by decide +kernel : ∀ t : Fin grid0.N, _)

theorem sampleProjPointCount (t : Fin cfg0.N) : t.val < 8 := t.isLt

variable (m : (ℓ : Loc nD τ sig) → Buf (Elt Ideal) ℓ) (c : Dev nD) (t : Fin cfg0.N)

/-- Token `r` of point `t`'s block. -/
def sampleProjToken (r : Fin 512) : Fin 4096 := ⟨512 * t.val + r.val, by have := sampleProjPointCount t; omega⟩

/-- The modulation row of token `n`'s request. -/
def requestRow (n : Fin 4096) : Fin 8 := ⟨1 + n.val / 2048, by omega⟩

/-- All tokens of a point's block are of one request. -/
theorem sampleProjToken_row (r : Fin 512) :
    requestRow (sampleProjToken t r) = ⟨1 + t.val / 4, by have := sampleProjPointCount t; omega⟩ :=
  Fin.ext (show 1 + (512 * t.val + r.val) / 2048 = 1 + t.val / 4 by omega)

theorem sampleBlkTokens (r : Fin 512) (d : Fin 1024) :
    iblk m c 0 t (ix2 r d) = m ((c : Thread nD τ).loc main_arg0) (ix2 (sampleProjToken t r) d) := by
  have e := (sampleProjBlockIndex t).1
  blk_ext [iblk, V, e, sampleProjToken]

theorem sampleBlkVectors (k : Fin 6) (d : Fin 1024) :
    iblk m c 1 t (ix3 0 k d) = m ((c : Thread nD τ).loc main_arg1) (ix3 ⟨1 + t.val / 4, by have := sampleProjPointCount t; omega⟩ k d) := by
  have e := (sampleProjBlockIndex t).2.1
  blk_ext [iblk, V, e]

theorem sampleBlkMatrix (d : Fin 1024) (k : Fin 3456) :
    iblk m c 2 t (ix2 d k) = m ((c : Thread nD τ).loc main_arg2) (ix2 d k) := by
  have e := (sampleProjBlockIndex t).2.2.1
  have hx : (win0_2.blk t).view.emb (ix2 d k) = ix2 d k := by blk_ext [e]
  blk_simp [iblk, e]
  rw [hx]
  entry_read
  pointwise []

/-- What the body's product holds. -/
theorem sampleProjPayload (M : Vec Ideal S1x6x1024 .f32) (X : Vec Ideal S512x1024 .f32) (W : Vec Ideal S1024x3456 .bf16)
    (r : Fin 512) (k : Fin 3456) :
    @Eq EReal (k0_pay6 M X W (ix2 r k))
      (proj (fun d => X (ix2 r d)) (fun d => M (ix3 0 1 d)) (fun d => M (ix3 0 0 d)) (fun d k => W (ix2 d k)) k) := by
  pointwise [k0_pay6]
  rfl

/-- The projection of token `n`, of the kernel program's arguments. -/
def sampleProjK (n : Fin 4096) : Fin 3456 → EReal :=
  proj (fun d => m ((c : Thread nD τ).loc main_arg0) (ix2 n d)) (fun d => m ((c : Thread nD τ).loc main_arg1) (ix3 (requestRow n) 1 d))
    (fun d => m ((c : Thread nD τ).loc main_arg1) (ix3 (requestRow n) 0 d)) (fun d k => m ((c : Thread nD τ).loc main_arg2) (ix2 d k))

theorem sampleProjBlock (r : Fin 512) (k : Fin 3456) :
    @Eq EReal (k0_pay6 (iblk m c 1 t) (iblk m c 0 t) (iblk m c 2 t) (ix2 r k)) (sampleProjK m c (sampleProjToken t r) k) := by
  rw [sampleProjPayload]
  unfold sampleProjK proj
  refine Finset.sum_congr (M := EReal) rfl fun d _ => ?_
  dsimp only
  rw [sampleBlkTokens, sampleBlkVectors, sampleBlkVectors, sampleBlkMatrix, sampleProjToken_row]

section Body

variable (i : grid0.Coords) (arg1 : Memref sig .tc .vmem S512x1024 .f32) (harg1 : arg1.IsWhole) (arg2 : Memref sig .tc .vmem S1x6x1024 .f32) (harg2 : arg2.IsWhole) (arg3 : Memref sig .tc .vmem S1024x3456 .bf16) (harg3 : arg3.IsWhole) (arg4 : Memref sig .tc .vmem S512x1408 .bf16) (harg4 : arg4.IsWhole) (arg5 : Memref sig .tc .vmem S512x2048 .bf16) (harg5 : arg5.IsWhole)
  (x0 : Vec Ideal S512x1024 .f32) (x1 : Vec Ideal S1x6x1024 .f32) (x2 : Vec Ideal S1024x3456 .bf16)

theorem sampleProjOut3 :
    out0_A_3 (F := Ideal) c i arg1 harg1 arg2 harg2 arg3 harg3 arg4 harg4 arg5 harg5 x0 x1 x2 = dealt (k0_pay6 x1 x0 x2) .bf16 queries := by
  funext y
  refine View.read_writes_apply_of_pieces (Val := Elt Ideal) VO0_3 VO0_3.junk (dealt (k0_pay6 x1 x0 x2) .bf16 queries) _ ?_ y
    (cover0_A_3 (F := Ideal) c i arg1 harg1 arg2 harg2 arg3 harg3 arg4 harg4 arg5 harg5 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  obtain rfl | rfl | rfl | rfl := hp
  · refine fun x => piece (k0_pay6 x1 x0 x2) _ (colsFrom (N := 256) 2688 (by decide)) 1152 (by decide) (fun P k h => ?_) _ ?_ x
    · exact queries_from (by decide) _ P k h
    · funext i
      rw [eq_ix2 i]
      pointwise [k0_pay15]
      rfl
  · refine fun x => piece (k0_pay6 x1 x0 x2) _ (colsFrom (N := 384) 2304 (by decide)) 768 (by decide) (fun P k h => ?_) _ ?_ x
    · exact queries_from (by decide) _ P k h
    · funext i
      rw [eq_ix2 i]
      pointwise [k0_pay14]
      rfl
  · refine fun x => piece (k0_pay6 x1 x0 x2) _ (colsFrom (N := 384) 1152 (by decide)) 384 (by decide) (fun P k h => ?_) _ ?_ x
    · exact queries_from (by decide) _ P k h
    · funext i
      rw [eq_ix2 i]
      pointwise [k0_pay13]
      rfl
  · refine fun x => piece (k0_pay6 x1 x0 x2) _ (colsFrom (N := 384) 0 (by decide)) 0 (by decide) (fun P k h => ?_) _ ?_ x
    · exact queries_from (by decide) _ P k h
    · funext i
      rw [eq_ix2 i]
      pointwise [k0_pay12]
      exact congrArg (fun j => k0_pay6 x1 x0 x2 (ix2 (i 0) j)) (Fin.ext (Nat.zero_add _).symm)

theorem sampleProjOut4 :
    out0_A_4 (F := Ideal) c i arg1 harg1 arg2 harg2 arg3 harg3 arg4 harg4 arg5 harg5 x0 x1 x2 = dealt (k0_pay6 x1 x0 x2) .bf16 (keysValues eighthK) := by
  funext y
  refine View.read_writes_apply_of_pieces (Val := Elt Ideal) VO0_4 VO0_4.junk (dealt (k0_pay6 x1 x0 x2) .bf16 (keysValues eighthK)) _ ?_ y
    (cover0_A_4 (F := Ideal) c i arg1 harg1 arg2 harg2 arg3 harg3 arg4 harg4 arg5 harg5 x0 x1 x2 y)
  unfold kernelRun0_A
  dsimp only
  sl_unfold_words
  rw [wholeRead arg1 harg1 x0 zero2, wholeRead arg2 harg2 x1 zero3, wholeRead arg3 harg3 x2 zero2]
  intro p hp
  simp only [List.mem_cons, List.not_mem_nil, or_false] at hp
  obtain rfl | rfl | rfl | rfl | rfl | rfl := hp
  · refine fun x => piece (k0_pay6 x1 x0 x2) _ (colsFrom (N := 256) 3200 (by decide)) 1792 (by decide) (fun P k h => ?_) _ ?_ x
    · exact keysValues_from _ (by decide) _ P k h
    · funext i
      rw [eq_ix2 i]
      pointwise [k0_pay5, k0_pay11]
      rfl
  · refine fun x => piece (k0_pay6 x1 x0 x2) _ (colsFrom (N := 256) 2944 (by decide)) 1536 (by decide) (fun P k h => ?_) _ ?_ x
    · exact keysValues_from _ (by decide) _ P k h
    · funext i
      rw [eq_ix2 i]
      pointwise [k0_pay4, k0_pay10]
      rfl
  · refine fun x => piece (k0_pay6 x1 x0 x2) _ (colsFrom (N := 384) 1920 (by decide)) 1152 (by decide) (fun P k h => ?_) _ ?_ x
    · exact keysValues_from _ (by decide) _ P k h
    · funext i
      rw [eq_ix2 i]
      pointwise [k0_pay3, k0_pay9]
      rfl
  · refine fun x => piece (k0_pay6 x1 x0 x2) _ (fun P k => colsFrom (N := 384) 1536 (by decide) P k * eighthK) 768 (by decide) (fun P k h => ?_) _ ?_ x
    · exact keysValues_scaled _ P k h
    · funext i
      rw [eq_ix2 i]
      pointwise [k0_pay2, k0_pay8]
      rfl
  · refine fun x => piece (k0_pay6 x1 x0 x2) _ (colsFrom (N := 384) 768 (by decide)) 384 (by decide) (fun P k h => ?_) _ ?_ x
    · exact keysValues_from _ (by decide) _ P k h
    · funext i
      rw [eq_ix2 i]
      pointwise [k0_pay1, k0_pay7]
      rfl
  · refine fun x => piece (k0_pay6 x1 x0 x2) _ (colsFrom (N := 384) 384 (by decide)) 0 (by decide) (fun P k h => ?_) _ ?_ x
    · exact keysValues_from _ (by decide) _ P k h
    · funext i
      rw [eq_ix2 i]
      pointwise [k0_pay16]
      rfl

end Body

/-- A block's projection is its tokens'. -/
theorem sampleDealt_block (φ : FTy) {N : ℕ} (f : (Fin 3456 → EReal) → Fin N → EReal) (r : Fin 512) (k : Fin N) :
    @Eq EReal (dealt (k0_pay6 (iblk m c 1 t) (iblk m c 0 t) (iblk m c 2 t)) φ f (ix2 r k)) (f (sampleProjK m c (sampleProjToken t r)) k) := by
  unfold dealt
  exact congrArg (fun P => f P k) (funext fun k => sampleProjBlock m c t r k)

/-- The array whose rows deal out the tokens' projections by `f`. -/
def sampleProjArray {N : ℕ} (f : (Fin 3456 → EReal) → Fin N → EReal) : (⟨2, ![4096, N]⟩ : Shape).Idx → EReal :=
  fun i => f (sampleProjK m c (i 0)) (i 1)

theorem sampleProjKernel3 : (dats m 0 c).arrAt 3 cfg0.N = sampleProjArray m c queries := by
  refine (dats m 0 c).arrAt_eq_of_covers 3 _ (by decide +kernel) fun t hf y => ?_
  have e := (sampleProjBlockIndex t).2.2.2.1
  blk_simp
  rw [after0_3]
  unfold outsAt0
  dsimp only
  rw [sampleProjOut3]
  obtain ⟨r, k, rfl⟩ : ∃ (r : Fin 512) (k : Fin 1408), y = ix2 r k := ⟨y 0, y 1, eq_ix2 y⟩
  have hx : (win0_3.blk t).view.emb (ix2 r k) = ix2 (sampleProjToken t r) k := by blk_ext [e, sampleProjToken]
  refine (sampleDealt_block m c t .bf16 queries r k).trans ?_
  exact (congrArg (sampleProjArray m c queries) hx).symm

theorem sampleProjKernel4 : (dats m 0 c).arrAt 4 cfg0.N = sampleProjArray m c (keysValues eighthK) := by
  refine (dats m 0 c).arrAt_eq_of_covers 4 _ (by decide +kernel) fun t hf y => ?_
  have e := (sampleProjBlockIndex t).2.2.2.2
  blk_simp
  rw [after0_4]
  unfold outsAt0
  dsimp only
  rw [sampleProjOut4]
  obtain ⟨r, k, rfl⟩ : ∃ (r : Fin 512) (k : Fin 2048), y = ix2 r k := ⟨y 0, y 1, eq_ix2 y⟩
  have hx : (win0_4.blk t).view.emb (ix2 r k) = ix2 (sampleProjToken t r) k := by blk_ext [e, sampleProjToken]
  refine (sampleDealt_block m c t .bf16 (keysValues eighthK) r k).trans ?_
  exact (congrArg (sampleProjArray m c (keysValues eighthK)) hx).symm

end Kernel

end Cert.Moe

end
-- ==== Proof.SampleProjectionReference.lean ====
module

public import proofs.«01_k».proof.Proof.SampleProjection
public import proofs.«01_k».proof.Proof.Gen.Reference6Ideal.Run

/-
  The sample reference's projection: its two arrays deal out the columns of one product, as the kernel's do.
-/

@[expose] public section

set_option maxRecDepth 16384

noncomputable section

namespace Cert.Moe

open Idealize.ShloMosaic Idealize.ShloMosaic.TcCoe Idealize.SL.Sem Cert.Reference6Ideal Cert.Reference6Ideal.Gen Cert.Reference6Ideal.Value

variable (m : (ℓ : Loc nD τ sig) → Buf (Elt Ideal) ℓ) (c : Dev nD)

/-- The product the reference's arrays are cut from. -/
def sampleHostProduct : FVec Ideal S4096x3456 .f32 :=
  Host.dotGeneral (F := Ideal) (φ₁ := .f32) (φ₂ := .f32) dot_S4096x1024_S1024x3456_S4096x3456_1_0_0_1_n_n none (addf (mulf (m ((c.tc : Thread nD τ).loc main_arg0)) (addf (broadcastInDim S4096x1024 ![] bcast_S_S4096x1024 (constant S_ .f32 0x3F800000#32)) (shapeCast _ (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 1, 0] (m ((c.tc : Thread nD τ).loc main_arg1)) slices_S8x6x1024_S2x1x1024_1_1_0) shapeCasts_S2x1x1024_S2x1024))) shapeCasts_S2x2048x1024_S4096x1024))) (shapeCast _ (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![1, 0, 0] (m ((c.tc : Thread nD τ).loc main_arg1)) slices_S8x6x1024_S2x1x1024_1_0_0) shapeCasts_S2x1x1024_S2x1024))) shapeCasts_S2x2048x1024_S4096x1024)) (m ((c.tc : Thread nD τ).loc main_arg2))

/-- The projection of token `n`, of the reference's arguments. -/
def sampleProjR (n : Fin 4096) : Fin 3456 → EReal :=
  proj (fun d => m ((c.tc : Thread nD τ).loc main_arg0) (ix2 n d)) (fun d => m ((c.tc : Thread nD τ).loc main_arg1) (ix3 (requestRow n) 1 d))
    (fun d => m ((c.tc : Thread nD τ).loc main_arg1) (ix3 (requestRow n) 0 d)) (fun d k => m ((c.tc : Thread nD τ).loc main_arg2) (ix2 d k))

theorem sampleHostProduct_at (n : Fin 4096) (k : Fin 3456) : @Eq EReal (sampleHostProduct m c (ix2 n k)) (sampleProjR m c n k) := by
  pointwise [sampleHostProduct]
  rfl

/-- The array whose rows deal out the tokens' projections by `f`. -/
def sampleProjArrayR {N : ℕ} (f : (Fin 3456 → EReal) → Fin N → EReal) : (⟨2, ![4096, N]⟩ : Shape).Idx → EReal :=
  fun i => f (sampleProjR m c (i 0)) (i 1)

/-- The queries' array. -/
theorem sampleProjReference_queries : truncf (F := Ideal) (φ := .f32) .bf16 ((concatenate S4096x1408 1 [⟨S4096x384, ((extractStridedSlice S4096x384 ![0, 0] (sampleHostProduct m c) slices_S4096x3456_S4096x384_0_0) : (⟨S4096x384, .f32⟩ : BufTy).Contents (Elt Ideal))⟩, ⟨S4096x384, ((extractStridedSlice S4096x384 ![0, 1152] (sampleHostProduct m c) slices_S4096x3456_S4096x384_0_1152) : (⟨S4096x384, .f32⟩ : BufTy).Contents (Elt Ideal))⟩, ⟨S4096x384, ((extractStridedSlice S4096x384 ![0, 2304] (sampleHostProduct m c) slices_S4096x3456_S4096x384_0_2304) : (⟨S4096x384, .f32⟩ : BufTy).Contents (Elt Ideal))⟩, ⟨S4096x256, ((extractStridedSlice S4096x256 ![0, 2688] (sampleHostProduct m c) slices_S4096x3456_S4096x256_0_2688) : (⟨S4096x256, .f32⟩ : BufTy).Contents (Elt Ideal))⟩] concatenates_S4096x384_S4096x384_S4096x384_S4096x256_S4096x1408_d1 : (⟨S4096x1408, .f32⟩ : BufTy).Contents (Elt Ideal))) bitsLt_bf16_f32
    = sampleProjArrayR m c queries := by
  funext i
  obtain ⟨n, k, rfl⟩ : ∃ (n : Fin 4096) (k : Fin 1408), i = ix2 n k := ⟨i 0, i 1, eq_ix2 i⟩
  pointwise []
  simp only [sampleHostProduct_at]
  exact queries_concat (sampleProjR m c n) k

/-- The keys' and values' array. -/
theorem sampleProjReference_keys_values : truncf (F := Ideal) (φ := .f32) .bf16 ((concatenate S4096x2048 1 [⟨S4096x384, ((extractStridedSlice S4096x384 ![0, 384] (sampleHostProduct m c) slices_S4096x3456_S4096x384_0_384) : (⟨S4096x384, .f32⟩ : BufTy).Contents (Elt Ideal))⟩, ⟨S4096x384, ((extractStridedSlice S4096x384 ![0, 768] (sampleHostProduct m c) slices_S4096x3456_S4096x384_0_768) : (⟨S4096x384, .f32⟩ : BufTy).Contents (Elt Ideal))⟩, ⟨S4096x384, ((mulf (extractStridedSlice S4096x384 ![0, 1536] (sampleHostProduct m c) slices_S4096x3456_S4096x384_0_1536) (broadcastInDim S4096x384 ![] bcast_S_S4096x384 (constant S_ .f32 0x3E000000#32))) : (⟨S4096x384, .f32⟩ : BufTy).Contents (Elt Ideal))⟩, ⟨S4096x384, ((extractStridedSlice S4096x384 ![0, 1920] (sampleHostProduct m c) slices_S4096x3456_S4096x384_0_1920) : (⟨S4096x384, .f32⟩ : BufTy).Contents (Elt Ideal))⟩, ⟨S4096x256, ((extractStridedSlice S4096x256 ![0, 2944] (sampleHostProduct m c) slices_S4096x3456_S4096x256_0_2944) : (⟨S4096x256, .f32⟩ : BufTy).Contents (Elt Ideal))⟩, ⟨S4096x256, ((extractStridedSlice S4096x256 ![0, 3200] (sampleHostProduct m c) slices_S4096x3456_S4096x256_0_3200) : (⟨S4096x256, .f32⟩ : BufTy).Contents (Elt Ideal))⟩] concatenates_S4096x384_S4096x384_S4096x384_S4096x384_S4096x256_S4096x256_S4096x2048_d1 : (⟨S4096x2048, .f32⟩ : BufTy).Contents (Elt Ideal))) bitsLt_bf16_f32
    = sampleProjArrayR m c (keysValues (Scalar.ofBits (F := Ideal) .f32 0x3E000000#32)) := by
  funext i
  obtain ⟨n, k, rfl⟩ : ∃ (n : Fin 4096) (k : Fin 2048), i = ix2 n k := ⟨i 0, i 1, eq_ix2 i⟩
  pointwise []
  simp only [sampleHostProduct_at]
  exact keysValues_concat _ (sampleProjR m c n) k

end Cert.Moe

end
-- ==== Proof.Mixers.lean ====
module

public import proofs.«01_k».proof.Proof.Route

/-
  The mathematics of the token mixers, one head at a time over the extended reals: a row's softmax average written in
  the two orders of dividing, the difference of two of them, and retention written as one weighted sum over all pairs of
  tokens and as a recurrence over two chunks in either direction.
-/

@[expose] public section

noncomputable section

namespace Cert.Moe

open Idealize.ShloMosaic

/-! ## Finite values as reals -/

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_div {a b : ℝ} (h : b ≠ 0) : Ideal.div (a : EReal) (b : EReal) = ((a / b : ℝ) : EReal) := by
  rw [div_of_ne (by exact_mod_cast h), ← EReal.coe_inv, ← EReal.coe_mul, div_eq_mul_inv]

theorem coe_ite (p : Prop) [Decidable p] (a b : ℝ) :
    (if p then (a : EReal) else (b : EReal)) = ((if p then a else b : ℝ) : EReal) := by split_ifs <;> rfl

/-- A finite row is a row of reals. -/
theorem real_row {ι : Type} (f : ι → EReal) (h : ∀ i, IsFin (f i)) : ∃ g : ι → ℝ, f = fun i => (g i : EReal) :=
  ⟨fun i => (h i).exists.choose, funext fun i => (h i).exists.choose_spec⟩

theorem real_table {ι κ : Type} (f : ι → κ → EReal) (h : ∀ i k, IsFin (f i k)) :
    ∃ g : ι → κ → ℝ, f = fun i k => (g i k : EReal) :=
  ⟨fun i k => (h i k).exists.choose, funext fun i => funext fun k => (h i k).exists.choose_spec⟩

/-! ## Softmax averages -/

/-- The largest entry of a row. -/
def rowMax (s : Fin 256 → EReal) : EReal := Finset.univ.fold max ⊥ s

theorem rowMax_fin (s : Fin 256 → EReal) (hs : ∀ j, IsFin (s j)) : IsFin (rowMax s) := by
  obtain ⟨i, hi⟩ := exists_firstMax s
  have h : rowMax s = s i := fold_max_eq s (s i) hi.le ⟨i, rfl⟩
  rw [h]; exact hs i

/-- The average of `v` under the softmax of the scores `s`: the weighted sum over the sum of the weights. -/
def attend (s v : Fin 256 → EReal) : EReal :=
  Ideal.div (∑ j, Ideal.exp (s j - rowMax s) * v j) (∑ j, Ideal.exp (s j - rowMax s))

/-- The softmax of the scores `s` at `j`. -/
def weight (s : Fin 256 → EReal) (j : Fin 256) : EReal :=
  Ideal.div (Ideal.exp (s j - rowMax s)) (∑ k, Ideal.exp (s k - rowMax s))

/-- The softmax's weights are reals, and the average is the sum of the weighted entries. -/
theorem attend_real (s : Fin 256 → EReal) (hs : ∀ j, IsFin (s j)) :
    ∃ p : Fin 256 → ℝ, (∀ j, weight s j = p j) ∧ ∀ v : Fin 256 → ℝ, attend s (fun j => v j) = ((∑ j, p j * v j : ℝ) : EReal) := by
  obtain ⟨M, hM⟩ := (rowMax_fin s hs).exists
  obtain ⟨r, rfl⟩ := real_row s hs
  have hpos : (∑ j, Real.exp (r j - M) : ℝ) ≠ 0 :=
    (Finset.sum_pos (fun j _ => Real.exp_pos _) ⟨0, Finset.mem_univ _⟩).ne'
  refine ⟨fun j => Real.exp (r j - M) / ∑ k, Real.exp (r k - M), fun j => ?_, fun v => ?_⟩
  · unfold weight
    simp only [hM, ← EReal.coe_sub, Ideal.exp_coe, ← coe_sum]
    exact coe_div hpos
  · unfold attend
    simp only [hM, ← EReal.coe_sub, Ideal.exp_coe, ← coe_sum, ← EReal.coe_mul]
    rw [coe_div hpos, Finset.sum_div]
    exact congrArg _ (Finset.sum_congr rfl fun j _ => by ring)

/-- Dividing each weight first gives the same average. -/
theorem attend_eq (s v : Fin 256 → EReal) (hs : ∀ j, IsFin (s j)) (hv : ∀ j, IsFin (v j)) :
    ∑ j, v j * weight s j = attend s v := by
  obtain ⟨p, hp, ha⟩ := attend_real s hs
  obtain ⟨w, rfl⟩ := real_row v hv
  rw [ha, coe_sum]
  exact Finset.sum_congr rfl fun j _ => by rw [hp, ← EReal.coe_mul, mul_comm]

/-- Two softmaxes subtracted before the average are two averages subtracted. -/
theorem attend_sub (s0 s1 v : Fin 256 → EReal) (lam : EReal) (h0 : ∀ j, IsFin (s0 j)) (h1 : ∀ j, IsFin (s1 j))
    (hv : ∀ j, IsFin (v j)) (hl : IsFin lam) :
    ∑ j, v j * (weight s0 j - lam * weight s1 j) = attend s0 v - lam * attend s1 v := by
  obtain ⟨p0, hp0, ha0⟩ := attend_real s0 h0
  obtain ⟨p1, hp1, ha1⟩ := attend_real s1 h1
  obtain ⟨w, rfl⟩ := real_row v hv
  obtain ⟨a, rfl⟩ := hl.exists
  rw [ha0, ha1, ← EReal.coe_mul, ← EReal.coe_sub, Finset.mul_sum, ← Finset.sum_sub_distrib, coe_sum]
  exact Finset.sum_congr rfl fun j _ => by
    rw [hp0, hp1, ← EReal.coe_mul, ← EReal.coe_sub, ← EReal.coe_mul]; exact congrArg _ (by ring)

/-! ## Retention -/

/-- Token `t` of the first chunk and of the second. -/
def lo (t : Fin 128) : Fin 256 := ⟨t.val, by omega⟩
def hi (t : Fin 128) : Fin 256 := ⟨128 + t.val, by omega⟩

theorem sum_chunks {M : Type} [AddCommMonoid M] (f : Fin 256 → M) : ∑ j, f j = ∑ s, f (lo s) + ∑ s, f (hi s) :=
  Fin.sum_univ_add (a := 128) (b := 128) f

theorem lo_val (t : Fin 128) : ((lo t).val : ℝ) = t.val := rfl

theorem hi_val (t : Fin 128) : ((hi t).val : ℝ) = 128 + t.val := by
  show ((128 + t.val : ℕ) : ℝ) = _
  push_cast; rfl

section Chunks

variable (P : Fin 128 → Fin 128 → Prop) [∀ t s, Decidable (P t s)] (l : EReal) (q k v : Fin 256 → Fin 64 → EReal)

/-- The weight of a pair of tokens of one chunk. -/
def intra (t s : Fin 128) : EReal :=
  if P t s then Ideal.exp ((if P t s then ((t.val : ℝ) : EReal) - ((s.val : ℝ) : EReal) else 0) * l) else 0

/-- What a chunk's tokens give each other. -/
def inner (c : Fin 128 → Fin 256) (t : Fin 128) (e : Fin 64) : EReal :=
  ∑ s, v (c s) e * ((∑ d, q (c t) d * k (c s) d) * intra P l t s)

/-- What the state gives a chunk's tokens. -/
def cross (S : Fin 64 → Fin 64 → EReal) (c : Fin 128 → Fin 256) (t : Fin 128) (e : Fin 64) : EReal :=
  (∑ d, S d e * q (c t) d) * Ideal.exp ((((t.val : ℝ) : EReal) + 1) * l)

/-- The state after a chunk. -/
def step (S : Fin 64 → Fin 64 → EReal) (c : Fin 128 → Fin 256) (d e : Fin 64) : EReal :=
  S d e * Ideal.exp (((128 : ℝ) : EReal) * l)
    + ∑ s, (k (c s) d * Ideal.exp ((((127 : ℝ) : EReal) - ((s.val : ℝ) : EReal)) * l)) * v (c s) e

/-- The state after the first chunk, from a zero state, and after both. -/
def state1 : Fin 64 → Fin 64 → EReal := step l k v (fun _ _ => 0) lo
def state2 : Fin 64 → Fin 64 → EReal := step l k v (state1 l k v) hi

/-- Retention in one direction, chunk by chunk. -/
def chunked (i : Fin 256) (e : Fin 64) : EReal :=
  if h : i.val < 128 then inner P l q k v lo ⟨i.val, h⟩ e + cross l q (fun _ _ => 0) lo ⟨i.val, h⟩ e
  else inner P l q k v hi ⟨i.val - 128, by omega⟩ e + cross l q (state1 l k v) hi ⟨i.val - 128, by omega⟩ e

end Chunks

/-- Retention in one direction as one sum over the tokens, those the mask lets through. -/
def paired (P : Fin 256 → Fin 256 → Prop) [∀ t s, Decidable (P t s)] (l : ℝ) (q k v : Fin 256 → Fin 64 → ℝ) (i : Fin 256)
    (e : Fin 64) : ℝ :=
  ∑ j, if P i j then (∑ d, q i d * k j d) * Real.exp (((i.val : ℝ) - j.val) * l) * v j e else 0

/-- The states, as one sum. -/
theorem state2_real (l : ℝ) (k v : Fin 256 → Fin 64 → ℝ) (d e : Fin 64) :
    state2 (l : EReal) (fun j d => (k j d : EReal)) (fun j e => (v j e : EReal)) d e
      = ((∑ j, k j d * Real.exp ((255 - (j.val : ℝ)) * l) * v j e : ℝ) : EReal) := by
  unfold state2 state1 step
  simp only [← EReal.coe_sub, ← EReal.coe_mul, Ideal.exp_coe, ← coe_sum, ← EReal.coe_add, zero_mul, zero_add]
  refine congrArg _ ?_
  rw [sum_chunks (fun j => k j d * Real.exp ((255 - (j.val : ℝ)) * l) * v j e), Finset.sum_mul]
  refine congrArg₂ (· + ·) (Finset.sum_congr rfl fun s _ => ?_) (Finset.sum_congr rfl fun s _ => ?_)
  · have h : (255 - ((lo s).val : ℝ)) * l = (127 - (s.val : ℝ)) * l + 128 * l := by rw [lo_val]; ring
    rw [h, Real.exp_add]; ring
  · have h : (255 - ((hi s).val : ℝ)) * l = (127 - (s.val : ℝ)) * l := by rw [hi_val]; ring
    rw [h]

/-- Chunk by chunk is the one sum, for a mask that lets earlier tokens through and no later ones. -/
theorem chunked_real (P : Fin 128 → Fin 128 → Prop) [∀ t s, Decidable (P t s)] (Q : Fin 256 → Fin 256 → Prop)
    [∀ t s, Decidable (Q t s)] (hlo : ∀ t s, Q (lo t) (lo s) ↔ P t s) (hhi : ∀ t s, Q (hi t) (hi s) ↔ P t s)
    (hup : ∀ t s, ¬ Q (lo t) (hi s)) (hdown : ∀ t s, Q (hi t) (lo s)) (l : ℝ) (q k v : Fin 256 → Fin 64 → ℝ) (i : Fin 256)
    (e : Fin 64) :
    chunked P (l : EReal) (fun i d => (q i d : EReal)) (fun j d => (k j d : EReal)) (fun j e => (v j e : EReal)) i e
      = ((paired Q l q k v i e : ℝ) : EReal) := by
  unfold chunked
  have hI : ∀ t s, intra P (l : EReal) t s = ((if P t s then Real.exp (((t.val : ℝ) - s.val) * l) else 0 : ℝ) : EReal) := by
    intro t s
    unfold intra
    by_cases h : P t s
    · simp only [h, if_true, ← EReal.coe_sub, ← EReal.coe_mul, Ideal.exp_coe]
    · simp only [h, if_false, EReal.coe_zero]
  split_ifs with h
  · obtain ⟨t, rfl⟩ : ∃ t, i = lo t := ⟨⟨i.val, h⟩, rfl⟩
    show inner P _ _ _ _ lo t e + cross _ _ _ lo t e = _
    unfold inner cross paired
    simp only [hI, ← EReal.coe_mul, ← coe_sum, zero_mul, Finset.sum_const_zero, add_zero]
    refine congrArg _ ?_
    rw [sum_chunks, Finset.sum_eq_zero (s := Finset.univ) (f := fun s => if Q (lo t) (hi s) then _ else _)
      (fun s _ => if_neg (hup t s)), add_zero]
    refine Finset.sum_congr rfl fun s _ => ?_
    by_cases hP : P t s
    · rw [if_pos hP, if_pos ((hlo t s).mpr hP), lo_val, lo_val]; ring
    · rw [if_neg hP, if_neg (fun hq => hP ((hlo t s).mp hq))]; ring
  · obtain ⟨t, rfl⟩ : ∃ t, i = hi t := ⟨⟨i.val - 128, by omega⟩, Fin.ext (by show i.val = 128 + (i.val - 128); omega)⟩
    have ht : (⟨(hi t).val - 128, by omega⟩ : Fin 128) = t := Fin.ext (by show 128 + t.val - 128 = t.val; omega)
    rw [ht]
    unfold inner cross paired state1 step
    simp only [hI, ← EReal.coe_sub, ← EReal.coe_mul, ← coe_sum, zero_mul, zero_add, Ideal.exp_coe, ← EReal.coe_one,
      ← EReal.coe_add]
    refine congrArg _ ?_
    rw [sum_chunks, add_comm]
    refine congrArg₂ (· + ·) ?_ (Finset.sum_congr rfl fun s _ => ?_)
    · rw [Finset.sum_mul]
      simp only [Finset.sum_mul]
      rw [Finset.sum_comm]
      refine Finset.sum_congr rfl fun s _ => ?_
      rw [if_pos (hdown t s)]
      refine Finset.sum_congr rfl fun d _ => ?_
      have h : (((hi t).val : ℝ) - (lo s).val) * l = (127 - (s.val : ℝ)) * l + ((t.val : ℝ) + 1) * l := by
        rw [hi_val, lo_val]; ring
      rw [h, Real.exp_add]; ring
    · by_cases hP : P t s
      · have h : (((hi t).val : ℝ) - (hi s).val) * l = ((t.val : ℝ) - s.val) * l := by
          rw [hi_val, hi_val]; ring
        rw [if_pos hP, if_pos ((hhi t s).mpr hP), h]; ring
      · rw [if_neg hP, if_neg (fun hq => hP ((hhi t s).mp hq))]; ring

/-- The weight of a pair of tokens in both directions. -/
def decay (lf lb : EReal) (i j : Fin 256) : EReal :=
  Ideal.exp (if j ≤ i then (((i.val : ℝ) : EReal) - ((j.val : ℝ) : EReal)) * lf
    else (0 - (((i.val : ℝ) : EReal) - ((j.val : ℝ) : EReal))) * lb)

/-- Retention in both directions as one sum over the tokens. -/
def retention (lf lb : EReal) (q k v : Fin 256 → Fin 64 → EReal) (i : Fin 256) (e : Fin 64) : EReal :=
  ∑ j, ((∑ d, q i d * k j d) * decay lf lb i j) * v j e

/-- The two directions' chunked retentions, the second on the tokens in reverse, add up to the one sum. -/
theorem retention_eq (lf lb : EReal) (q k v : Fin 256 → Fin 64 → EReal) (hlf : IsFin lf) (hlb : IsFin lb)
    (hq : ∀ i d, IsFin (q i d)) (hk : ∀ i d, IsFin (k i d)) (hv : ∀ i d, IsFin (v i d)) (i : Fin 256) (e : Fin 64) :
    chunked (fun t s => s ≤ t) lf q k v i e
        + chunked (fun t s => s < t) lb (fun i => q i.rev) (fun i => k i.rev) (fun i => v i.rev) i.rev e
      = retention lf lb q k v i e := by
  obtain ⟨lf, rfl⟩ := hlf.exists
  obtain ⟨lb, rfl⟩ := hlb.exists
  obtain ⟨q, rfl⟩ := real_table q hq
  obtain ⟨k, rfl⟩ := real_table k hk
  obtain ⟨v, rfl⟩ := real_table v hv
  rw [chunked_real (fun t s => s ≤ t) (fun i j => j ≤ i) (fun t s => Iff.rfl)
      (fun t s => Nat.add_le_add_iff_left) (fun t s => by show ¬ 128 + s.val ≤ t.val; omega)
      (fun t s => by show s.val ≤ 128 + t.val; omega),
    chunked_real (fun t s => s < t) (fun i j => j < i) (fun t s => Iff.rfl)
      (fun t s => Nat.add_lt_add_iff_left) (fun t s => by show ¬ 128 + s.val < t.val; omega)
      (fun t s => by show s.val < 128 + t.val; omega) lb (fun i => q i.rev) (fun i => k i.rev) (fun i => v i.rev)]
  unfold retention decay paired
  have hd : ∀ j : Fin 256, Ideal.exp (if j ≤ i then (((i.val : ℝ) : EReal) - ((j.val : ℝ) : EReal)) * (lf : EReal)
        else (0 - (((i.val : ℝ) : EReal) - ((j.val : ℝ) : EReal))) * (lb : EReal))
      = ((Real.exp (if j ≤ i then ((i.val : ℝ) - j.val) * lf else (0 - ((i.val : ℝ) - j.val)) * lb) : ℝ) : EReal) := by
    intro j
    rw [← Ideal.exp_coe, ← coe_ite]
    simp only [EReal.coe_sub, EReal.coe_mul, EReal.coe_zero]
  simp only [hd, ← EReal.coe_mul, ← coe_sum, ← EReal.coe_add]
  refine congrArg _ ?_
  rw [← Equiv.sum_comp Fin.revPerm (fun j : Fin 256 => if j < i.rev then _ else _), ← Finset.sum_add_distrib]
  refine Finset.sum_congr rfl fun j _ => ?_
  simp only [Fin.revPerm_apply, Fin.rev_rev, Fin.rev_lt_rev]
  by_cases h : j ≤ i
  · rw [if_pos h, if_pos h, if_neg (not_lt.mpr h), add_zero]
  · rw [if_neg h, if_neg h, if_pos (not_le.mp h), zero_add]
    have h2 : (((i.rev).val : ℝ) - (j.rev).val) * lb = (0 - ((i.val : ℝ) - j.val)) * lb := by
      have hi' : ((i.rev).val : ℝ) = 255 - i.val := by
        rw [Fin.val_rev]; have := i.isLt; rw [Nat.cast_sub (by omega)]; push_cast; ring
      have hj' : ((j.rev).val : ℝ) = 255 - j.val := by
        rw [Fin.val_rev]; have := j.isLt; rw [Nat.cast_sub (by omega)]; push_cast; ring
      rw [hi', hj']; ring
    rw [h2]

/-- The forward state as one sum over the tokens. -/
def stateF (l : EReal) (k v : Fin 256 → Fin 64 → EReal) (d e : Fin 64) : EReal :=
  ∑ j : Fin 256, (k j d * Ideal.exp ((((255 : ℝ) : EReal) - ((j.val : ℝ) : EReal)) * l)) * v j e

/-- The backward state as one sum over the tokens. -/
def stateB (l : EReal) (k v : Fin 256 → Fin 64 → EReal) (d e : Fin 64) : EReal :=
  ∑ j : Fin 256, (k j d * Ideal.exp (((j.val : ℝ) : EReal) * l)) * v j e

theorem stateF_eq (l : EReal) (k v : Fin 256 → Fin 64 → EReal) (hl : IsFin l) (hk : ∀ i d, IsFin (k i d))
    (hv : ∀ i d, IsFin (v i d)) (d e : Fin 64) : state2 l k v d e = stateF l k v d e := by
  obtain ⟨l, rfl⟩ := hl.exists
  obtain ⟨k, rfl⟩ := real_table k hk
  obtain ⟨v, rfl⟩ := real_table v hv
  rw [state2_real]
  unfold stateF
  simp only [← EReal.coe_sub, ← EReal.coe_mul, Ideal.exp_coe, ← coe_sum]

theorem stateB_eq (l : EReal) (k v : Fin 256 → Fin 64 → EReal) (hl : IsFin l) (hk : ∀ i d, IsFin (k i d))
    (hv : ∀ i d, IsFin (v i d)) (d e : Fin 64) :
    state2 l (fun i => k i.rev) (fun i => v i.rev) d e = stateB l k v d e := by
  obtain ⟨l, rfl⟩ := hl.exists
  obtain ⟨k, rfl⟩ := real_table k hk
  obtain ⟨v, rfl⟩ := real_table v hv
  rw [state2_real l (fun i => k i.rev) (fun i => v i.rev)]
  unfold stateB
  simp only [← EReal.coe_sub, ← EReal.coe_mul, Ideal.exp_coe, ← coe_sum]
  refine congrArg _ ?_
  rw [← Equiv.sum_comp Fin.revPerm]
  refine Finset.sum_congr rfl fun j _ => ?_
  simp only [Fin.revPerm_apply, Fin.rev_rev]
  have hj' : ((j.rev).val : ℝ) = 255 - j.val := by
    rw [Fin.val_rev]; have := j.isLt; rw [Nat.cast_sub (by omega)]; push_cast; ring
  rw [hj']
  congr 3; ring

end Cert.Moe

end
-- ==== Proof.MixSpec.lean ====
module

public import proofs.«01_k».proof.Proof.Mixers
public import proofs.«01_k».proof.Proof.Spec

/-
  What the prompt's token mixers compute for one sequence of 256 tokens, over plain functions: the sixteen heads of the
  mix, its projection and norm, and the retention's two states.
-/

@[expose] public section

noncomputable section

namespace Cert.Moe

open Idealize.ShloMosaic

/-- The columns of a table from column `o` on. -/
def colsAt {R N : ℕ} [NeZero N] (M : ℕ) (X : Fin R → Fin N → EReal) (o : ℕ) (i : Fin R) (d : Fin M) : EReal :=
  X i (Fin.ofNat N (o + d.val))

/-- The entries of a row from entry `o` on. -/
def rowAt {N : ℕ} [NeZero N] (X : Fin N → EReal) (o : ℕ) : EReal := X (Fin.ofNat N o)

/-- The scaled products of the queries with the keys. -/
def score {n : ℕ} (c : EReal) (q k : Fin 256 → Fin n → EReal) (i j : Fin 256) : EReal := (∑ d, q i d * k j d) * c

/-- The mean of a head's 64 entries. -/
def mean64 (z : Fin 64 → EReal) : EReal := Ideal.div (∑ d, z d) (Ideal.ofBits FTy.f32 1115684864#32)

/-- A retention head's output: normalised, scaled and shifted, times the gate's silu. -/
def retFinish (o : Fin 64 → EReal) (g w b : EReal) (e : Fin 64) : EReal :=
  ((o e - mean64 o) * Ideal.rsqrt (mean64 (fun d => (o d - mean64 o) * (o d - mean64 o))
    + Ideal.ofBits FTy.f32 925353388#32) * w + b) * Ideal.div g (1 + Ideal.exp (0 - g))

/-- A differential head's output: divided by its root mean square and scaled. -/
def diffFinish (o : Fin 64 → EReal) (w : EReal) (e : Fin 64) : EReal :=
  o e * Ideal.rsqrt (mean64 (fun d => o d * o d) + Ideal.ofBits FTy.f32 925353388#32) * w
    * Ideal.ofBits FTy.f32 1061997773#32

/-- One sequence's operands of the mixers. -/
structure Mixed where
  q : Fin 256 → Fin 1408 → EReal
  kv : Fin 256 → Fin 2048 → EReal
  lg : Fin 2 → Fin 6 → EReal
  lam : EReal
  gw : Fin 384 → EReal
  gb : Fin 384 → EReal
  dw : Fin 256 → EReal

namespace Mixed
variable (T : Mixed)

/-- The neighbourhood head `h`. -/
def na (h : ℕ) (i : Fin 256) (e : Fin 64) : EReal :=
  attend (score (Ideal.ofBits FTy.f32 1040187392#32) (colsAt 64 T.q (64 * h)) (colsAt 64 T.kv (64 * h)) i)
    (fun j => colsAt 64 T.kv (384 + 64 * h) j e)

/-- The retention head `h` before its norm. -/
def ret (h : ℕ) (i : Fin 256) (e : Fin 64) : EReal :=
  retention (T.lg 0 (Fin.ofNat 6 h)) (T.lg 1 (Fin.ofNat 6 h)) (colsAt 64 T.q (384 + 64 * h))
    (colsAt 64 T.kv (768 + 64 * h)) (colsAt 64 T.kv (1152 + 64 * h)) i e

/-- The retention head `h`. -/
def retOut (h : ℕ) (i : Fin 256) (e : Fin 64) : EReal :=
  retFinish (T.ret h i) (colsAt 64 T.q (768 + 64 * h) i e) (rowAt T.gw (64 * h + e.val)) (rowAt T.gb (64 * h + e.val)) e

/-- The differential head `h` before its norm. -/
def diff (h : ℕ) (i : Fin 256) (e : Fin 64) : EReal :=
  attend (score (Ideal.ofBits FTy.f32 1043662067#32) (colsAt 32 T.q (1152 + 64 * h)) (colsAt 32 T.kv (1536 + 64 * h)) i)
      (fun j => colsAt 64 T.kv (1792 + 64 * h) j e)
    - T.lam * attend (score (Ideal.ofBits FTy.f32 1043662067#32) (colsAt 32 T.q (1184 + 64 * h))
        (colsAt 32 T.kv (1568 + 64 * h)) i) (fun j => colsAt 64 T.kv (1792 + 64 * h) j e)

/-- The differential head `h`. -/
def diffOut (h : ℕ) (i : Fin 256) (e : Fin 64) : EReal :=
  diffFinish (T.diff h i) (rowAt T.dw (64 * h + e.val)) e

/-- The mix: six neighbourhood heads, six retention heads, four differential heads. -/
def mix (i : Fin 256) (n : Fin 1024) : EReal :=
  if n.val < 384 then T.na (n.val / 64) i ⟨n.val % 64, Nat.mod_lt _ (by decide)⟩
  else if n.val < 768 then T.retOut ((n.val - 384) / 64) i ⟨n.val % 64, Nat.mod_lt _ (by decide)⟩
  else T.diffOut ((n.val - 768) / 64) i ⟨n.val % 64, Nat.mod_lt _ (by decide)⟩

/-- The retention's state of head `h`, forward (`0`) and backward (`1`). -/
def state (dir h : ℕ) (d e : Fin 64) : EReal :=
  if dir = 0 then stateF (T.lg 0 (Fin.ofNat 6 h)) (colsAt 64 T.kv (768 + 64 * h)) (colsAt 64 T.kv (1152 + 64 * h)) d e
  else stateB (T.lg 1 (Fin.ofNat 6 h)) (colsAt 64 T.kv (768 + 64 * h)) (colsAt 64 T.kv (1152 + 64 * h)) d e

/-- The sequence's new tokens: the mix projected, gated, added to the scaled token, and normalised. -/
def out (W : Fin 1024 → Fin 1024 → EReal) (x : Fin 256 → Fin 1024 → EReal) (gate w b : Fin 1024 → EReal) (i : Fin 256)
    (c : Fin 1024) : EReal :=
  norm (residual (x i) gate (fun n => ∑ d, T.mix i d * W d n)) (w c) (b c) c

theorem mix_na (h : ℕ) (hh : h < 6) (i : Fin 256) (e : Fin 64) (n : Fin 1024) (hn : n.val = 64 * h + e.val) :
    T.mix i n = T.na h i e := by
  have he := e.isLt
  have h1 : n.val / 64 = h := by omega
  have h2 : (⟨n.val % 64, Nat.mod_lt _ (by decide)⟩ : Fin 64) = e := Fin.ext (by show n.val % 64 = e.val; omega)
  unfold mix
  rw [if_pos (by omega), h1, h2]

theorem mix_ret (h : ℕ) (hh : h < 6) (i : Fin 256) (e : Fin 64) (n : Fin 1024) (hn : n.val = 384 + 64 * h + e.val) :
    T.mix i n = T.retOut h i e := by
  have he := e.isLt
  have h1 : (n.val - 384) / 64 = h := by omega
  have h2 : (⟨n.val % 64, Nat.mod_lt _ (by decide)⟩ : Fin 64) = e := Fin.ext (by show n.val % 64 = e.val; omega)
  unfold mix
  rw [if_neg (by omega), if_pos (by omega), h1, h2]

theorem mix_diff (h : ℕ) (hh : h < 4) (i : Fin 256) (e : Fin 64) (n : Fin 1024) (hn : n.val = 768 + 64 * h + e.val) :
    T.mix i n = T.diffOut h i e := by
  have he := e.isLt
  have h1 : (n.val - 768) / 64 = h := by omega
  have h2 : (⟨n.val % 64, Nat.mod_lt _ (by decide)⟩ : Fin 64) = e := Fin.ext (by show n.val % 64 = e.val; omega)
  unfold mix
  rw [if_neg (by omega), if_neg (by omega), h1, h2]

end Mixed

end Cert.Moe

end
-- ==== Proof.MixArgs.lean ====
module

public import proofs.«01_k».proof.Proof.MixSpec

/-
  The arguments of the prompt's token mixers, flat over the 32 sequences of 256 tokens, and what is computed of them.
-/

@[expose] public section

noncomputable section

namespace Cert.Moe

open Idealize.ShloMosaic

/-- The arguments of the mixers' call. -/
structure MixArgs where
  q : Fin 8192 → Fin 1408 → EReal
  kv : Fin 8192 → Fin 2048 → EReal
  x : Fin 8192 → Fin 1024 → EReal
  gate : Fin 1024 → EReal
  w : Fin 1024 → Fin 1024 → EReal
  lg : Fin 2 → Fin 6 → EReal
  lam : EReal
  gw : Fin 384 → EReal
  gb : Fin 384 → EReal
  dw : Fin 256 → EReal
  lw : Fin 1024 → EReal
  lb : Fin 1024 → EReal

/-- Token `i` of sequence `b`. -/
def seqToken (b : Fin 32) (i : Fin 256) : Fin 8192 := ⟨256 * b.val + i.val, by omega⟩

namespace MixArgs
variable (A : MixArgs)

/-- Sequence `b`. -/
def seq (b : Fin 32) : Mixed :=
  ⟨fun i => A.q (seqToken b i), fun i => A.kv (seqToken b i), A.lg, A.lam, A.gw, A.gb, A.dw⟩

/-- The new tokens of sequence `b`. -/
def tokens (b : Fin 32) (i : Fin 256) (d : Fin 1024) : EReal :=
  (A.seq b).out A.w (fun i => A.x (seqToken b i)) A.gate A.lw A.lb i d

/-- The queries, keys, values, decays' logarithms and the factor between the softmaxes are finite. -/
structure Finite : Prop where
  q : ∀ n k, IsFin (A.q n k)
  kv : ∀ n k, IsFin (A.kv n k)
  lg : ∀ d h, IsFin (A.lg d h)
  lam : IsFin A.lam

end MixArgs

end Cert.Moe

end
-- ==== Proof.MixPre.lean ====
module

public import proofs.«01_k».proof.Pre_finite_mixers
public import proofs.«01_k».proof.Proof.Pre
public import proofs.«01_k».proof.Proof.MixArgs

/-
  What the mixers' precondition says: the queries, the keys and values, the decays' logarithms and the factor between
  the two softmaxes are finite.
-/

@[expose] public section

set_option maxRecDepth 16384

noncomputable section

namespace Cert.Moe

open Idealize.ShloMosaic Cert.Pre_finite_mixers

instance mixPreFacts : Cert.Pre_finite_mixers.Facts where
  bitsLt_bf16_f32 := by decide
  bcast_S_S8192x1408 := by decide
  reducesTo_S8192x1408_S_d0_1 := by decide
  h_S_ := by decide
  bcast_S_S8192x2048 := by decide
  reducesTo_S8192x2048_S_d0_1 := by decide
  bcast_S_S2x6 := by decide
  reducesTo_S2x6_S_d0_1 := by decide
  bcast_S_S1 := by decide
  reducesTo_S1_S_d0 := by decide

/-- The mixers' precondition's four conjuncts. -/
theorem mixPre_split (x0 : FVec Ideal S8192x1408 .bf16) (x1 : FVec Ideal S8192x2048 .bf16) (x2 : FVec Ideal S8192x1024 .f32)
    (x3 : FVec Ideal S8x6x1024 .f32) (x4 : FVec Ideal S1024x1024 .f32) (x5 : FVec Ideal S2x6 .f32) (x6 : FVec Ideal S1 .f32)
    (x7 x8 : FVec Ideal S384 .f32) (x9 : FVec Ideal S256 .f32) (x10 x11 : FVec Ideal S1024 .f32)
    (h : Cert.Pre_finite_mixers.fn (F := Ideal) x0 x1 x2 x3 x4 x5 x6 x7 x8 x9 x10 x11 = fun _ => 1#1) :
    (∀ i, IsFin (x0 i)) ∧ (∀ i, IsFin (x1 i)) ∧ (∀ i, IsFin (x5 i)) ∧ ∀ i, IsFin (x6 i) := by
  have h := congrFun h (fun k => k.elim0)
  dsimp only [fn, fn_part1] at h
  obtain ⟨h, h3⟩ := IntOp.andi_eq_one.1 h
  obtain ⟨h, h2⟩ := IntOp.andi_eq_one.1 h
  obtain ⟨h0, h1⟩ := IntOp.andi_eq_one.1 h
  exact ⟨fin_of_all _ _ _ _ _ h0, fin_of_all _ _ _ _ _ h1, fin_of_all _ _ _ _ _ h2, fin_of_all _ _ _ _ _ h3⟩

end Cert.Moe

end
-- ==== Proof.MixPay.lean ====
module

public import proofs.«01_k».proof.Proof.MixSpec
public import proofs.«01_k».proof.Proof.KRoute
public import proofs.«01_k».proof.Proof.Gen.Kernel4Ideal.Value
public import Idealize.ShloMosaic.Lib.Pipeline.ValueKit
public import Idealize.ShloMosaic.Lib.Pointwise
public import Idealize.ShloMosaic.Lib.Claim
public import Idealize.ShloMosaic.Lib.WholeRead

/-
  The prompt's token mixers, as the kernel computes them: each payload of the body at an entry is the head's function.
-/

@[expose] public section

set_option maxRecDepth 16384

noncomputable section

namespace Cert.Moe

open Idealize.ShloMosaic Idealize.ShloMosaic.TcCoe Idealize.SL.Sem
open Cert.Kernel4Ideal Cert.Kernel4Ideal.Gen

theorem bits_255 : Ideal.ofBits .f32 1132396544#32 = ((255 : ℝ) : EReal) := by
  simp [Ideal.ofBits, Ideal.ieee]
  rw [← EReal.coe_mul]
  norm_num

/-- A position's word as a number. -/
theorem position (n : ℕ) (h : n < 2 ^ 31) :
    @Eq EReal (FloatOps.sitofp (F := Ideal) FTy.f32 (BitVec.ofNat 32 n)) ((n : ℝ) : EReal) := by
  have e : (BitVec.ofNat 32 n).toInt = (n : Int) := by
    rw [BitVec.toInt_eq_toNat_cond, BitVec.toNat_ofNat]
    omega
  show (((BitVec.ofNat 32 n).toInt : ℝ) : EReal) = _
  rw [e, Int.cast_natCast]

/-- A block as a table. -/
def tab {R N : ℕ} (X : (⟨2, ![R, N]⟩ : Shape).Idx → EReal) : Fin R → Fin N → EReal := fun i d => X (ix2 i d)

theorem mixPay14 (q k v : Vec Ideal S256x64 .bf16) (i : Fin 256) (e : Fin 64) :
    @Eq EReal (k0_pay14 q k v (ix2 i e))
      (attend (score (Ideal.ofBits FTy.f32 1040187392#32) (tab q) (tab k) i) (fun j => tab v j e)) := by
  pointwise [k0_pay14]
  rw [bits_bot]
  rfl

/-- Non-negative difference of positions. -/
theorem later_iff (i j : Fin 256) :
    ((0 : EReal) ≤ ((i.val : ℝ) : EReal) - ((j.val : ℝ) : EReal)) ↔ j ≤ i := by
  rw [← EReal.coe_sub, ← EReal.coe_zero, EReal.coe_le_coe_iff, sub_nonneg, Nat.cast_le]
  exact Iff.rfl

theorem mixPay3 (a b : Elt Ideal .f32) (i j : Fin 256) :
    @Eq EReal (k0_pay3 a b (ix3 0 i j)) (decay a b i j) := by
  pointwise [k0_pay3, k0_pay2]
  rw [position _ (by have := i.isLt; omega), position _ (by have := j.isLt; omega)]
  unfold decay
  by_cases h : j ≤ i
  · rw [if_pos h, if_pos ((later_iff i j).2 h)]
  · rw [if_neg h, if_neg (fun h' => h ((later_iff i j).1 h'))]

theorem mixPay23 (q k v : Vec Ideal S256x64 .bf16) (D : Vec Ideal S1x256x256 .f32) (i : Fin 256) (e : Fin 64) :
    @Eq EReal (k0_pay23 q k v D (ix2 i e))
      (∑ j, ((∑ d, tab q i d * tab k j d) * D (ix3 0 i j)) * tab v j e) := by
  pointwise [k0_pay23]
  rfl

theorem mixPay26 (k v : Vec Ideal S256x64 .bf16) (a : Elt Ideal .f32) (i : Fin 64) (e : Fin 64) :
    @Eq EReal (k0_pay26 v (k0_pay24 k) k0_pay25 a (ix5 0 0 0 i e)) (stateF a (tab k) (tab v) i e) := by
  pointwise [k0_pay26, k0_pay24, k0_pay25, k0_pay22]
  rw [bits_255]
  unfold stateF
  refine Finset.sum_congr (M := EReal) rfl fun j _ => ?_
  rw [position _ (by have := j.isLt; omega)]
  rfl

theorem mixPay27 (k v : Vec Ideal S256x64 .bf16) (a : Elt Ideal .f32) (i : Fin 64) (e : Fin 64) :
    @Eq EReal (k0_pay27 k0_pay22 v (k0_pay24 k) a (ix5 0 0 0 i e)) (stateB a (tab k) (tab v) i e) := by
  pointwise [k0_pay27, k0_pay24, k0_pay25, k0_pay22]
  unfold stateB
  refine Finset.sum_congr (M := EReal) rfl fun j _ => ?_
  rw [position _ (by have := j.isLt; omega)]
  rfl

theorem mixPay33 (g : Vec Ideal S256x64 .bf16) (o : FVec Ideal S256x64 .f32) (w b : Vec Ideal S1x64 .f32) (i : Fin 256)
    (e : Fin 64) :
    @Eq EReal (k0_pay33 g (k0_pay28 w) (k0_pay29 b) (k0_pay30 o) (k0_pay31 o) k0_pay32 (ix2 i e))
      (retFinish (tab o i) (tab g i e) (tab w 0 e) (tab b 0 e) e) := by
  pointwise [k0_pay33, k0_pay28, k0_pay29, k0_pay30, k0_pay31, k0_pay32]
  rfl

theorem mixPay78 (lam : Elt Ideal .f32) (v : Vec Ideal S256x64 .bf16) (q1 k1 q2 k2 : Vec Ideal S256x32 .bf16)
    (i : Fin 256) (e : Fin 64) :
    @Eq EReal (k0_pay78 lam v q1 k1 q2 k2 (ix2 i e))
      (attend (score (Ideal.ofBits FTy.f32 1043662067#32) (tab q1) (tab k1) i) (fun j => tab v j e)
        - lam * attend (score (Ideal.ofBits FTy.f32 1043662067#32) (tab q2) (tab k2) i) (fun j => tab v j e)) := by
  pointwise [k0_pay78]
  rw [bits_bot]
  rfl

theorem mixPay81 (o : FVec Ideal S256x64 .f32) (w : Vec Ideal S1x64 .f32) (i : Fin 256) (e : Fin 64) :
    @Eq EReal (k0_pay81 o (k0_pay79 w) (mulf o o) (ix2 i e)) (diffFinish (tab o i) (tab w 0 e) e) := by
  pointwise [k0_pay81, k0_pay79]
  rfl

theorem mixPay1 (X : Vec Ideal S256x1024 .f32) (M : Vec Ideal S1x6x1024 .f32) (W : Vec Ideal S1024x1024 .bf16)
    (mix : FVec Ideal S256x1024 .f32) (w b : Vec Ideal S1x1024 .f32) (i : Fin 256) (e : Fin 1024) :
    @Eq EReal (k0_pay1 (k0_pay95 mix W M X) w b (ix2 i e))
      (norm (residual (tab X i) (fun d => M (ix3 0 2 d)) (fun n => ∑ d, tab mix i d * tab W d n)) (tab w 0 e) (tab b 0 e)
        e) := by
  pointwise [k0_pay1, k0_pay95]
  rfl

end Cert.Moe

end
-- ==== Proof.MixTile.lean ====
module

public import proofs.«01_k».proof.Proof.MixPay

/-
  The prompt's token mixers, as the kernel's body leaves them in its blocks: the sixteen heads' columns of the mix, the
  decay tables, the new tokens and the states.
-/

@[expose] public section

set_option maxRecDepth 16384

noncomputable section

namespace Cert.Moe

open Idealize.ShloMosaic Idealize.ShloMosaic.TcCoe Idealize.SL.Sem
open Cert.Kernel4Ideal Cert.Kernel4Ideal.Gen

/-! ## What the body's loads read -/

/-- `M` columns of a block from column `o` on. -/
def colBlock {α : Type} {R N : ℕ} [NeZero N] (M : ℕ) (X : (⟨2, ![R, N]⟩ : Shape).Idx → α) (o : ℕ) :
    (⟨2, ![R, M]⟩ : Shape).Idx → α := fun y => X (ix2 (y 0) (Fin.ofNat N (o + (y 1).val)))

theorem tab_colBlock {R N : ℕ} [NeZero N] (M : ℕ) (X : (⟨2, ![R, N]⟩ : Shape).Idx → EReal) (o : ℕ) :
    tab (colBlock M X o) = colsAt M (tab X) o := rfl

/-- The decay table of head `h`, of the six. -/
def plane (X : S6x256x256.Idx → EReal) (h : ℕ) : S1x256x256.Idx → EReal := fun y => X (ix3 (Fin.ofNat 6 h) (y 1) (y 2))

/-- The six heads' decay tables. -/
def decays (x0 : Vec Ideal S2x6 .f32) : Vec Ideal S6x256x256 .f32 :=
  fun y => decay (x0 (ix2 0 (y 0))) (x0 (ix2 1 (y 0))) (y 1) (y 2)

section Reads
variable {R N M : ℕ} [NeZero N]

/-- A load of `M` columns from column `o` on. -/
theorem colsRead {φ : EltTy} (arg : Memref sig .tc .vmem ⟨2, ![R, N]⟩ φ) (harg : arg.IsWhole)
    (X : Vec Ideal ⟨2, ![R, N]⟩ φ) (o : ℕ) (inb) :
    View.readAt (Elt Ideal) arg.view (Rect.unit (s := ⟨2, ![R, N]⟩) ![0, o] ![R, M] inb).toLoadRect (harg.unread X)
      = colBlock (R := R) (N := N) M X o := by
  funext y
  rw [harg.readAt_unread X _ y]
  refine congrArg X ?_
  have h1 : o + (y 1).val < N := lt_of_lt_of_le (Nat.add_lt_add_left (y 1).isLt o) (inb 1)
  funext a
  apply Fin.ext
  fin_cases a
  · show 0 + 1 * (y 0).val = (y 0).val
    omega
  · show o + 1 * (y 1).val = (o + (y 1).val) % N
    rw [Nat.mod_eq_of_lt h1, Nat.one_mul]
end Reads

section Body

variable (c : Dev nD) (i : grid0.Coords) (arg1 : Memref sig .tc .smem S2x6 .f32) (harg1 : arg1.IsWhole) (arg2 : Memref sig .tc .smem S1 .f32) (harg2 : arg2.IsWhole) (arg3 : Memref sig .tc .vmem S256x1408 .bf16) (harg3 : arg3.IsWhole) (arg4 : Memref sig .tc .vmem S256x2048 .bf16) (harg4 : arg4.IsWhole) (arg5 : Memref sig .tc .vmem S256x1024 .f32) (harg5 : arg5.IsWhole) (arg6 : Memref sig .tc .vmem S1x6x1024 .f32) (harg6 : arg6.IsWhole) (arg7 : Memref sig .tc .vmem S1024x1024 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S1x2x6x64x64 .f32) (harg14 : arg14.IsWhole) (arg15 : Memref sig .tc .vmem S256x1024 .f32) (harg15 : arg15.IsWhole) (arg16 : Memref sig .tc .vmem S6x256x256 .f32) (harg16 : arg16.IsWhole)
  (x0 : Vec Ideal S2x6 .f32) (x1 : Vec Ideal S1 .f32) (x2 : Vec Ideal S256x1408 .bf16) (x3 : Vec Ideal S256x2048 .bf16) (x4 : Vec Ideal S256x1024 .f32) (x5 : Vec Ideal S1x6x1024 .f32) (x6 : Vec Ideal S1024x1024 .bf16) (x7 : Vec Ideal S1x384 .f32) (x8 : Vec Ideal S1x384 .f32) (x9 : Vec Ideal S1x256 .f32) (x10 : Vec Ideal S1x1024 .f32) (x11 : Vec Ideal S1x1024 .f32) (xs1 : Vec Ideal S6x256x256 .f32)

theorem wholeRead2 {R N : ℕ} {φ : EltTy} (arg : Memref sig .tc .vmem ⟨2, ![R, N]⟩ φ) (harg : arg.IsWhole)
    (X : Vec Ideal ⟨2, ![R, N]⟩ φ) (inb) :
    View.readAt (Elt Ideal) arg.view (Rect.unit (s := ⟨2, ![R, N]⟩) ![0, 0] ![R, N] inb).toLoadRect (harg.unread X) = X := by
  funext y
  rw [harg.readAt_unread X _ y]
  refine congrArg X ?_
  funext a
  apply Fin.ext
  fin_cases a
  · show 0 + 1 * (y 0).val = (y 0).val
    omega
  · show 0 + 1 * (y 1).val = (y 1).val
    omega

theorem vectorsRead (inb) :
    View.readAt (Elt Ideal) arg6.view (Rect.unit ![0, 0, 0] S1x6x1024.size inb).toLoadRect (harg6.unread x5) = x5 := by
  funext y
  rw [harg6.readAt_unread x5 _ y]
  refine congrArg x5 ?_
  funext a
  apply Fin.ext
  fin_cases a
  · show 0 + 1 * (y 0).val = (y 0).val
    omega
  · show 0 + 1 * (y 1).val = (y 1).val
    omega
  · show 0 + 1 * (y 2).val = (y 2).val
    omega

theorem planeRead (h : ℕ) (inb) :
    View.readAt (Elt Ideal) arg16.view (Rect.unit (s := S6x256x256) ![h, 0, 0] S1x256x256.size inb).toLoadRect (harg16.unread xs1)
      = plane xs1 h := by
  funext y
  rw [harg16.readAt_unread xs1 _ y]
  refine congrArg xs1 ?_
  have h1 : h + 1 ≤ 6 := inb 0
  have h0 : (y 0).val < 1 := (y 0).isLt
  funext a
  apply Fin.ext
  fin_cases a
  · show h + 1 * (y 0).val = h % 6
    omega
  · show 0 + 1 * (y 1).val = (y 1).val
    omega
  · show 0 + 1 * (y 2).val = (y 2).val
    omega

theorem decayRead (a b : ℕ) (inb) (p) :
    View.readAt (Elt Ideal) arg1.view (Rect.unit (s := S2x6) ![a, b] S1x1.size inb).toLoadRect (harg1.unread x0) (Shape.Idx.first p)
      = x0 (ix2 (Fin.ofNat 2 a) (Fin.ofNat 6 b)) := by
  rw [harg1.readAt_unread x0 _ _]
  refine congrArg x0 ?_
  have h0 : a + 1 ≤ 2 := inb 0
  have h1 : b < 6 := inb 1
  funext k
  apply Fin.ext
  fin_cases k
  · show a + 1 * 0 = a % 2
    omega
  · show b + 1 * 0 = b % 6
    exact (Nat.mod_eq_of_lt h1).symm

theorem lamRead (inb) (p) :
    View.readAt (Elt Ideal) arg2.view (Rect.unit ![0] S1.size inb).toLoadRect (harg2.unread x1) (Shape.Idx.first p)
      = x1 (ix1 0) := by
  rw [harg2.readAt_unread x1 _ _]
  refine congrArg x1 ?_
  funext k
  apply Fin.ext
  fin_cases k
  rfl

/-- The block's operands as the mixers' tables. -/
def mixed : Mixed :=
  ⟨tab x2, tab x3, tab x0, x1 (ix1 0), tab x7 0, tab x8 0, tab x9 0⟩

/-- The mix of the block. -/
def mixBlock : Vec Ideal S256x1024 .f32 := fun y => (mixed x0 x1 x2 x3 x7 x8 x9).mix (y 0) (y 1)

theorem embCols (o : ℕ) (inb) (y : S256x64.Idx) :
    ∃ h : o + (y 1).val < 1024, (Rect.unit (s := S256x1024) ![0, o] S256x64.size inb).emb y
      = ix2 (n0 := 256) (n1 := 1024) (y 0) ⟨o + (y 1).val, h⟩ := by
  refine ⟨lt_of_lt_of_le (Nat.add_lt_add_left (y 1).isLt o) (inb 1), ?_⟩
  funext a
  apply Fin.ext
  fin_cases a
  · show 0 + 1 * (y 0).val = (y 0).val
    omega
  · show o + 1 * (y 1).val = o + (y 1).val
    omega

/-- A neighbourhood head's columns of the mix. -/
theorem piece_na (h : ℕ) (hh : h < 6) (inb) (y : S256x64.Idx) :
    @Eq EReal (k0_pay14 (F := Ideal) (colBlock 64 x2 (64 * h)) (colBlock 64 x3 (64 * h)) (colBlock 64 x3 (384 + 64 * h)) y)
      (mixBlock x0 x1 x2 x3 x7 x8 x9 ((Rect.unit (s := S256x1024) ![0, 64 * h] S256x64.size inb).emb y)) := by
  obtain ⟨hk, he⟩ := embCols (64 * h) inb y
  rw [he]
  refine Eq.trans ?_ (Mixed.mix_na (mixed x0 x1 x2 x3 x7 x8 x9) h hh (y 0) (y 1) ⟨64 * h + (y 1).val, hk⟩ rfl).symm
  rw [eq_ix2 y]
  exact mixPay14 _ _ _ _ _

/-- A retention head's columns. -/
theorem piece_ret (h : ℕ) (hh : h < 6) (inb) (y : S256x64.Idx) (D : Vec Ideal S1x256x256 .f32)
    (hD : D = plane (decays x0) h) (o : FVec Ideal S256x64 .f32)
    (ho : o = k0_pay23 (colBlock 64 x2 (384 + 64 * h)) (colBlock 64 x3 (768 + 64 * h)) (colBlock 64 x3 (1152 + 64 * h)) D) :
    @Eq EReal (k0_pay33 (colBlock 64 x2 (768 + 64 * h)) (k0_pay28 (colBlock 64 x7 (64 * h)))
        (k0_pay29 (colBlock 64 x8 (64 * h))) (k0_pay30 o) (k0_pay31 o) k0_pay32 y)
      (mixBlock x0 x1 x2 x3 x7 x8 x9 ((Rect.unit (s := S256x1024) ![0, 384 + 64 * h] S256x64.size inb).emb y)) := by
  obtain ⟨hk, he⟩ := embCols (384 + 64 * h) inb y
  rw [he]
  refine Eq.trans ?_ (Mixed.mix_ret (mixed x0 x1 x2 x3 x7 x8 x9) h hh (y 0) (y 1) ⟨384 + 64 * h + (y 1).val, hk⟩ rfl).symm
  have h1 : tab o = (mixed x0 x1 x2 x3 x7 x8 x9).ret h := by
    funext i e
    rw [ho, hD]
    exact mixPay23 _ _ _ _ i e
  rw [eq_ix2 y]
  refine (mixPay33 _ _ _ _ _ _).trans ?_
  rw [h1]
  rfl

/-- A differential head's columns. -/
theorem piece_diff (h : ℕ) (hh : h < 4) (inb) (y : S256x64.Idx) (o : FVec Ideal S256x64 .f32)
    (ho : o = k0_pay78 (x1 (ix1 0)) (colBlock 64 x3 (1792 + 64 * h)) (colBlock 32 x2 (1152 + 64 * h))
      (colBlock 32 x3 (1536 + 64 * h)) (colBlock 32 x2 (1184 + 64 * h)) (colBlock 32 x3 (1568 + 64 * h))) :
    @Eq EReal (k0_pay81 o (k0_pay79 (colBlock 64 x9 (64 * h))) (mulf o o) y)
      (mixBlock x0 x1 x2 x3 x7 x8 x9 ((Rect.unit (s := S256x1024) ![0, 768 + 64 * h] S256x64.size inb).emb y)) := by
  obtain ⟨hk, he⟩ := embCols (768 + 64 * h) inb y
  rw [he]
  refine Eq.trans ?_ (Mixed.mix_diff (mixed x0 x1 x2 x3 x7 x8 x9) h hh (y 0) (y 1) ⟨768 + 64 * h + (y 1).val, hk⟩ rfl).symm
  have h1 : tab o = (mixed x0 x1 x2 x3 x7 x8 x9).diff h := by
    funext i e
    rw [ho]
    exact mixPay78 _ _ _ _ _ _ i e
  rw [eq_ix2 y]
  refine (mixPay81 _ _ _ _).trans ?_
  rw [h1]
  rfl

/-- The block's states. -/
def stateBlock : Vec Ideal S1x2x6x64x64 .f32 :=
  fun y => (mixed x0 x1 x2 x3 x7 x8 x9).state (y 1).val (y 2).val (y 3) (y 4)

/-- A forward state. -/
theorem piece_fwd (h : ℕ) (hh : h < 6) (inb) (y : S1x1x1x64x64.Idx) :
    @Eq EReal (k0_pay26 (colBlock 64 x3 (1152 + 64 * h)) (k0_pay24 (colBlock 64 x3 (768 + 64 * h))) k0_pay25
        (x0 (ix2 (Fin.ofNat 2 0) (Fin.ofNat 6 h))) y)
      (stateBlock x0 x1 x2 x3 x7 x8 x9
        ((Rect.unit (s := S1x2x6x64x64) ![0, 0, h, 0, 0] S1x1x1x64x64.size inb).emb y)) := by
  have e0 : (y 1).val < 1 := (y 1).isLt
  have e2 : (y 2).val < 1 := (y 2).isLt
  have h1 : ((Rect.unit (s := S1x2x6x64x64) ![0, 0, h, 0, 0] S1x1x1x64x64.size inb).emb y 1).val = 0 := by
    show 0 + 1 * (y 1).val = _; omega
  have h2 : ((Rect.unit (s := S1x2x6x64x64) ![0, 0, h, 0, 0] S1x1x1x64x64.size inb).emb y 2).val = h := by
    show h + 1 * (y 2).val = _; omega
  have h3 : (Rect.unit (s := S1x2x6x64x64) ![0, 0, h, 0, 0] S1x1x1x64x64.size inb).emb y 3 = y 3 :=
    Fin.ext (by show 0 + 1 * (y 3).val = _; omega)
  have h4 : (Rect.unit (s := S1x2x6x64x64) ![0, 0, h, 0, 0] S1x1x1x64x64.size inb).emb y 4 = y 4 :=
    Fin.ext (by show 0 + 1 * (y 4).val = _; omega)
  have hy : y = ix5 0 0 0 (y 3) (y 4) := by
    rw [eq_ix5 y]
    congr 1 <;> first | rfl | exact Subsingleton.elim (α := Fin 1) _ _
  unfold stateBlock
  rw [h1, h2, h3, h4, hy]
  exact mixPay26 _ _ _ _ _

/-- A backward state. -/
theorem piece_bwd (h : ℕ) (hh : h < 6) (inb) (y : S1x1x1x64x64.Idx) :
    @Eq EReal (k0_pay27 k0_pay22 (colBlock 64 x3 (1152 + 64 * h)) (k0_pay24 (colBlock 64 x3 (768 + 64 * h)))
        (x0 (ix2 (Fin.ofNat 2 1) (Fin.ofNat 6 h))) y)
      (stateBlock x0 x1 x2 x3 x7 x8 x9
        ((Rect.unit (s := S1x2x6x64x64) ![0, 1, h, 0, 0] S1x1x1x64x64.size inb).emb y)) := by
  have e0 : (y 1).val < 1 := (y 1).isLt
  have e2 : (y 2).val < 1 := (y 2).isLt
  have h1 : ((Rect.unit (s := S1x2x6x64x64) ![0, 1, h, 0, 0] S1x1x1x64x64.size inb).emb y 1).val = 1 := by
    show 1 + 1 * (y 1).val = _; omega
  have h2 : ((Rect.unit (s := S1x2x6x64x64) ![0, 1, h, 0, 0] S1x1x1x64x64.size inb).emb y 2).val = h := by
    show h + 1 * (y 2).val = _; omega
  have h3 : (Rect.unit (s := S1x2x6x64x64) ![0, 1, h, 0, 0] S1x1x1x64x64.size inb).emb y 3 = y 3 :=
    Fin.ext (by show 0 + 1 * (y 3).val = _; omega)
  have h4 : (Rect.unit (s := S1x2x6x64x64) ![0, 1, h, 0, 0] S1x1x1x64x64.size inb).emb y 4 = y 4 :=
    Fin.ext (by show 0 + 1 * (y 4).val = _; omega)
  have hy : y = ix5 0 0 0 (y 3) (y 4) := by
    rw [eq_ix5 y]
    congr 1 <;> first | rfl | exact Subsingleton.elim (α := Fin 1) _ _
  unfold stateBlock
  rw [h1, h2, h3, h4, hy]
  exact mixPay27 _ _ _ _ _

/-- A decay table. -/
theorem piece_decay (h : ℕ) (hh : h < 6) (inb) (y : S1x256x256.Idx) :
    @Eq EReal (k0_pay3 (x0 (ix2 (Fin.ofNat 2 0) (Fin.ofNat 6 h))) (x0 (ix2 (Fin.ofNat 2 1) (Fin.ofNat 6 h))) y)
      (decays x0 ((Rect.unit (s := S6x256x256) ![h, 0, 0] S1x256x256.size inb).emb y)) := by
  have e0 : (y 0).val < 1 := (y 0).isLt
  have h0 : (Rect.unit (s := S6x256x256) ![h, 0, 0] S1x256x256.size inb).emb y 0 = Fin.ofNat 6 h :=
    Fin.ext (by show h + 1 * (y 0).val = h % 6; omega)
  have h1 : (Rect.unit (s := S6x256x256) ![h, 0, 0] S1x256x256.size inb).emb y 1 = y 1 :=
    Fin.ext (by show 0 + 1 * (y 1).val = _; omega)
  have h2 : (Rect.unit (s := S6x256x256) ![h, 0, 0] S1x256x256.size inb).emb y 2 = y 2 :=
    Fin.ext (by show 0 + 1 * (y 2).val = _; omega)
  have hy : y = ix3 0 (y 1) (y 2) := by
    rw [eq_ix3 y]
    congr 1 <;> first | rfl | exact Subsingleton.elim (α := Fin 1) _ _
  unfold decays
  rw [h0, h1, h2, hy]
  exact mixPay3 _ _ _ _

end Body

end Cert.Moe

end
-- ==== Proof.MixRun.lean ====
module

public import proofs.«01_k».proof.Proof.MixTile

/-
  The body of the prompt's token mixers, run: what each of its blocks holds afterwards.
-/

@[expose] public section

set_option maxRecDepth 16384

noncomputable section

namespace Cert.Moe

open Idealize.ShloMosaic Idealize.ShloMosaic.TcCoe Idealize.SL.Sem
open Cert.Kernel4Ideal Cert.Kernel4Ideal.Gen

section Body

variable (c : Dev nD) (i : grid0.Coords) (arg1 : Memref sig .tc .smem S2x6 .f32) (harg1 : arg1.IsWhole) (arg2 : Memref sig .tc .smem S1 .f32) (harg2 : arg2.IsWhole) (arg3 : Memref sig .tc .vmem S256x1408 .bf16) (harg3 : arg3.IsWhole) (arg4 : Memref sig .tc .vmem S256x2048 .bf16) (harg4 : arg4.IsWhole) (arg5 : Memref sig .tc .vmem S256x1024 .f32) (harg5 : arg5.IsWhole) (arg6 : Memref sig .tc .vmem S1x6x1024 .f32) (harg6 : arg6.IsWhole) (arg7 : Memref sig .tc .vmem S1024x1024 .bf16) (harg7 : arg7.IsWhole) (arg8 : Memref sig .tc .vmem S1x384 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S1x2x6x64x64 .f32) (harg14 : arg14.IsWhole) (arg15 : Memref sig .tc .vmem S256x1024 .f32) (harg15 : arg15.IsWhole) (arg16 : Memref sig .tc .vmem S6x256x256 .f32) (harg16 : arg16.IsWhole)
  (x0 : Vec Ideal S2x6 .f32) (x1 : Vec Ideal S1 .f32) (x2 : Vec Ideal S256x1408 .bf16) (x3 : Vec Ideal S256x2048 .bf16) (x4 : Vec Ideal S256x1024 .f32) (x5 : Vec Ideal S1x6x1024 .f32) (x6 : Vec Ideal S1024x1024 .bf16) (x7 : Vec Ideal S1x384 .f32) (x8 : Vec Ideal S1x384 .f32) (x9 : Vec Ideal S1x256 .f32) (x10 : Vec Ideal S1x1024 .f32) (x11 : Vec Ideal S1x1024 .f32) (xs1 : Vec Ideal S6x256x256 .f32)

theorem planeIn (h : ℕ) (hh : h < 6) (a : Fin S6x256x256.rank) :
    (![h, 0, 0] : Fin 3 → ℕ) a + S1x256x256.size a ≤ S6x256x256.size a := by
  fin_cases a
  · exact hh
  · exact Nat.le_refl 256
  · exact Nat.le_refl 256

theorem colIn (o : ℕ) (ho : o + 64 ≤ 1024) (a : Fin S256x1024.rank) :
    (![0, o] : Fin 2 → ℕ) a + S256x64.size a ≤ S256x1024.size a := by
  fin_cases a
  · exact Nat.le_refl 256
  · exact ho

/-- A decay table as it is stored. -/
def decayPiece (h : ℕ) (hh : h < 6) : View.Piece (Elt Ideal) S6x256x256 .f32 :=
  ⟨Rect.unit (s := S6x256x256) ![h, 0, 0] S1x256x256.size (planeIn h hh),
    k0_pay3 (x0 (ix2 (Fin.ofNat 2 0) (Fin.ofNat 6 h))) (x0 (ix2 (Fin.ofNat 2 1) (Fin.ofNat 6 h)))⟩

/-- The six decay tables, the last stored first. -/
def decayPieces : List (View.Piece (Elt Ideal) S6x256x256 .f32) :=
  [decayPiece x0 5 (by decide), decayPiece x0 4 (by decide), decayPiece x0 3 (by decide), decayPiece x0 2 (by decide),
    decayPiece x0 1 (by decide), decayPiece x0 0 (by decide)]

theorem decayPieces_eq : ∀ p ∈ decayPieces x0, ∀ y : p.1.shape.Idx, p.2 y = decays x0 (p.1.emb y) := by
  have key : ∀ h hh, ∀ y, (decayPiece x0 h hh).2 y = decays x0 ((decayPiece x0 h hh).1.emb y) :=
    fun h hh y => piece_decay x0 h hh (planeIn h hh) y
  intro p hp
  simp only [decayPieces, List.mem_cons, List.not_mem_nil, or_false] at hp
  obtain rfl | rfl | rfl | rfl | rfl | rfl := hp <;> exact key _ _

/-- The decay tables the first point stores. -/
theorem decayOut_A (hc : cond0_0 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 = decays x0 := by
  funext y
  refine View.read_writes_apply_of_pieces (Val := Elt Ideal) VS0_1 VS0_1.junk (decays x0) _ ?_ y
    (scover0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 y)
  unfold kernelRun0_A
  dsimp only
  sl_unfold_words
  simp only [decayRead arg1 harg1 x0]
  exact decayPieces_eq x0

/-- A decay table loaded after they are stored. -/
theorem planeCov (v : View sig .tc .vmem S6x256x256 .f32) (h : ℕ) (inb) :
    v.readCov (decayPieces x0) (Rect.unit (s := S6x256x256) ![h, 0, 0] S1x256x256.size inb).toLoadRect
      = plane (decays x0) h := by
  rw [View.readCov_eq_canon']
  funext y
  rw [View.canon_apply_of_pieces (decays x0) _ (decayPieces_eq x0) _
    (View.cover_of_tiledL (decayPieces x0) S1x256x256.size (by sl_kernel_rfl) _)]
  refine congrArg (decays x0) ?_
  have h1 : h + 1 ≤ 6 := inb 0
  have h0 : (y 0).val < 1 := (y 0).isLt
  funext a
  apply Fin.ext
  fin_cases a
  · show h + 1 * (y 0).val = h % 6
    omega
  · show 0 + 1 * (y 1).val = (y 1).val
    omega
  · show 0 + 1 * (y 2).val = (y 2).val
    omega

theorem planeCov_of (v : View sig .tc .vmem S6x256x256 .f32) (h : ℕ) (inb) (L) (hL : L = decayPieces x0) :
    v.readCov L (Rect.unit (s := S6x256x256) ![h, 0, 0] S1x256x256.size inb).toLoadRect = plane (decays x0) h := by
  rw [hL]
  exact planeCov x0 v h inb

/-- A head's columns of the mix, stored from column `o` on. -/
def colPiece (o : ℕ) (ho : o + 64 ≤ 1024) (w : FVec Ideal S256x64 .f32) : View.Piece (Elt Ideal) S256x1024 .f32 :=
  ⟨Rect.unit (s := S256x1024) ![0, o] S256x64.size (colIn o ho), w⟩

def naPiece (h : ℕ) (hh : h < 6) : View.Piece (Elt Ideal) S256x1024 .f32 :=
  colPiece (64 * h) (by omega) (k0_pay14 (F := Ideal) (colBlock 64 x2 (64 * h)) (colBlock 64 x3 (64 * h)) (colBlock 64 x3 (384 + 64 * h)))

def retPiece (h : ℕ) (hh : h < 6) : View.Piece (Elt Ideal) S256x1024 .f32 :=
  have o := k0_pay23 (F := Ideal) (colBlock 64 x2 (384 + 64 * h)) (colBlock 64 x3 (768 + 64 * h))
    (colBlock 64 x3 (1152 + 64 * h)) (plane (decays x0) h)
  colPiece (384 + 64 * h) (by omega) (k0_pay33 (F := Ideal) (colBlock 64 x2 (768 + 64 * h)) (k0_pay28 (colBlock 64 x7 (64 * h)))
        (k0_pay29 (colBlock 64 x8 (64 * h))) (k0_pay30 o) (k0_pay31 o) k0_pay32)

def diffPiece (h : ℕ) (hh : h < 4) : View.Piece (Elt Ideal) S256x1024 .f32 :=
  have o := k0_pay78 (F := Ideal) (x1 (ix1 0)) (colBlock 64 x3 (1792 + 64 * h)) (colBlock 32 x2 (1152 + 64 * h))
      (colBlock 32 x3 (1536 + 64 * h)) (colBlock 32 x2 (1184 + 64 * h)) (colBlock 32 x3 (1568 + 64 * h))
  colPiece (768 + 64 * h) (by omega) (k0_pay81 (F := Ideal) o (k0_pay79 (colBlock 64 x9 (64 * h))) (mulf o o))

/-- The sixteen heads' columns, the last stored first. -/
def mixPieces : List (View.Piece (Elt Ideal) S256x1024 .f32) :=
  [diffPiece x1 x2 x3 x9 3 (by decide), diffPiece x1 x2 x3 x9 2 (by decide), diffPiece x1 x2 x3 x9 1 (by decide),
    diffPiece x1 x2 x3 x9 0 (by decide),
    retPiece x0 x2 x3 x7 x8 5 (by decide), retPiece x0 x2 x3 x7 x8 4 (by decide), retPiece x0 x2 x3 x7 x8 3 (by decide),
    retPiece x0 x2 x3 x7 x8 2 (by decide), retPiece x0 x2 x3 x7 x8 1 (by decide), retPiece x0 x2 x3 x7 x8 0 (by decide),
    naPiece x2 x3 5 (by decide), naPiece x2 x3 4 (by decide), naPiece x2 x3 3 (by decide), naPiece x2 x3 2 (by decide),
    naPiece x2 x3 1 (by decide), naPiece x2 x3 0 (by decide)]

theorem mixPieces_eq :
    ∀ p ∈ mixPieces x0 x1 x2 x3 x7 x8 x9, ∀ y : p.1.shape.Idx, p.2 y = mixBlock x0 x1 x2 x3 x7 x8 x9 (p.1.emb y) := by
  have na : ∀ h hh, ∀ y, (naPiece x2 x3 h hh).2 y = mixBlock x0 x1 x2 x3 x7 x8 x9 ((naPiece x2 x3 h hh).1.emb y) :=
    fun h hh y => piece_na x0 x1 x2 x3 x7 x8 x9 h hh (colIn _ (by omega)) y
  have ret : ∀ h hh, ∀ y, (retPiece x0 x2 x3 x7 x8 h hh).2 y
      = mixBlock x0 x1 x2 x3 x7 x8 x9 ((retPiece x0 x2 x3 x7 x8 h hh).1.emb y) :=
    fun h hh y => piece_ret x0 x1 x2 x3 x7 x8 x9 h hh (colIn _ (by omega)) y _ rfl _ rfl
  have diff : ∀ h hh, ∀ y, (diffPiece x1 x2 x3 x9 h hh).2 y
      = mixBlock x0 x1 x2 x3 x7 x8 x9 ((diffPiece x1 x2 x3 x9 h hh).1.emb y) :=
    fun h hh y => piece_diff x0 x1 x2 x3 x7 x8 x9 h hh (colIn _ (by omega)) y _ rfl
  intro p hp
  simp only [mixPieces, List.mem_cons, List.not_mem_nil, or_false] at hp
  obtain rfl | rfl | rfl | rfl | rfl | rfl | rfl | rfl | rfl | rfl | rfl | rfl | rfl | rfl | rfl | rfl := hp
  exacts [diff _ _, diff _ _, diff _ _, diff _ _,
    ret _ _, ret _ _, ret _ _, ret _ _, ret _ _, ret _ _,
    na _ _, na _ _, na _ _, na _ _, na _ _, na _ _]

/-- The mix loaded after the heads are stored. -/
theorem mixCov (v : View sig .tc .vmem S256x1024 .f32) (inb) :
    v.readCov (mixPieces x0 x1 x2 x3 x7 x8 x9) (Rect.unit (s := S256x1024) ![0, 0] S256x1024.size inb).toLoadRect
      = mixBlock x0 x1 x2 x3 x7 x8 x9 := by
  rw [View.readCov_eq_canon']
  funext y
  rw [View.canon_apply_of_pieces (mixBlock x0 x1 x2 x3 x7 x8 x9) _ (mixPieces_eq x0 x1 x2 x3 x7 x8 x9) _
    (View.cover_of_tiledL (mixPieces x0 x1 x2 x3 x7 x8 x9) S256x64.size (by sl_kernel_rfl) _)]
  refine congrArg (mixBlock x0 x1 x2 x3 x7 x8 x9) ?_
  funext a
  apply Fin.ext
  fin_cases a
  · show 0 + 1 * (y 0).val = (y 0).val
    omega
  · show 0 + 1 * (y 1).val = (y 1).val
    omega

/-- The block's new tokens. -/
def outBlock : Vec Ideal S256x1024 .f32 := fun y =>
  (mixed x0 x1 x2 x3 x7 x8 x9).out (tab x6) (tab x4) (fun d => x5 (ix3 0 2 d)) (tab x10 0) (tab x11 0) (y 0) (y 1)

theorem piece_out (M : FVec Ideal S256x1024 .f32) (hM : M = mixBlock x0 x1 x2 x3 x7 x8 x9) (inb) (y : S256x1024.Idx) :
    @Eq EReal (k0_pay1 (F := Ideal) (k0_pay95 M x6 x5 x4) x10 x11 y)
      (outBlock x0 x1 x2 x3 x4 x5 x6 x7 x8 x9 x10 x11
        ((Rect.unit (s := S256x1024) ![0, 0] S256x1024.size inb).emb y)) := by
  have he : (Rect.unit (s := S256x1024) ![0, 0] S256x1024.size inb).emb y = y := by
    funext a
    apply Fin.ext
    fin_cases a
    · show 0 + 1 * (y 0).val = (y 0).val
      omega
    · show 0 + 1 * (y 1).val = (y 1).val
      omega
  rw [he, hM, eq_ix2 y]
  exact mixPay1 _ _ _ _ _ _ _ _

theorem tokensOut_B (hc : ¬cond0_0 i) (hD : xs1 = decays x0) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs1 = outBlock x0 x1 x2 x3 x4 x5 x6 x7 x8 x9 x10 x11 := by
  subst hD
  funext y
  refine View.read_writes_apply_of_pieces (Val := Elt Ideal) VO0_12 VO0_12.junk
    (outBlock x0 x1 x2 x3 x4 x5 x6 x7 x8 x9 x10 x11) _ ?_ y (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 (decays x0) y)
  unfold kernelRun0_B
  dsimp only
  sl_unfold_words
  simp only [planeRead arg16 harg16, colsRead (M := 64) arg3 harg3 x2, colsRead (M := 64) arg4 harg4 x3, colsRead (M := 32) arg3 harg3 x2, colsRead (M := 32) arg4 harg4 x3, colsRead (M := 64) arg8 harg8 x7, colsRead (M := 64) arg9 harg9 x8, colsRead (M := 64) arg10 harg10 x9, wholeRead2 arg5 harg5 x4, vectorsRead arg6 harg6 x5, wholeRead2 arg7 harg7 x6, wholeRead2 arg11 harg11 x10, wholeRead2 arg12 harg12 x11, lamRead arg2 harg2 x1]
  intro p hp
  simp only [List.mem_cons, List.not_mem_nil, or_false] at hp
  subst hp
  refine fun y => piece_out x0 x1 x2 x3 x4 x5 x6 x7 x8 x9 x10 x11 _ ?_ (by decide) y
  exact mixCov x0 x1 x2 x3 x7 x8 x9 arg15.view _

theorem tokensOut_A (hc : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 = outBlock x0 x1 x2 x3 x4 x5 x6 x7 x8 x9 x10 x11 := by
  funext y
  refine View.read_writes_apply_of_pieces (Val := Elt Ideal) VO0_12 VO0_12.junk
    (outBlock x0 x1 x2 x3 x4 x5 x6 x7 x8 x9 x10 x11) _ ?_ y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 y)
  unfold kernelRun0_A
  dsimp only
  sl_unfold_words
  simp only [decayRead arg1 harg1 x0, colsRead (M := 64) arg3 harg3 x2, colsRead (M := 64) arg4 harg4 x3, colsRead (M := 32) arg3 harg3 x2, colsRead (M := 32) arg4 harg4 x3, colsRead (M := 64) arg8 harg8 x7, colsRead (M := 64) arg9 harg9 x8, colsRead (M := 64) arg10 harg10 x9, wholeRead2 arg5 harg5 x4, vectorsRead arg6 harg6 x5, wholeRead2 arg7 harg7 x6, wholeRead2 arg11 harg11 x10, wholeRead2 arg12 harg12 x11, lamRead arg2 harg2 x1]
  rw [planeCov_of x0 arg16.view 5, planeCov_of x0 arg16.view 4, planeCov_of x0 arg16.view 3,
    planeCov_of x0 arg16.view 2, planeCov_of x0 arg16.view 1, planeCov_of x0 arg16.view 0]
  any_goals rfl
  intro p hp
  simp only [List.mem_cons, List.not_mem_nil, or_false] at hp
  subst hp
  refine fun y => piece_out x0 x1 x2 x3 x4 x5 x6 x7 x8 x9 x10 x11 _ ?_ (by decide) y
  exact mixCov x0 x1 x2 x3 x7 x8 x9 arg15.view _

theorem stateIn (dir h : ℕ) (hd : dir < 2) (hh : h < 6) (a : Fin S1x2x6x64x64.rank) :
    (![0, dir, h, 0, 0] : Fin 5 → ℕ) a + S1x1x1x64x64.size a ≤ S1x2x6x64x64.size a := by
  fin_cases a
  · exact Nat.le_refl 1
  · exact hd
  · exact hh
  · exact Nat.le_refl 64
  · exact Nat.le_refl 64

/-- A forward state as it is stored. -/
def fwdPiece (h : ℕ) (hh : h < 6) : View.Piece (Elt Ideal) S1x2x6x64x64 .f32 :=
  ⟨Rect.unit (s := S1x2x6x64x64) ![0, 0, h, 0, 0] S1x1x1x64x64.size (stateIn 0 h (by decide) hh),
    k0_pay26 (F := Ideal) (colBlock 64 x3 (1152 + 64 * h)) (k0_pay24 (colBlock 64 x3 (768 + 64 * h))) k0_pay25
        (x0 (ix2 (Fin.ofNat 2 0) (Fin.ofNat 6 h)))⟩

/-- A backward state as it is stored. -/
def bwdPiece (h : ℕ) (hh : h < 6) : View.Piece (Elt Ideal) S1x2x6x64x64 .f32 :=
  ⟨Rect.unit (s := S1x2x6x64x64) ![0, 1, h, 0, 0] S1x1x1x64x64.size (stateIn 1 h (by decide) hh),
    k0_pay27 (F := Ideal) k0_pay22 (colBlock 64 x3 (1152 + 64 * h)) (k0_pay24 (colBlock 64 x3 (768 + 64 * h)))
        (x0 (ix2 (Fin.ofNat 2 1) (Fin.ofNat 6 h)))⟩

/-- The twelve states, the last stored first. -/
def statePieces : List (View.Piece (Elt Ideal) S1x2x6x64x64 .f32) :=
  [bwdPiece x0 x3 5 (by decide), fwdPiece x0 x3 5 (by decide), bwdPiece x0 x3 4 (by decide), fwdPiece x0 x3 4 (by decide),
    bwdPiece x0 x3 3 (by decide), fwdPiece x0 x3 3 (by decide), bwdPiece x0 x3 2 (by decide), fwdPiece x0 x3 2 (by decide),
    bwdPiece x0 x3 1 (by decide), fwdPiece x0 x3 1 (by decide), bwdPiece x0 x3 0 (by decide), fwdPiece x0 x3 0 (by decide)]

theorem statePieces_eq :
    ∀ p ∈ statePieces x0 x3, ∀ y : p.1.shape.Idx, p.2 y = stateBlock x0 x1 x2 x3 x7 x8 x9 (p.1.emb y) := by
  have fwd : ∀ h hh, ∀ y, (fwdPiece x0 x3 h hh).2 y = stateBlock x0 x1 x2 x3 x7 x8 x9 ((fwdPiece x0 x3 h hh).1.emb y) :=
    fun h hh y => piece_fwd x0 x1 x2 x3 x7 x8 x9 h hh (stateIn 0 h (by decide) hh) y
  have bwd : ∀ h hh, ∀ y, (bwdPiece x0 x3 h hh).2 y = stateBlock x0 x1 x2 x3 x7 x8 x9 ((bwdPiece x0 x3 h hh).1.emb y) :=
    fun h hh y => piece_bwd x0 x1 x2 x3 x7 x8 x9 h hh (stateIn 1 h (by decide) hh) y
  intro p hp
  simp only [statePieces, List.mem_cons, List.not_mem_nil, or_false] at hp
  obtain rfl | rfl | rfl | rfl | rfl | rfl | rfl | rfl | rfl | rfl | rfl | rfl := hp
  exacts [bwd _ _, fwd _ _, bwd _ _, fwd _ _, bwd _ _, fwd _ _, bwd _ _, fwd _ _, bwd _ _, fwd _ _, bwd _ _, fwd _ _]

theorem stateOut_B (hc : ¬cond0_0 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs1 = stateBlock x0 x1 x2 x3 x7 x8 x9 := by
  funext y
  refine View.read_writes_apply_of_pieces (Val := Elt Ideal) VO0_13 VO0_13.junk (stateBlock x0 x1 x2 x3 x7 x8 x9) _ ?_ y
    (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs1 y)
  unfold kernelRun0_B
  dsimp only
  sl_unfold_words
  simp only [decayRead arg1 harg1 x0, colsRead (M := 64) arg4 harg4 x3]
  exact statePieces_eq x0 x1 x2 x3 x7 x8 x9

theorem stateOut_A (hc : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 = stateBlock x0 x1 x2 x3 x7 x8 x9 := by
  funext y
  refine View.read_writes_apply_of_pieces (Val := Elt Ideal) VO0_13 VO0_13.junk (stateBlock x0 x1 x2 x3 x7 x8 x9) _ ?_ y
    (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 y)
  unfold kernelRun0_A
  dsimp only
  sl_unfold_words
  simp only [decayRead arg1 harg1 x0, colsRead (M := 64) arg4 harg4 x3]
  exact statePieces_eq x0 x1 x2 x3 x7 x8 x9

end Body

end Cert.Moe

end
-- ==== Proof.MixKernel.lean ====
module

public import proofs.«01_k».proof.Proof.MixRun
public import proofs.«01_k».proof.Proof.MixArgs

/-
  The arrays the kernel of the prompt's token mixers leaves. Every point finds the decay tables the first one stored, so
  its blocks are its sequence's new tokens and states.
-/

@[expose] public section

set_option maxRecDepth 16384

noncomputable section

namespace Cert.Moe

open Idealize.ShloMosaic Idealize.ShloMosaic.TcCoe Idealize.SL.Sem
open Cert.Kernel4Ideal Cert.Kernel4Ideal.Gen

/-- Where each window's block of point `t` lies. -/
theorem mixBlockIndex : ∀ t : Fin cfg0.N,
    win0_0.index t = ![0, 0] ∧ win0_1.index t = ![0] ∧ win0_2.index t = ![t.val, 0]
      ∧ win0_3.index t = ![t.val, 0] ∧ win0_4.index t = ![t.val, 0] ∧ win0_5.index t = ![0, 0, 0]
      ∧ win0_6.index t = ![0, 0] ∧ win0_7.index t = ![0, 0] ∧ win0_8.index t = ![0, 0]
      ∧ win0_9.index t = ![0, 0] ∧ win0_10.index t = ![0, 0] ∧ win0_11.index t = ![0, 0]
      ∧ win0_12.index t = ![t.val, 0] ∧ win0_13.index t = ![t.val, 0, 0, 0, 0] :=
  (by decide +kernel : ∀ t : Fin grid0.N, _)

theorem mixPointCount (t : Fin cfg0.N) : t.val < 32 := t.isLt

variable (m : (ℓ : Loc nD τ sig) → Buf (Elt Ideal) ℓ) (c : Dev nD)

/-- The mixers' arguments, read off the kernel program's argument arrays. -/
def mixArgsK : MixArgs where
  q n k := m ((c : Thread nD τ).loc main_arg0) (ix2 n k)
  kv n k := m ((c : Thread nD τ).loc main_arg1) (ix2 n k)
  x n d := m ((c : Thread nD τ).loc main_arg2) (ix2 n d)
  gate d := m ((c : Thread nD τ).loc main_arg3) (ix3 0 2 d)
  w d n := m ((c : Thread nD τ).loc main_arg4) (ix2 d n)
  lg a h := m ((c : Thread nD τ).loc main_arg5) (ix2 a h)
  lam := m ((c : Thread nD τ).loc main_arg6) (ix1 0)
  gw k := m ((c : Thread nD τ).loc main_arg7) (ix1 k)
  gb k := m ((c : Thread nD τ).loc main_arg8) (ix1 k)
  dw k := m ((c : Thread nD τ).loc main_arg9) (ix1 k)
  lw d := m ((c : Thread nD τ).loc main_arg10) (ix1 d)
  lb d := m ((c : Thread nD τ).loc main_arg11) (ix1 d)

section Blocks
variable (t : Fin cfg0.N)

theorem mixLg (a : Fin 2) (h : Fin 6) : iblk m c 0 t (ix2 a h) = (mixArgsK m c).lg a h := by
  have e := (mixBlockIndex t).1
  unfold mixArgsK
  blk_ext [iblk, V, e]

theorem mixLam : iblk m c 1 t (ix1 0) = (mixArgsK m c).lam := by
  have e := (mixBlockIndex t).2.1
  unfold mixArgsK
  blk_ext [iblk, V, e]

theorem mixQ (i : Fin 256) (k : Fin 1408) : iblk m c 2 t (ix2 i k) = (mixArgsK m c).q (seqToken t i) k := by
  have e := (mixBlockIndex t).2.2.1
  unfold mixArgsK
  blk_ext [iblk, V, e, seqToken]

theorem mixKV (i : Fin 256) (k : Fin 2048) : iblk m c 3 t (ix2 i k) = (mixArgsK m c).kv (seqToken t i) k := by
  have e := (mixBlockIndex t).2.2.2.1
  unfold mixArgsK
  blk_ext [iblk, V, e, seqToken]

theorem mixX (i : Fin 256) (k : Fin 1024) : iblk m c 4 t (ix2 i k) = (mixArgsK m c).x (seqToken t i) k := by
  have e := (mixBlockIndex t).2.2.2.2.1
  unfold mixArgsK
  blk_ext [iblk, V, e, seqToken]

theorem mixGate (k : Fin 1024) : iblk m c 5 t (ix3 0 2 k) = (mixArgsK m c).gate k := by
  have e := (mixBlockIndex t).2.2.2.2.2.1
  unfold mixArgsK
  blk_ext [iblk, V, e]

theorem mixW (d n : Fin 1024) : iblk m c 6 t (ix2 d n) = (mixArgsK m c).w d n := by
  have e := (mixBlockIndex t).2.2.2.2.2.2.1
  have hx : (win0_6.blk t).view.emb (ix2 d n) = ix2 d n := by blk_ext [e]
  blk_simp [iblk, e]
  rw [hx]
  entry_read
  pointwise []
  rfl

theorem mixGw (k : Fin 384) : iblk m c 7 t (ix2 0 k) = (mixArgsK m c).gw k := by
  have e := (mixBlockIndex t).2.2.2.2.2.2.2.1
  have hx : (win0_7.blk t).view.emb (ix2 0 k) = ix2 0 k := by blk_ext [e]
  blk_simp [iblk, e]
  rw [hx]
  entry_read
  pointwise []
  rfl

theorem mixGb (k : Fin 384) : iblk m c 8 t (ix2 0 k) = (mixArgsK m c).gb k := by
  have e := (mixBlockIndex t).2.2.2.2.2.2.2.2.1
  have hx : (win0_8.blk t).view.emb (ix2 0 k) = ix2 0 k := by blk_ext [e]
  blk_simp [iblk, e]
  rw [hx]
  entry_read
  pointwise []
  rfl

theorem mixDw (k : Fin 256) : iblk m c 9 t (ix2 0 k) = (mixArgsK m c).dw k := by
  have e := (mixBlockIndex t).2.2.2.2.2.2.2.2.2.1
  have hx : (win0_9.blk t).view.emb (ix2 0 k) = ix2 0 k := by blk_ext [e]
  blk_simp [iblk, e]
  rw [hx]
  entry_read
  pointwise []
  rfl

theorem mixLw (k : Fin 1024) : iblk m c 10 t (ix2 0 k) = (mixArgsK m c).lw k := by
  have e := (mixBlockIndex t).2.2.2.2.2.2.2.2.2.2.1
  have hx : (win0_10.blk t).view.emb (ix2 0 k) = ix2 0 k := by blk_ext [e]
  blk_simp [iblk, e]
  rw [hx]
  entry_read
  pointwise []
  rfl

theorem mixLb (k : Fin 1024) : iblk m c 11 t (ix2 0 k) = (mixArgsK m c).lb k := by
  have e := (mixBlockIndex t).2.2.2.2.2.2.2.2.2.2.2.1
  have hx : (win0_11.blk t).view.emb (ix2 0 k) = ix2 0 k := by blk_ext [e]
  blk_simp [iblk, e]
  rw [hx]
  entry_read
  pointwise []
  rfl

/-- The point's operands are its sequence's. -/
theorem mixed_seq :
    mixed (iblk m c 0 t) (iblk m c 1 t) (iblk m c 2 t) (iblk m c 3 t) (iblk m c 7 t) (iblk m c 8 t) (iblk m c 9 t)
      = (mixArgsK m c).seq t := by
  unfold mixed MixArgs.seq
  have h0 : tab (iblk m c 0 t) = (mixArgsK m c).lg := funext fun a => funext fun h => mixLg m c t a h
  have h2 : tab (iblk m c 2 t) = fun i => (mixArgsK m c).q (seqToken t i) := funext fun a => funext fun h => mixQ m c t a h
  have h3 : tab (iblk m c 3 t) = fun i => (mixArgsK m c).kv (seqToken t i) :=
    funext fun a => funext fun h => mixKV m c t a h
  have h7 : tab (iblk m c 7 t) 0 = (mixArgsK m c).gw := funext fun h => mixGw m c t h
  have h8 : tab (iblk m c 8 t) 0 = (mixArgsK m c).gb := funext fun h => mixGb m c t h
  have h9 : tab (iblk m c 9 t) 0 = (mixArgsK m c).dw := funext fun h => mixDw m c t h
  rw [h0, h2, h3, h7, h8, h9]
  exact congrArg (fun l => Mixed.mk _ _ _ l _ _ _) (mixLam m c t)

theorem outBlock_seq (i : Fin 256) (d : Fin 1024) :
    outBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix2 i d)
      = (mixArgsK m c).tokens t i d := by
  unfold outBlock
  rw [mixed_seq]
  have h4 : tab (iblk m c 4 t) = fun i => (mixArgsK m c).x (seqToken t i) := funext fun a => funext fun h => mixX m c t a h
  have h5 : (fun d => iblk m c 5 t (ix3 0 2 d)) = (mixArgsK m c).gate := funext fun h => mixGate m c t h
  have h6 : tab (iblk m c 6 t) = (mixArgsK m c).w := funext fun a => funext fun h => mixW m c t a h
  have h10 : tab (iblk m c 10 t) 0 = (mixArgsK m c).lw := funext fun h => mixLw m c t h
  have h11 : tab (iblk m c 11 t) 0 = (mixArgsK m c).lb := funext fun h => mixLb m c t h
  rw [h4, h6, h10, h11]
  exact congrArg (fun g => ((mixArgsK m c).seq t).out _ _ g _ _ i d) h5

theorem stateBlock_seq (y : S1x2x6x64x64.Idx) :
    stateBlock (iblk m c 0 t) (iblk m c 1 t) (iblk m c 2 t) (iblk m c 3 t) (iblk m c 7 t) (iblk m c 8 t) (iblk m c 9 t) y
      = ((mixArgsK m c).seq t).state (y 1).val (y 2).val (y 3) (y 4) := by
  unfold stateBlock
  rw [mixed_seq]

theorem decays_eq (t' : Fin cfg0.N) : decays (iblk m c 0 t) = decays (iblk m c 0 t') := by
  have h : ∀ a h, iblk m c 0 t (ix2 a h) = iblk m c 0 t' (ix2 a h) := fun a h => (mixLg m c t a h).trans (mixLg m c t' a h).symm
  funext y
  exact congrArg₂ (fun p q : EReal => decay p q (y 1) (y 2)) (h 0 (y 0)) (h 1 (y 0))

end Blocks

/-- The decay tables are held after every point. -/
theorem decaysHeld : ∀ (n : ℕ) (hn : n < cfg0.N), (outsAt0 m c n hn).2.2 = decays (iblk m c 0 ⟨n, hn⟩)
  | 0, hn => by
    rw [outsAt0_A m c ⟨0, hn⟩ rfl]
    dsimp only
    exact decayOut_A ..
  | n + 1, hn => by
    have h0 : ¬(n + 1) % 32 = 0 := by
      have : n + 1 < 32 := hn
      omega
    rw [outsAt0_B m c ⟨n + 1, hn⟩ h0]
    dsimp only
    unfold sout0_B_1
    refine Eq.trans ?_ (decays_eq m c ⟨n, Nat.lt_of_succ_lt hn⟩ _)
    exact decaysHeld n (Nat.lt_of_succ_lt hn)

theorem tokensStored (t : Fin cfg0.N) (i : Fin 256) (d : Fin 1024) :
    (outsAt0 m c t.val t.isLt).1 (ix2 i d) = (mixArgsK m c).tokens t i d := by
  rw [← outBlock_seq]
  refine congrFun ?_ _
  by_cases h0 : t.val % 32 = 0
  · rw [outsAt0_A m c t h0]
    dsimp only
    exact tokensOut_A ..
  · rw [outsAt0_B m c t h0]
    dsimp only
    exact tokensOut_B _ _ _ _ _ _ _ _ _ _ _ _ _ _ _ _ _ _ _ _ _ _ _ _ _ _ _ _ _ _ _ _ _ _ _ _ _ _ _ _ _ _ _ _ _ _ _ _
      ((decaysHeld m c _ _).trans (decays_eq m c _ t))

theorem statesStored (t : Fin cfg0.N) (y : S1x2x6x64x64.Idx) :
    (outsAt0 m c t.val t.isLt).2.1 y = ((mixArgsK m c).seq t).state (y 1).val (y 2).val (y 3) (y 4) := by
  rw [← stateBlock_seq]
  refine congrFun ?_ _
  by_cases h0 : t.val % 32 = 0
  · rw [outsAt0_A m c t h0]
    dsimp only
    exact stateOut_A ..
  · rw [outsAt0_B m c t h0]
    dsimp only
    exact stateOut_B ..

/-- The new tokens' array. -/
def tokensArray : S8192x1024.Idx → EReal := fun y =>
  (mixArgsK m c).tokens ⟨(y 0).val / 256, by have : (y 0).val < 8192 := (y 0).isLt; omega⟩
    ⟨(y 0).val % 256, Nat.mod_lt _ (by decide)⟩ (y 1)

/-- The states' array. -/
def statesArray : S32x2x6x64x64.Idx → EReal := fun y =>
  ((mixArgsK m c).seq (y 0)).state (y 1).val (y 2).val (y 3) (y 4)

theorem tokensKernel : (dats m 0 c).arrAt 12 cfg0.N = tokensArray m c := by
  refine (dats m 0 c).arrAt_eq_of_covers 12 _ (by decide +kernel) fun t hf y => ?_
  have e := (mixBlockIndex t).2.2.2.2.2.2.2.2.2.2.2.2.1
  blk_simp
  rw [after0_12]
  obtain ⟨i, d, rfl⟩ : ∃ (i : Fin 256) (d : Fin 1024), y = ix2 i d := ⟨y 0, y 1, eq_ix2 y⟩
  have hx : (win0_12.blk t).view.emb (ix2 i d) = ix2 (seqToken t i) d := by blk_ext [e, seqToken]
  refine (tokensStored m c t i d).trans ?_
  refine Eq.trans ?_ (congrArg (tokensArray m c) hx).symm
  unfold tokensArray
  have ht := mixPointCount t
  have h1 : (256 * t.val + i.val) / 256 = t.val := by omega
  have h2 : (256 * t.val + i.val) % 256 = i.val := by omega
  exact congrArg₂ (fun a b => (mixArgsK m c).tokens a b d) (Fin.ext h1.symm) (Fin.ext h2.symm)

theorem statesKernel : (dats m 0 c).arrAt 13 cfg0.N = statesArray m c := by
  refine (dats m 0 c).arrAt_eq_of_covers 13 _ (by decide +kernel) fun t hf y => ?_
  have e := (mixBlockIndex t).2.2.2.2.2.2.2.2.2.2.2.2.2
  blk_simp
  rw [after0_13]
  obtain ⟨a, h, d, k, rfl⟩ : ∃ (a : Fin 2) (h : Fin 6) (d k : Fin 64), y = ix5 0 a h d k :=
    ⟨y 1, y 2, y 3, y 4, (eq_ix5 y).trans (congrArg (fun b => ix5 b (y 1) (y 2) (y 3) (y 4)) (Subsingleton.elim (α := Fin 1) _ _))⟩
  have hx : (win0_13.blk t).view.emb (ix5 0 a h d k) = ix5 (n0 := 32) t a h d k := by blk_ext [e]
  refine (statesStored m c t _).trans ?_
  exact (congrArg (statesArray m c) hx).symm

end Cert.Moe

end
-- ==== Proof.MixRef.lean ====
module

public import proofs.«01_k».proof.Proof.MixPay
public import proofs.«01_k».proof.Proof.MixArgs
public import proofs.«01_k».proof.Proof.Gen.Reference4Ideal.Run
public import Idealize.ShloMosaic.Lib.Pointwise
public import Idealize.ShloMosaic.Lib.Claim

/-
  The reference of the prompt's token mixers: its arguments, and its softmaxes as the heads' averages.
-/

@[expose] public section

set_option maxRecDepth 16384

noncomputable section

namespace Cert.Moe

open Idealize.ShloMosaic Idealize.ShloMosaic.TcCoe Idealize.SL.Sem
open Cert.Reference4Ideal Cert.Reference4Ideal.Gen Cert.Reference4Ideal.Value

variable (V0 : Valuation τ sig (Elt Ideal))

/-- The mixers' arguments, read off the reference's argument arrays. -/
def mixArgsR : MixArgs where
  q n k := V0 (Proc.devRef .tc main_arg0) (ix2 n k)
  kv n k := V0 (Proc.devRef .tc main_arg1) (ix2 n k)
  x n d := V0 (Proc.devRef .tc main_arg2) (ix2 n d)
  gate d := V0 (Proc.devRef .tc main_arg3) (ix3 0 2 d)
  w d n := V0 (Proc.devRef .tc main_arg4) (ix2 d n)
  lg a h := V0 (Proc.devRef .tc main_arg5) (ix2 a h)
  lam := V0 (Proc.devRef .tc main_arg6) (ix1 0)
  gw k := V0 (Proc.devRef .tc main_arg7) (ix1 k)
  gb k := V0 (Proc.devRef .tc main_arg8) (ix1 k)
  dw k := V0 (Proc.devRef .tc main_arg9) (ix1 k)
  lw d := V0 (Proc.devRef .tc main_arg10) (ix1 d)
  lb d := V0 (Proc.devRef .tc main_arg11) (ix1 d)

/-- An entry of a flat table is an entry of its sequence's columns. -/
theorem cols_of {N M : ℕ} [NeZero N] (X : Fin 8192 → Fin N → EReal) (b : Fin 32) (i : Fin 256) (o : ℕ) (d : Fin M)
    (n : Fin 8192) (c : Fin N) (hn : n.val = b.val * 256 + i.val) (hc : c.val = o + d.val) :
    X n c = colsAt M (fun i => X (seqToken b i)) o i d := by
  have h1 : n = seqToken b i := Fin.ext (by show n.val = 256 * b.val + i.val; omega)
  have h2 : c = Fin.ofNat N (o + d.val) := Fin.ext (by
    show c.val = (o + d.val) % N
    rw [← hc, Nat.mod_eq_of_lt c.isLt])
  rw [h1, h2]
  rfl

/-- The largest entry along the last of four axes, as the reference takes it. -/
theorem fold_row4 {A B C : ℕ} (h : (⟨4, ![A, B, C, 256]⟩ : Shape).ReducesTo [3] ⟨3, ![A, B, C]⟩) (hu : 0 < S_.numel)
    (f : FVec Ideal ⟨4, ![A, B, C, 256]⟩ .f32) (a : Fin A) (b : Fin B) (c : Fin C) :
    @max EReal _ (Ideal.ofBits FTy.f32 4286578688#32)
      ((Host.reduce (FloatOps.maximumf (F := Ideal) (φ := .f32)) f (constant (F := Ideal) S_ .f32 0xFF800000#32) h hu :
        FVec Ideal ⟨3, ![A, B, C]⟩ .f32) (ix3 a b c))
      = rowMax (fun k => f (ix4 a b c k)) := by
  rw [Host.reduce_eq_fold]
  refine Eq.trans (congrArg (max _) (h.fold_fiber_r4_a3 (ix3 a b c) (max : EReal → EReal → EReal) _ _)) ?_
  show max (Ideal.ofBits FTy.f32 4286578688#32) (Finset.fold max (Ideal.ofBits FTy.f32 4286578688#32) _ _) = _
  rw [bits_bot, max_eq_right bot_le]
  rfl

/-- The same along the last of five axes. -/
theorem fold_row5 {A B C D : ℕ} (h : (⟨5, ![A, B, C, D, 256]⟩ : Shape).ReducesTo [4] ⟨4, ![A, B, C, D]⟩) (hu : 0 < S_.numel)
    (f : FVec Ideal ⟨5, ![A, B, C, D, 256]⟩ .f32) (a : Fin A) (b : Fin B) (c : Fin C) (d : Fin D) :
    @max EReal _ (Ideal.ofBits FTy.f32 4286578688#32)
      ((Host.reduce (FloatOps.maximumf (F := Ideal) (φ := .f32)) f (constant (F := Ideal) S_ .f32 0xFF800000#32) h hu :
        FVec Ideal ⟨4, ![A, B, C, D]⟩ .f32) (ix4 a b c d))
      = rowMax (fun k => f (ix5 a b c d k)) := by
  rw [Host.reduce_eq_fold]
  refine Eq.trans (congrArg (max _) (h.fold_fiber_r5_a4 (ix4 a b c d) (max : EReal → EReal → EReal) _ _)) ?_
  show max (Ideal.ofBits FTy.f32 4286578688#32) (Finset.fold max (Ideal.ofBits FTy.f32 4286578688#32) _ _) = _
  rw [bits_bot, max_eq_right bot_le]
  rfl

theorem numer4 (X : FVec Ideal S32x6x256x256 .f32) (R : FVec Ideal S32x6x256 .f32) (b : Fin 32) (h : Fin 6) (i j : Fin 256) :
    @Eq EReal (Host.exp (subf X (broadcastInDim S32x6x256x256 ![0, 1, 2, 3] bcast_S32x6x256x1_S32x6x256x256_0_1_2_3
        (broadcastInDim S32x6x256x1 ![0, 1, 2] bcast_S32x6x256_S32x6x256x1_0_1_2 (maximumf
          (broadcastInDim S32x6x256 ![] bcast_S_S32x6x256 (constant S_ .f32 0xFF800000#32)) R)))) (ix4 b h i j))
      (Ideal.exp (X (ix4 b h i j) - max (Ideal.ofBits FTy.f32 4286578688#32) (R (ix3 b h i)))) := by
  pointwise []

theorem numer5 (X : FVec Ideal S32x2x4x256x256 .f32) (R : FVec Ideal S32x2x4x256 .f32) (b : Fin 32) (s : Fin 2) (h : Fin 4)
    (i j : Fin 256) :
    @Eq EReal (Host.exp (subf X (broadcastInDim S32x2x4x256x256 ![0, 1, 2, 3, 4] bcast_S32x2x4x256x1_S32x2x4x256x256_0_1_2_3_4
        (broadcastInDim S32x2x4x256x1 ![0, 1, 2, 3] bcast_S32x2x4x256_S32x2x4x256x1_0_1_2_3 (maximumf
          (broadcastInDim S32x2x4x256 ![] bcast_S_S32x2x4x256 (constant S_ .f32 0xFF800000#32)) R)))) (ix5 b s h i j))
      (Ideal.exp (X (ix5 b s h i j) - max (Ideal.ofBits FTy.f32 4286578688#32) (R (ix4 b s h i)))) := by
  pointwise []

/-- The neighbourhood heads' scores. -/
theorem ref_naScore (b : Fin 32) (h : Fin 6) (i j : Fin 256) :
    @Eq EReal (res_main_v18 V0 (ix4 b h i j))
      (score (Ideal.ofBits FTy.f32 1040187392#32) (colsAt 64 ((mixArgsR V0).seq b).q (64 * h.val))
        (colsAt 64 ((mixArgsR V0).seq b).kv (64 * h.val)) i j) := by
  pointwise [res_main_v18]
  refine congrArg₂ (fun p q : EReal => p * q) (Finset.sum_congr (M := EReal) rfl fun x _ => congrArg₂ (fun p q : EReal => p * q) ?_ ?_) rfl
  · exact cols_of (mixArgsR V0).q b i _ x _ _ rfl (by show h.val * 64 + x.val = _; omega)
  · exact cols_of (mixArgsR V0).kv b j _ x _ _ rfl (by show h.val * 64 + x.val = _; omega)

/-- The differential heads' scores. -/
theorem ref_diffScore (b : Fin 32) (s : Fin 2) (h : Fin 4) (i j : Fin 256) :
    @Eq EReal (res_main_v224 V0 (ix5 b s h i j))
      (score (Ideal.ofBits FTy.f32 1043662067#32) (colsAt 32 ((mixArgsR V0).seq b).q (1152 + 32 * s.val + 64 * h.val))
        (colsAt 32 ((mixArgsR V0).seq b).kv (1536 + 32 * s.val + 64 * h.val)) i j) := by
  pointwise [res_main_v224]
  refine congrArg₂ (fun p q : EReal => p * q) (Finset.sum_congr (M := EReal) rfl fun x _ => congrArg₂ (fun p q : EReal => p * q) ?_ ?_) rfl
  · exact cols_of (mixArgsR V0).q b i _ x _ _ rfl (by show 1152 + (h.val * 64 + s.val * 32 + x.val) = _; omega)
  · exact cols_of (mixArgsR V0).kv b j _ x _ _ rfl (by show 1536 + (h.val * 64 + s.val * 32 + x.val) = _; omega)

theorem ref_naExp (b : Fin 32) (h : Fin 6) (i j : Fin 256) :
    @Eq EReal (res_main_v25 V0 (ix4 b h i j))
      (Ideal.exp (score (Ideal.ofBits FTy.f32 1040187392#32) (colsAt 64 ((mixArgsR V0).seq b).q (64 * h.val))
        (colsAt 64 ((mixArgsR V0).seq b).kv (64 * h.val)) i j - rowMax (score (Ideal.ofBits FTy.f32 1040187392#32)
          (colsAt 64 ((mixArgsR V0).seq b).q (64 * h.val)) (colsAt 64 ((mixArgsR V0).seq b).kv (64 * h.val)) i))) := by
  unfold res_main_v25
  refine (numer4 _ _ b h i j).trans (congrArg₂ (fun p q : EReal => Ideal.exp (p - q)) (ref_naScore V0 b h i j) ?_)
  exact (fold_row4 reducesTo_S32x6x256x256_S32x6x256_d3 h_S_ (res_main_v18 V0) b h i).trans
    (congrArg rowMax (funext fun k => ref_naScore V0 b h i k))

theorem ref_diffExp (b : Fin 32) (s : Fin 2) (h : Fin 4) (i j : Fin 256) :
    @Eq EReal (res_main_v231 V0 (ix5 b s h i j))
      (Ideal.exp (score (Ideal.ofBits FTy.f32 1043662067#32) (colsAt 32 ((mixArgsR V0).seq b).q (1152 + 32 * s.val + 64 * h.val))
        (colsAt 32 ((mixArgsR V0).seq b).kv (1536 + 32 * s.val + 64 * h.val)) i j - rowMax (score (Ideal.ofBits FTy.f32 1043662067#32)
          (colsAt 32 ((mixArgsR V0).seq b).q (1152 + 32 * s.val + 64 * h.val))
          (colsAt 32 ((mixArgsR V0).seq b).kv (1536 + 32 * s.val + 64 * h.val)) i))) := by
  unfold res_main_v231
  refine (numer5 _ _ b s h i j).trans (congrArg₂ (fun p q : EReal => Ideal.exp (p - q)) (ref_diffScore V0 b s h i j) ?_)
  exact (fold_row5 reducesTo_S32x2x4x256x256_S32x2x4x256_d4 h_S_ (res_main_v224 V0) b s h i).trans
    (congrArg rowMax (funext fun k => ref_diffScore V0 b s h i k))

/-- The differential heads' softmaxes. -/
theorem ref_diffWeight (b : Fin 32) (s : Fin 2) (h : Fin 4) (i j : Fin 256) :
    @Eq EReal (res_main_v235 V0 (ix5 b s h i j))
      (weight (score (Ideal.ofBits FTy.f32 1043662067#32) (colsAt 32 ((mixArgsR V0).seq b).q (1152 + 32 * s.val + 64 * h.val))
        (colsAt 32 ((mixArgsR V0).seq b).kv (1536 + 32 * s.val + 64 * h.val)) i) j) := by
  pointwise [res_main_v235]
  simp only [ref_diffExp]
  rfl

section Finite
variable (hf : (mixArgsR V0).Finite)
include hf

theorem score_fin {n : ℕ} (c : EReal) (hc : IsFin c) (b : Fin 32) (o p : ℕ) (i j : Fin 256) :
    IsFin (score c (colsAt n ((mixArgsR V0).seq b).q o) (colsAt n ((mixArgsR V0).seq b).kv p) i j) :=
  (IsFin.sum _ _ fun d _ => (hf.q _ _).mul (hf.kv _ _)).mul hc

theorem eighth_fin : IsFin (Ideal.ofBits FTy.f32 1040187392#32) := by
  simp [Ideal.ofBits, Ideal.ieee]
  exact (IsFin.coe _).mul (IsFin.coe _)

theorem scale32_fin : IsFin (Ideal.ofBits FTy.f32 1043662067#32) := by
  simp [Ideal.ofBits, Ideal.ieee]
  exact (IsFin.coe _).mul (IsFin.coe _)

/-- A neighbourhood head. -/
theorem ref_na (b : Fin 32) (h : Fin 6) (i : Fin 256) (e : Fin 64) :
    @Eq EReal (∑ j, colsAt 64 ((mixArgsR V0).seq b).kv (384 + 64 * h.val) j e
        * Ideal.div (res_main_v25 V0 (ix4 b h i j)) (∑ k, res_main_v25 V0 (ix4 b h i k)))
      (((mixArgsR V0).seq b).na h.val i e) := by
  simp only [ref_naExp]
  exact attend_eq _ (fun j => colsAt 64 ((mixArgsR V0).seq b).kv (384 + 64 * h.val) j e)
    (fun j => score_fin V0 hf _ (eighth_fin V0 hf) b _ _ i j) (fun j => hf.kv _ _)

/-- A differential head before its norm. -/
theorem ref_diff (b : Fin 32) (h : Fin 4) (i : Fin 256) (e : Fin 64) :
    @Eq EReal (res_main_v244 V0 (ix4 b i h e)) (((mixArgsR V0).seq b).diff h.val i e) := by
  pointwise [res_main_v244]
  simp only [ref_diffWeight]
  refine Eq.trans (Finset.sum_congr (M := EReal) rfl fun x _ => congrArg₂ (fun p q : EReal => p * q)
    (cols_of (mixArgsR V0).kv b x (1792 + 64 * h.val) e _ _ rfl (by show 1792 + (h.val * 64 + e.val) = _; omega)) rfl) ?_
  refine (attend_sub _ _ (fun j => colsAt 64 ((mixArgsR V0).seq b).kv (1792 + 64 * h.val) j e) (mixArgsR V0).lam
    (fun j => score_fin V0 hf _ (scale32_fin V0 hf) b _ _ i j) (fun j => score_fin V0 hf _ (scale32_fin V0 hf) b _ _ i j)
    (fun j => hf.kv _ _) hf.lam).trans ?_
  unfold Mixed.diff
  have h0 : 1152 + 32 * (0 : Fin 2).val + 64 * h.val = 1152 + 64 * h.val := by simp
  have h1 : 1152 + 32 * (1 : Fin 2).val + 64 * h.val = 1184 + 64 * h.val := by simp
  have h2 : 1536 + 32 * (0 : Fin 2).val + 64 * h.val = 1536 + 64 * h.val := by simp
  have h3 : 1536 + 32 * (1 : Fin 2).val + 64 * h.val = 1568 + 64 * h.val := by simp
  rw [h0, h1, h2, h3]
  rfl

end Finite

end Cert.Moe

end
-- ==== Proof.MixRefRetain.lean ====
module

public import proofs.«01_k».proof.Proof.MixRef

/-
  The reference of the prompt's token mixers: its retention, two chunks of 128 tokens in each direction, is the sum over
  the sequence's tokens, and its last states are the two states.
-/

@[expose] public section

set_option maxRecDepth 16384

noncomputable section

namespace Cert.Moe

open Idealize.ShloMosaic Idealize.ShloMosaic.TcCoe Idealize.SL.Sem
open Cert.Reference4Ideal Cert.Reference4Ideal.Gen Cert.Reference4Ideal.Value

/-! ## One direction, over any operands -/

section Direction
variable (q0 k0 v0 q1 k1 v1 : FVec Ideal S32x128x6x64 .f32) (S0 S1 : FVec Ideal S32x6x64x64 .f32)
  (D : FVec Ideal S6x128x128 .f32) (E G : FVec Ideal S128x6 .f32) (C : FVec Ideal S6 .f32)

/-- What a chunk's tokens give each other, and what the state gives them. -/
theorem chunk_at (q k v : FVec Ideal S32x128x6x64 .f32) (S : FVec Ideal S32x6x64x64 .f32) (b : Fin 32) (t : Fin 128)
    (h : Fin 6) (e : Fin 64) :
    @Eq EReal ((addf (F := Ideal) (transpose S32x128x6x64 [0, 3, 1, 2] (Host.dotGeneral (F := Ideal) (φ₁ := .f32) (φ₂ := .f32) dot_S32x128x6x64_S32x6x128x128_S32x6x64x128_1_3_3_2_02_01 none v (mulf (F := Ideal) (Host.dotGeneral (F := Ideal) (φ₁ := .f32) (φ₂ := .f32) dot_S32x128x6x64_S32x128x6x64_S32x6x128x128_3_3_1_1_02_02 none q k) (broadcastInDim S32x6x128x128 ![0, 1, 2, 3] bcast_S1x6x128x128_S32x6x128x128_0_1_2_3 (broadcastInDim S1x6x128x128 ![1, 2, 3] bcast_S6x128x128_S1x6x128x128_1_2_3 D)))) transposes_S32x6x64x128_S32x128x6x64_0_3_1_2) (mulf (F := Ideal) (transpose S32x128x6x64 [0, 3, 1, 2] (Host.dotGeneral (F := Ideal) (φ₁ := .f32) (φ₂ := .f32) dot_S32x6x64x64_S32x128x6x64_S32x6x64x128_2_3_3_1_01_02 none S q) transposes_S32x6x64x128_S32x128x6x64_0_3_1_2) (broadcastInDim S32x128x6x64 ![0, 1, 2, 3] bcast_S1x128x6x1_S32x128x6x64_0_1_2_3 (broadcastInDim S1x128x6x1 ![1, 2] bcast_S128x6_S1x128x6x1_1_2 E))) : FVec Ideal S32x128x6x64 .f32) (ix4 b t h e))
      ((∑ s, v (ix4 b s h e) * ((∑ d, q (ix4 b t h d) * k (ix4 b s h d)) * D (ix3 h t s)))
        + (∑ d, S (ix4 b h d e) * q (ix4 b t h d)) * E (ix2 t h) : EReal) := by
  pointwise []

/-- The state after a chunk. -/
theorem step_at (k v : FVec Ideal S32x128x6x64 .f32) (S : FVec Ideal S32x6x64x64 .f32) (b : Fin 32) (h : Fin 6)
    (d e : Fin 64) :
    @Eq EReal ((addf (F := Ideal) (mulf (F := Ideal) S (broadcastInDim S32x6x64x64 ![0, 1, 2, 3] bcast_S1x6x1x1_S32x6x64x64_0_1_2_3 (broadcastInDim S1x6x1x1 ![1] bcast_S6_S1x6x1x1_1 C))) (Host.dotGeneral (F := Ideal) (φ₁ := .f32) (φ₂ := .f32) dot_S32x128x6x64_S32x128x6x64_S32x6x64x64_1_1_3_3_02_02 none (mulf (F := Ideal) k (broadcastInDim S32x128x6x64 ![0, 1, 2, 3] bcast_S1x128x6x1_S32x128x6x64_0_1_2_3 (broadcastInDim S1x128x6x1 ![1, 2] bcast_S128x6_S1x128x6x1_1_2 G))) v) : FVec Ideal S32x6x64x64 .f32) (ix4 b h d e))
      (S (ix4 b h d e) * C (ix1 h) + ∑ s, (k (ix4 b s h d) * G (ix2 s h)) * v (ix4 b s h e) : EReal) := by
  pointwise []

/-- The two chunks, one after the other. -/
theorem chunks_at (X Y : FVec Ideal S32x128x6x64 .f32) (b : Fin 32) (i : Fin 256) (h : Fin 6) (e : Fin 64) :
    @Eq EReal ((concatenate S32x256x6x64 1 [⟨S32x128x6x64, X⟩, ⟨S32x128x6x64, Y⟩] concatenates_S32x128x6x64_S32x128x6x64_S32x256x6x64_d1 : FVec Ideal S32x256x6x64 .f32) (ix4 b i h e))
      (if hi : i.val < 128 then X (ix4 b ⟨i.val, hi⟩ h e) else Y (ix4 b ⟨i.val - 128, by omega⟩ h e) : EReal) := by
  pointwise []

/-- The tokens in reverse. -/
theorem reverse_at (X : FVec Ideal S32x256x6x64 .f32) (b : Fin 32) (i : Fin 256) (h : Fin 6) (e : Fin 64) :
    @Eq EReal ((Host.reverse [1] X : FVec Ideal S32x256x6x64 .f32) (ix4 b i h e)) (X (ix4 b i.rev h e)) := by
  pointwise []
  rfl

end Direction

/-! ## The decays -/

theorem zero_word : @Eq EReal (id (constant (F := Ideal) S_ FTy.f32 0#32) ix0) 0 := by
  show Ideal.ofBits .f32 0#32 = 0
  simp [Ideal.ofBits, Ideal.ieee]

theorem bits_127 : Ideal.ofBits .f32 1123942400#32 = ((127 : ℝ) : EReal) := by
  simp [Ideal.ofBits, Ideal.ieee]
  rw [← EReal.coe_mul]
  norm_num

theorem bits_128 : Ideal.ofBits .f32 1124073472#32 = ((128 : ℝ) : EReal) := by
  simp [Ideal.ofBits, Ideal.ieee]
  rw [← EReal.coe_mul]
  norm_num

theorem later128 (t s : Fin 128) : ((0 : EReal) ≤ ((t.val : ℝ) : EReal) - ((s.val : ℝ) : EReal)) ↔ s ≤ t := by
  rw [← EReal.coe_sub, ← EReal.coe_zero, EReal.coe_le_coe_iff, sub_nonneg, Nat.cast_le]
  exact Iff.rfl

theorem after128 (t s : Fin 128) : ((0 : EReal) < ((t.val : ℝ) : EReal) - ((s.val : ℝ) : EReal)) ↔ s < t := by
  rw [← EReal.coe_sub, ← EReal.coe_zero, EReal.coe_lt_coe_iff, sub_pos, Nat.cast_lt]
  exact Iff.rfl

variable (V0 : Valuation τ sig (Elt Ideal))

theorem ref_log0 (h : Fin 6) : @Eq EReal (res_main_v39 V0 (ix1 h)) ((mixArgsR V0).lg 0 h) := by
  pointwise [res_main_v39]
  rfl

theorem ref_log1 (h : Fin 6) : @Eq EReal (res_main_v128 V0 (ix1 h)) ((mixArgsR V0).lg 1 h) := by
  pointwise [res_main_v128]
  rfl

theorem ref_intra0 (h : Fin 6) (t s : Fin 128) :
    @Eq EReal (res_main_v56 V0 (ix3 h t s)) (intra (fun t s => s ≤ t) ((mixArgsR V0).lg 0 h) t s) := by
  pointwise [res_main_v56, res_main_v47, res_main_v45, res_main_v40]
  rw [position _ (by have := t.isLt; omega), position _ (by have := s.isLt; omega), zero_word, ref_log0]
  simp only [later128]
  rfl

theorem ref_intra1 (h : Fin 6) (t s : Fin 128) :
    @Eq EReal (res_main_v145 V0 (ix3 h t s)) (intra (fun t s => s < t) ((mixArgsR V0).lg 1 h) t s) := by
  pointwise [res_main_v145, res_main_v136, res_main_v134, res_main_v129]
  rw [position _ (by have := t.isLt; omega), position _ (by have := s.isLt; omega), zero_word, ref_log1]
  simp only [after128]
  rfl

theorem ref_qDecay0 (h : Fin 6) (t : Fin 128) :
    @Eq EReal (res_main_v64 V0 (ix2 t h)) (Ideal.exp ((((t.val : ℝ) : EReal) + 1) * (mixArgsR V0).lg 0 h)) := by
  pointwise [res_main_v64, res_main_v40]
  rw [position _ (by have := t.isLt; omega), ref_log0]

theorem ref_qDecay1 (h : Fin 6) (t : Fin 128) :
    @Eq EReal (res_main_v153 V0 (ix2 t h)) (Ideal.exp ((((t.val : ℝ) : EReal) + 1) * (mixArgsR V0).lg 1 h)) := by
  pointwise [res_main_v153, res_main_v129]
  rw [position _ (by have := t.isLt; omega), ref_log1]

theorem ref_kDecay0 (h : Fin 6) (t : Fin 128) :
    @Eq EReal (res_main_v72 V0 (ix2 t h)) (Ideal.exp ((((127 : ℝ) : EReal) - ((t.val : ℝ) : EReal)) * (mixArgsR V0).lg 0 h)) := by
  pointwise [res_main_v72, res_main_v40]
  rw [position _ (by have := t.isLt; omega), ref_log0, bits_127]

theorem ref_kDecay1 (h : Fin 6) (t : Fin 128) :
    @Eq EReal (res_main_v161 V0 (ix2 t h)) (Ideal.exp ((((127 : ℝ) : EReal) - ((t.val : ℝ) : EReal)) * (mixArgsR V0).lg 1 h)) := by
  pointwise [res_main_v161, res_main_v129]
  rw [position _ (by have := t.isLt; omega), ref_log1, bits_127]

theorem ref_cDecay0 (h : Fin 6) :
    @Eq EReal (res_main_v75 V0 (ix1 h)) (Ideal.exp (((128 : ℝ) : EReal) * (mixArgsR V0).lg 0 h)) := by
  pointwise [res_main_v75]
  rw [ref_log0, bits_128]

theorem ref_cDecay1 (h : Fin 6) :
    @Eq EReal (res_main_v164 V0 (ix1 h)) (Ideal.exp (((128 : ℝ) : EReal) * (mixArgsR V0).lg 1 h)) := by
  pointwise [res_main_v164]
  rw [ref_log1, bits_128]

/-! ## The chunks of the queries, keys and values -/

/-- The retention's queries, keys and values of head `h` of sequence `b`. -/
abbrev retQ (b : Fin 32) (h : Fin 6) : Fin 256 → Fin 64 → EReal := colsAt 64 ((mixArgsR V0).seq b).q (384 + 64 * h.val)
abbrev retK (b : Fin 32) (h : Fin 6) : Fin 256 → Fin 64 → EReal := colsAt 64 ((mixArgsR V0).seq b).kv (768 + 64 * h.val)
abbrev retV (b : Fin 32) (h : Fin 6) : Fin 256 → Fin 64 → EReal := colsAt 64 ((mixArgsR V0).seq b).kv (1152 + 64 * h.val)

section Slices
variable (b : Fin 32) (h : Fin 6) (d : Fin 64)

theorem ref_q (i : Fin 256) : @Eq EReal (res_main_v33 V0 (ix4 b i h d)) (retQ V0 b h i d) := by
  pointwise [res_main_v33]
  exact cols_of (mixArgsR V0).q b i _ d _ _ rfl (by show 384 + (h.val * 64 + d.val) = _; omega)

theorem ref_k (i : Fin 256) : @Eq EReal (res_main_v35 V0 (ix4 b i h d)) (retK V0 b h i d) := by
  pointwise [res_main_v35]
  exact cols_of (mixArgsR V0).kv b i _ d _ _ rfl (by show 768 + (h.val * 64 + d.val) = _; omega)

theorem ref_v (i : Fin 256) : @Eq EReal (res_main_v37 V0 (ix4 b i h d)) (retV V0 b h i d) := by
  pointwise [res_main_v37]
  exact cols_of (mixArgsR V0).kv b i _ d _ _ rfl (by show 1152 + (h.val * 64 + d.val) = _; omega)

theorem ref_qr (i : Fin 256) : @Eq EReal (res_main_v124 V0 (ix4 b i h d)) (retQ V0 b h i.rev d) :=
  (reverse_at (res_main_v33 V0) b i h d).trans (ref_q V0 b h d i.rev)

theorem ref_kr (i : Fin 256) : @Eq EReal (res_main_v125 V0 (ix4 b i h d)) (retK V0 b h i.rev d) :=
  (reverse_at (res_main_v35 V0) b i h d).trans (ref_k V0 b h d i.rev)

theorem ref_vr (i : Fin 256) : @Eq EReal (res_main_v126 V0 (ix4 b i h d)) (retV V0 b h i.rev d) :=
  (reverse_at (res_main_v37 V0) b i h d).trans (ref_v V0 b h d i.rev)

/-- The first chunk of an array of tokens. -/
theorem slice_lo (X : FVec Ideal S32x256x6x64 .f32) (t : Fin 128) :
    @Eq EReal (extractStridedSlice S32x128x6x64 ![0, 0, 0, 0] X slices_S32x256x6x64_S32x128x6x64_0_0_0_0 (ix4 b t h d))
      (X (ix4 b (lo t) h d)) := by
  pointwise []
  rfl

/-- The second chunk of an array of tokens. -/
theorem slice_hi (X : FVec Ideal S32x256x6x64 .f32) (t : Fin 128) :
    @Eq EReal (extractStridedSlice S32x128x6x64 ![0, 128, 0, 0] X slices_S32x256x6x64_S32x128x6x64_0_128_0_0 (ix4 b t h d))
      (X (ix4 b (hi t) h d)) := by
  pointwise []
  rfl

end Slices

theorem zero_state0 (b : Fin 32) (h : Fin 6) (d e : Fin 64) : @Eq EReal (res_main_v76 V0 (ix4 b h d e)) 0 := by
  pointwise [res_main_v76]

theorem zero_state1 (b : Fin 32) (h : Fin 6) (d e : Fin 64) : @Eq EReal (res_main_v165 V0 (ix4 b h d e)) 0 := by
  pointwise [res_main_v165]

/-- A chunk's step, when its operands are known. -/
theorem step_eq (k v : FVec Ideal S32x128x6x64 .f32) (S : FVec Ideal S32x6x64x64 .f32) (G : FVec Ideal S128x6 .f32)
    (C : FVec Ideal S6 .f32) (l : EReal) (K V : Fin 256 → Fin 64 → EReal) (T : Fin 64 → Fin 64 → EReal)
    (c : Fin 128 → Fin 256) (b : Fin 32) (h : Fin 6)
    (hk : ∀ s d, @Eq EReal (k (ix4 b s h d)) (K (c s) d)) (hv : ∀ s d, @Eq EReal (v (ix4 b s h d)) (V (c s) d))
    (hS : ∀ d e, @Eq EReal (S (ix4 b h d e)) (T d e))
    (hG : ∀ s, @Eq EReal (G (ix2 s h)) (Ideal.exp ((((127 : ℝ) : EReal) - ((s.val : ℝ) : EReal)) * l)))
    (hC : @Eq EReal (C (ix1 h)) (Ideal.exp (((128 : ℝ) : EReal) * l))) (d e : Fin 64) :
    (S (ix4 b h d e) * C (ix1 h) + ∑ s, (k (ix4 b s h d) * G (ix2 s h)) * v (ix4 b s h e) : EReal) = step l K V T c d e := by
  simp only [hk, hv, hS, hG, hC]
  rfl

/-- A chunk's tokens, when its operands are known. -/
theorem chunk_eq (P : Fin 128 → Fin 128 → Prop) [∀ t s, Decidable (P t s)]
    (q k v : FVec Ideal S32x128x6x64 .f32) (S : FVec Ideal S32x6x64x64 .f32) (D : FVec Ideal S6x128x128 .f32)
    (E : FVec Ideal S128x6 .f32) (l : EReal) (Q K V : Fin 256 → Fin 64 → EReal) (T : Fin 64 → Fin 64 → EReal)
    (c : Fin 128 → Fin 256) (b : Fin 32) (h : Fin 6)
    (hq : ∀ s d, @Eq EReal (q (ix4 b s h d)) (Q (c s) d))
    (hk : ∀ s d, @Eq EReal (k (ix4 b s h d)) (K (c s) d)) (hv : ∀ s d, @Eq EReal (v (ix4 b s h d)) (V (c s) d))
    (hS : ∀ d e, @Eq EReal (S (ix4 b h d e)) (T d e))
    (hD : ∀ t s, @Eq EReal (D (ix3 h t s)) (intra P l t s))
    (hE : ∀ s, @Eq EReal (E (ix2 s h)) (Ideal.exp ((((s.val : ℝ) : EReal) + 1) * l))) (t : Fin 128) (e : Fin 64) :
    ((∑ s, v (ix4 b s h e) * ((∑ d, q (ix4 b t h d) * k (ix4 b s h d)) * D (ix3 h t s)))
        + (∑ d, S (ix4 b h d e) * q (ix4 b t h d)) * E (ix2 t h) : EReal) = inner P l Q K V c t e + cross l Q T c t e := by
  simp only [hq, hk, hv, hS, hD, hE]
  rfl

/-- The forward state after the first chunk. -/
theorem ref_state0 (b : Fin 32) (h : Fin 6) (d e : Fin 64) :
    @Eq EReal (res_main_v98 V0 (ix4 b h d e)) (state1 ((mixArgsR V0).lg 0 h) (retK V0 b h) (retV V0 b h) d e) :=
  (step_at (res_main_v72 V0) (res_main_v75 V0) (res_main_v78 V0) (res_main_v79 V0) (res_main_v76 V0) b h d e).trans
    (step_eq _ _ _ _ _ _ _ _ _ lo b h (fun s d => (slice_lo b h d _ s).trans (ref_k V0 b h d _))
      (fun s d => (slice_lo b h d _ s).trans (ref_v V0 b h d _)) (zero_state0 V0 b h) (ref_kDecay0 V0 h) (ref_cDecay0 V0 h) d e)

/-- The backward state after the first chunk of the tokens in reverse. -/
theorem ref_state1 (b : Fin 32) (h : Fin 6) (d e : Fin 64) :
    @Eq EReal (res_main_v187 V0 (ix4 b h d e))
      (state1 ((mixArgsR V0).lg 1 h) (fun i => retK V0 b h i.rev) (fun i => retV V0 b h i.rev) d e) :=
  (step_at (res_main_v161 V0) (res_main_v164 V0) (res_main_v167 V0) (res_main_v168 V0) (res_main_v165 V0) b h d e).trans
    (step_eq _ _ _ _ _ _ (fun i => retK V0 b h i.rev) (fun i => retV V0 b h i.rev) _ lo b h
      (fun s d => (slice_lo b h d _ s).trans (ref_kr V0 b h d _))
      (fun s d => (slice_lo b h d _ s).trans (ref_vr V0 b h d _)) (zero_state1 V0 b h) (ref_kDecay1 V0 h) (ref_cDecay1 V0 h) d e)

/-- The retention before its norm, chunk by chunk in both directions. -/
theorem ref_chunked (b : Fin 32) (h : Fin 6) (i : Fin 256) (e : Fin 64) :
    @Eq EReal (res_main_v214 V0 (ix4 b i h e))
      (chunked (fun t s => s ≤ t) ((mixArgsR V0).lg 0 h) (retQ V0 b h) (retK V0 b h) (retV V0 b h) i e
        + chunked (fun t s => s < t) ((mixArgsR V0).lg 1 h) (fun i => retQ V0 b h i.rev) (fun i => retK V0 b h i.rev)
            (fun i => retV V0 b h i.rev) i.rev e) := by
  unfold res_main_v214
  refine congrArg₂ (fun p q : EReal => p + q) ((chunks_at _ _ b i h e).trans ?_)
    ((reverse_at _ b i h e).trans ((chunks_at _ _ b i.rev h e).trans ?_))
  · unfold chunked
    refine dite_congr rfl (fun _ => ?_) fun _ => ?_
    · exact (chunk_at _ _ _ _ _ _ b _ h e).trans (chunk_eq _ _ _ _ _ _ _ _ _ _ _ _ lo b h
        (fun s d => (slice_lo b h d _ s).trans (ref_q V0 b h d _)) (fun s d => (slice_lo b h d _ s).trans (ref_k V0 b h d _))
        (fun s d => (slice_lo b h d _ s).trans (ref_v V0 b h d _)) (zero_state0 V0 b h) (ref_intra0 V0 h) (ref_qDecay0 V0 h) _ e)
    · exact (chunk_at _ _ _ _ _ _ b _ h e).trans (chunk_eq _ _ _ _ _ _ _ _ _ _ _ _ hi b h
        (fun s d => (slice_hi b h d _ s).trans (ref_q V0 b h d _)) (fun s d => (slice_hi b h d _ s).trans (ref_k V0 b h d _))
        (fun s d => (slice_hi b h d _ s).trans (ref_v V0 b h d _)) (ref_state0 V0 b h) (ref_intra0 V0 h) (ref_qDecay0 V0 h) _ e)
  · unfold chunked
    refine dite_congr rfl (fun _ => ?_) fun _ => ?_
    · exact (chunk_at _ _ _ _ _ _ b _ h e).trans (chunk_eq _ _ _ _ _ _ _ _ (fun i => retQ V0 b h i.rev)
        (fun i => retK V0 b h i.rev) (fun i => retV V0 b h i.rev) _ lo b h
        (fun s d => (slice_lo b h d _ s).trans (ref_qr V0 b h d _)) (fun s d => (slice_lo b h d _ s).trans (ref_kr V0 b h d _))
        (fun s d => (slice_lo b h d _ s).trans (ref_vr V0 b h d _)) (zero_state1 V0 b h) (ref_intra1 V0 h) (ref_qDecay1 V0 h) _ e)
    · exact (chunk_at _ _ _ _ _ _ b _ h e).trans (chunk_eq _ _ _ _ _ _ _ _ (fun i => retQ V0 b h i.rev)
        (fun i => retK V0 b h i.rev) (fun i => retV V0 b h i.rev) _ hi b h
        (fun s d => (slice_hi b h d _ s).trans (ref_qr V0 b h d _)) (fun s d => (slice_hi b h d _ s).trans (ref_kr V0 b h d _))
        (fun s d => (slice_hi b h d _ s).trans (ref_vr V0 b h d _)) (ref_state1 V0 b h) (ref_intra1 V0 h) (ref_qDecay1 V0 h) _ e)

section Finite
variable (hf : (mixArgsR V0).Finite)
include hf

/-- The retention before its norm. -/
theorem ref_ret (b : Fin 32) (h : Fin 6) (i : Fin 256) (e : Fin 64) :
    @Eq EReal (res_main_v214 V0 (ix4 b i h e)) (((mixArgsR V0).seq b).ret h.val i e) := by
  refine (ref_chunked V0 b h i e).trans ((retention_eq _ _ _ _ _ (hf.lg _ _) (hf.lg _ _) (fun _ _ => hf.q _ _)
    (fun _ _ => hf.kv _ _) (fun _ _ => hf.kv _ _) i e).trans ?_)
  have hh : Fin.ofNat 6 h.val = h := Fin.ext (Nat.mod_eq_of_lt h.isLt)
  unfold Mixed.ret
  rw [hh]
  rfl

/-- The two states, one after the other. -/
theorem ref_states (b : Fin 32) (a : Fin 2) (h : Fin 6) (d e : Fin 64) :
    @Eq EReal ((concatenate S32x2x6x64x64 1 [⟨S32x1x6x64x64, (broadcastInDim S32x1x6x64x64 ![0, 2, 3, 4] bcast_S32x6x64x64_S32x1x6x64x64_0_2_3_4 (addf (mulf (res_main_v98 V0) (broadcastInDim S32x6x64x64 ![0, 1, 2, 3] bcast_S1x6x1x1_S32x6x64x64_0_1_2_3 (broadcastInDim S1x6x1x1 ![1] bcast_S6_S1x6x1x1_1 (res_main_v75 V0)))) (Host.dotGeneral (F := Ideal) (φ₁ := .f32) (φ₂ := .f32) dot_S32x128x6x64_S32x128x6x64_S32x6x64x64_1_1_3_3_02_02 none (mulf (res_main_v101 V0) (broadcastInDim S32x128x6x64 ![0, 1, 2, 3] bcast_S1x128x6x1_S32x128x6x64_0_1_2_3 (broadcastInDim S1x128x6x1 ![1, 2] bcast_S128x6_S1x128x6x1_1_2 (res_main_v72 V0)))) (res_main_v102 V0))))⟩, ⟨S32x1x6x64x64, (broadcastInDim S32x1x6x64x64 ![0, 2, 3, 4] bcast_S32x6x64x64_S32x1x6x64x64_0_2_3_4 (addf (mulf (res_main_v187 V0) (broadcastInDim S32x6x64x64 ![0, 1, 2, 3] bcast_S1x6x1x1_S32x6x64x64_0_1_2_3 (broadcastInDim S1x6x1x1 ![1] bcast_S6_S1x6x1x1_1 (res_main_v164 V0)))) (Host.dotGeneral (F := Ideal) (φ₁ := .f32) (φ₂ := .f32) dot_S32x128x6x64_S32x128x6x64_S32x6x64x64_1_1_3_3_02_02 none (mulf (res_main_v190 V0) (broadcastInDim S32x128x6x64 ![0, 1, 2, 3] bcast_S1x128x6x1_S32x128x6x64_0_1_2_3 (broadcastInDim S1x128x6x1 ![1, 2] bcast_S128x6_S1x128x6x1_1_2 (res_main_v161 V0)))) (res_main_v191 V0))))⟩] concatenates_S32x1x6x64x64_S32x1x6x64x64_S32x2x6x64x64_d1 : FVec Ideal S32x2x6x64x64 .f32) (ix5 b a h d e))
      (((mixArgsR V0).seq b).state a.val h.val d e) := by
  have pair : ∀ X Y : FVec Ideal S32x6x64x64 .f32, @Eq EReal ((concatenate S32x2x6x64x64 1 [⟨S32x1x6x64x64, broadcastInDim S32x1x6x64x64 ![0, 2, 3, 4] bcast_S32x6x64x64_S32x1x6x64x64_0_2_3_4 X⟩, ⟨S32x1x6x64x64, broadcastInDim S32x1x6x64x64 ![0, 2, 3, 4] bcast_S32x6x64x64_S32x1x6x64x64_0_2_3_4 Y⟩] concatenates_S32x1x6x64x64_S32x1x6x64x64_S32x2x6x64x64_d1 : FVec Ideal S32x2x6x64x64 .f32) (ix5 b a h d e))
      (if a.val < 1 then X (ix4 b h d e) else Y (ix4 b h d e) : EReal) := fun X Y => by
    pointwise []
    rfl
  refine (pair _ _).trans ?_
  have hh : Fin.ofNat 6 h.val = h := Fin.ext (Nat.mod_eq_of_lt h.isLt)
  unfold Mixed.state
  rw [hh]
  by_cases ha : a.val < 1
  · rw [if_pos ha, if_pos (by omega)]
    exact (step_at (res_main_v72 V0) (res_main_v75 V0) (res_main_v101 V0) (res_main_v102 V0) (res_main_v98 V0) b h d e).trans
      ((step_eq _ _ _ _ _ _ _ _ _ hi b h (fun s d => (slice_hi b h d _ s).trans (ref_k V0 b h d _))
      (fun s d => (slice_hi b h d _ s).trans (ref_v V0 b h d _)) (ref_state0 V0 b h) (ref_kDecay0 V0 h) (ref_cDecay0 V0 h) d e).trans
      (stateF_eq _ _ _ (hf.lg _ _) (fun _ _ => hf.kv _ _) (fun _ _ => hf.kv _ _) d e))
  · rw [if_neg ha, if_neg (by omega)]
    refine (step_at (res_main_v161 V0) (res_main_v164 V0) (res_main_v190 V0) (res_main_v191 V0) (res_main_v187 V0) b h d e).trans
      ((step_eq _ _ _ _ _ ((mixArgsR V0).lg 1 h) (fun i => retK V0 b h i.rev) (fun i => retV V0 b h i.rev)
      (state1 ((mixArgsR V0).lg 1 h) (fun i => retK V0 b h i.rev) (fun i => retV V0 b h i.rev)) hi b h
      (fun s d => (slice_hi b h d _ s).trans (ref_kr V0 b h d _))
      (fun s d => (slice_hi b h d _ s).trans (ref_vr V0 b h d _)) (ref_state1 V0 b h) (ref_kDecay1 V0 h) (ref_cDecay1 V0 h) d e).trans ?_)
    exact stateB_eq ((mixArgsR V0).lg 1 h) (retK V0 b h) (retV V0 b h) (hf.lg _ _) (fun _ _ => hf.kv _ _)
      (fun _ _ => hf.kv _ _) d e

end Finite

end Cert.Moe

end
-- ==== Proof.MixRefOut.lean ====
module

public import proofs.«01_k».proof.Proof.MixRefRetain

/-
  The reference of the prompt's token mixers: the mix of the sixteen heads, its projection and norm.
-/

@[expose] public section

set_option maxRecDepth 16384

noncomputable section

namespace Cert.Moe

open Idealize.ShloMosaic Idealize.ShloMosaic.TcCoe Idealize.SL.Sem
open Cert.Reference4Ideal Cert.Reference4Ideal.Gen Cert.Reference4Ideal.Value

variable (V0 : Valuation τ sig (Elt Ideal)) (hf : (mixArgsR V0).Finite)
include hf

theorem ref_retMean (b : Fin 32) (h : Fin 6) (i : Fin 256) :
    @Eq EReal (res_main_v248 V0 (ix4 b i h 0)) (mean64 (((mixArgsR V0).seq b).ret h.val i)) := by
  pointwise [res_main_v248]
  simp only [ref_ret V0 hf]
  rfl

theorem ref_retCentred (b : Fin 32) (h : Fin 6) (i : Fin 256) (e : Fin 64) :
    @Eq EReal (res_main_v250 V0 (ix4 b i h e))
      (((mixArgsR V0).seq b).ret h.val i e - mean64 (((mixArgsR V0).seq b).ret h.val i)) := by
  pointwise [res_main_v250]
  simp only [ref_ret V0 hf, ref_retMean V0 hf]

/-- The row that is normalised. -/
theorem ref_mixed (n : Fin 8192) (c : Fin 1024) (b : Fin 32) (i : Fin 256) (hb : b.val = n.val / 256) (hi : i.val = n.val % 256) :
    @Eq EReal (res_main_v300 V0 (ix2 n c))
      (residual ((mixArgsR V0).x (seqToken b i)) (mixArgsR V0).gate
        (fun k => ∑ d, ((mixArgsR V0).seq b).mix i d * (mixArgsR V0).w d k) c) := by
  have hbn : (⟨n.val / 256, by have := n.isLt; omega⟩ : Fin 32) = b := Fin.ext hb.symm
  have hin : (⟨n.val % 256, Nat.mod_lt _ (by decide)⟩ : Fin 256) = i := Fin.ext hi.symm
  have hn : n = seqToken b i := Fin.ext (by show n.val = 256 * b.val + i.val; omega)
  pointwise [res_main_v300]
  simp only [hbn, hin, ref_retMean V0 hf, ref_retCentred V0 hf, ref_ret V0 hf, ref_diff V0 hf]
  refine congrArg₂ (fun p q : EReal => p + q) (congrArg (fun k => Ideal.ofBits FTy.f32 1068827891#32 * (mixArgsR V0).x k c) hn)
    (congrArg₂ (fun p q : EReal => p * q) rfl (Finset.sum_congr (M := EReal) rfl fun k _ => congrArg₂ (fun p q : EReal => p * q) ?_ rfl))
  have hk := k.isLt
  by_cases h1 : k.val < 384
  · refine (dif_pos h1).trans ?_
    refine Eq.trans ?_ (((mixArgsR V0).seq b).mix_na (k.val / 64) (by omega) i ⟨k.val % 64, Nat.mod_lt _ (by decide)⟩ k
      (by show k.val = 64 * (k.val / 64) + k.val % 64; omega)).symm
    refine Eq.trans (Finset.sum_congr (M := EReal) rfl fun x _ => congrArg₂ (fun p q : EReal => p * q)
      ((congrArg₂ (mixArgsR V0).kv (Fin.ext ?_) (Fin.ext ?_)).trans
        (cols_of (mixArgsR V0).kv b x (384 + 64 * (k.val / 64)) ⟨k.val % 64, Nat.mod_lt _ (by decide)⟩
          ⟨b.val * 256 + x.val, by omega⟩ ⟨384 + 64 * (k.val / 64) + k.val % 64, by omega⟩ rfl rfl)) rfl) ?_
    · show n.val / 256 * 256 + x.val = b.val * 256 + x.val
      omega
    · show 384 + (k.val / 64 * 64 + k.val % 64) = 384 + 64 * (k.val / 64) + k.val % 64
      omega
    exact ref_na V0 hf b ⟨k.val / 64, by omega⟩ i ⟨k.val % 64, Nat.mod_lt _ (by decide)⟩
  · refine (dif_neg h1).trans ?_
    by_cases h2 : k.val - 384 < 384
    · refine (dif_pos h2).trans ?_
      refine Eq.trans ?_ (((mixArgsR V0).seq b).mix_ret ((k.val - 384) / 64) (by omega) i
        ⟨(k.val - 384) % 64, Nat.mod_lt _ (by decide)⟩ k
        (by show k.val = 384 + 64 * ((k.val - 384) / 64) + (k.val - 384) % 64; omega)).symm
      have hc : (⟨k.val - 384, by omega⟩ : Fin 384) = Fin.ofNat 384 (64 * ((k.val - 384) / 64) + (k.val - 384) % 64) :=
        Fin.ext (by show k.val - 384 = (64 * ((k.val - 384) / 64) + (k.val - 384) % 64) % 384; omega)
      have hg : @Eq EReal (res_main_v271 V0 (ix3 b i ⟨k.val - 384, by omega⟩))
          (colsAt 64 ((mixArgsR V0).seq b).q (768 + 64 * ((k.val - 384) / 64)) i ⟨(k.val - 384) % 64, Nat.mod_lt _ (by decide)⟩) := by
        pointwise [res_main_v271]
        exact cols_of (mixArgsR V0).q b i _ _ _ _ rfl
          (by show 768 + (k.val - 384) = 768 + 64 * ((k.val - 384) / 64) + (k.val - 384) % 64; omega)
      unfold Mixed.retOut retFinish
      refine congrArg₂ (fun p q : EReal => p * q) (congrArg₂ (fun p q : EReal => p + q) (congrArg₂ (fun p q : EReal => p * q) rfl
        (congrArg (mixArgsR V0).gw hc)) (congrArg (mixArgsR V0).gb hc)) ?_
      rw [hg]
      exact (silu_eq _).symm
    · refine (dif_neg h2).trans ?_
      refine Eq.trans ?_ (((mixArgsR V0).seq b).mix_diff ((k.val - 384 - 384) / 64) (by omega) i
        ⟨(k.val - 384 - 384) % 64, Nat.mod_lt _ (by decide)⟩ k
        (by show k.val = 768 + 64 * ((k.val - 384 - 384) / 64) + (k.val - 384 - 384) % 64; omega)).symm
      have hc : (⟨k.val - 384 - 384, by omega⟩ : Fin 256) = Fin.ofNat 256 (64 * ((k.val - 384 - 384) / 64) + (k.val - 384 - 384) % 64) :=
        Fin.ext (by show k.val - 384 - 384 = (64 * ((k.val - 384 - 384) / 64) + (k.val - 384 - 384) % 64) % 256; omega)
      unfold Mixed.diffOut diffFinish
      exact congrArg₂ (fun p q : EReal => p * q) (congrArg₂ (fun p q : EReal => p * q) rfl (congrArg (mixArgsR V0).dw hc)) rfl

theorem ref_mixMean (n : Fin 8192) (b : Fin 32) (i : Fin 256) (hb : b.val = n.val / 256) (hi : i.val = n.val % 256) :
    @Eq EReal (res_main_v304 V0 (ix2 n 0)) (mean (residual ((mixArgsR V0).x (seqToken b i)) (mixArgsR V0).gate
        (fun k => ∑ d, ((mixArgsR V0).seq b).mix i d * (mixArgsR V0).w d k))) := by
  pointwise [res_main_v304]
  simp only [fun c => ref_mixed V0 hf n c b i hb hi]
  rfl

/-- The reference's new tokens. -/
theorem ref_tokens (n : Fin 8192) (c : Fin 1024) (b : Fin 32) (i : Fin 256) (hb : b.val = n.val / 256) (hi : i.val = n.val % 256) :
    @Eq EReal ((addf (mulf (mulf (subf (res_main_v300 V0) (broadcastInDim S8192x1024 ![0, 1] bcast_S8192x1_S8192x1024_0_1 (res_main_v304 V0))) (broadcastInDim S8192x1024 ![0, 1] bcast_S8192x1_S8192x1024_0_1 (Host.rsqrt (addf (Host.divf (broadcastInDim S8192x1 ![0] bcast_S8192_S8192x1_0 (Host.reduceAdd (mulf (res_main_v306 V0) (res_main_v306 V0)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 (V0 (Proc.devRef .tc main_arg10))))) (broadcastInDim S8192x1024 ![0, 1] bcast_S1x1024_S8192x1024_0_1 (broadcastInDim S1x1024 ![1] bcast_S1024_S1x1024_1 (V0 (Proc.devRef .tc main_arg11)))) : FVec Ideal S8192x1024 .f32) (ix2 n c))
      ((mixArgsR V0).tokens b i c) := by
  pointwise [res_main_v306]
  simp only [fun c => ref_mixed V0 hf n c b i hb hi, ref_mixMean V0 hf n b i hb hi]
  rfl

end Cert.Moe

end
-- ==== Proof.lean ====
/-
  The proof of `Cert.Claim`: the four frames, and that the kernel's array and the reference's hold the same extended
  reals. `Proof/KValue.lean` says what the kernel's array holds, `Proof/RValue.lean` the reference's; both are
  `Layer.result` of the layer the argument arrays spell, at any choice of experts that is the routing's; so they are for
  the sample's call (`Proof/SampleKernel.lean`, `Proof/SampleValue.lean`). The modulation
  vectors (`Proof/Modulation.lean`), the six arrays of the prompt's projection (`Proof/Projection.lean`,
  `Proof/ProjectionReference.lean`) and the two of the sample's (`Proof/SampleProjection.lean`,
  `Proof/SampleProjectionReference.lean`) are likewise one function of the arguments on both sides. So are the prompt's
  token mixers (`Proof/MixKernel.lean`, `Proof/MixRefRetain.lean`, `Proof/MixRefOut.lean`), whose mathematics is
  `Proof/Mixers.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.KValue
public import proofs.«01_k».proof.Proof.RValue
public import proofs.«01_k».proof.Proof.Pre
public import proofs.«01_k».proof.Proof.SampleKernel
public import proofs.«01_k».proof.Proof.SampleValue
public import proofs.«01_k».proof.Proof.SamplePre
public import proofs.«01_k».proof.Proof.Modulation
public import proofs.«01_k».proof.Proof.Projection
public import proofs.«01_k».proof.Proof.ProjectionReference
public import proofs.«01_k».proof.Proof.SampleProjection
public import proofs.«01_k».proof.Proof.SampleProjectionReference
public import proofs.«01_k».proof.Proof.MixPre
public import proofs.«01_k».proof.Proof.MixKernel
public import proofs.«01_k».proof.Proof.MixRefOut
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Moe

/-- The reference runs, and keeps its arguments. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The precondition makes every routing logit finite. -/
theorem logits_finite (m : (ℓ : Loc Cert.KernelIdeal.nD Cert.KernelIdeal.τ Cert.KernelIdeal.sig) → Buf (Elt Ideal) ℓ)
    (h : Cert.Pre_KernelIdeal_finite_logits m) (c : Dev Cert.KernelIdeal.nD) : (layerK m c).FiniteLogits := by
  obtain ⟨h0, h1, h2, h3⟩ := pre_split _ _ _ _ _ _ _ _ _ (h c)
  exact finite_of _ (fun n d => h0 _) (fun _ d => h1 3 d (Or.inl rfl)) (fun _ d => h1 4 d (Or.inr rfl)) (fun d k => h2 _)
    fun d k => h3 _

/-- The kernel's array and the reference's are equal at every entry. -/
theorem algebraic : Cert.algebraic_KernelIdeal_ReferenceIdeal_pre_finite_logits := by
  intro m g m' g' hpre hagree
  refine ⟨fun c => Cert.KernelIdeal.Value.G8 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  have hL : layerR (launchContents m' c) = layerK m c := by
    obtain ⟨a0, a1, a2, a3, a4, a5, a6, a7, a8⟩ := hagree c
    unfold layerR layerK
    congr 1
    · exact funext fun n => funext fun d => congrFun a0 _
    · exact funext fun _ => funext fun n => funext fun d => congrFun a1 _
    · exact funext fun n => funext fun d => congrFun a2 _
    · exact funext fun n => funext fun d => congrFun a3 _
    · exact funext fun n => funext fun d => funext fun f => congrFun a4 _
    · exact funext fun n => funext fun d => funext fun f => congrFun a5 _
    · exact funext fun n => funext fun d => funext fun f => congrFun a6 _
    · exact funext fun n => congrFun a7 _
    · exact funext fun n => congrFun a8 _
  have hf := logits_finite m hpre c
  obtain ⟨s, a, b, hc⟩ := (layerK m c).exists_choice hf
  funext i
  obtain ⟨n, d, rfl⟩ : ∃ (n : Fin 8192) (d : Fin 1024), i = ix2 n d :=
    ⟨⟨(i 0).val, (i 0).isLt⟩, ⟨(i 1).val, (i 1).isLt⟩, funext fun k => by
      rcases (show k = (0 : Fin 2) ∨ k = (1 : Fin 2) by
        rcases k with ⟨_ | _ | k, hk⟩
        · exact Or.inl rfl
        · exact Or.inr rfl
        · exact absurd hk (by show ¬ k + 1 + 1 < 2; omega)) with rfl | rfl <;> rfl⟩
  refine (referenceArray (launchContents m' c) s a b (hL ▸ hf) (hL ▸ hc) n d).trans ?_
  rw [hL]
  exact (kernelArray m c s a b hf hc n d).symm

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- The modulation vectors: the kernel's array and the reference's are equal at every entry. -/
theorem algebraic2 : Cert.algebraic_Kernel2Ideal_Reference2Ideal := by
  intro m g m' g' _ hagree
  refine ⟨fun c => modArray m c, (θ_run Cert.Kernel2Ideal.defs _ _).mono
    (fun r h c => ⟨(h c).1.trans (modKernel m c), (h c).2⟩) (Cert.Kernel2Ideal.Value.run_blocks (F := Ideal) m g), ?_⟩
  refine (θ_run Cert.Reference2Ideal.defs _ _).mono (fun r h c => ⟨(h c).1.trans ?_, (h c).2⟩)
    (Cert.Reference2Ideal.Value.run (F := Ideal) m' g')
  obtain ⟨a0, a1, a2⟩ := hagree c
  funext i
  obtain ⟨l, b, k, rfl⟩ : ∃ (l : Fin 2) (b : Fin 8) (k : Fin 6144), i = ix3 l b k := ⟨i 0, i 1, i 2, eq_ix3 i⟩
  refine (modReference m' c l b k).trans ?_
  rw [a0, a1, a2]
  rfl

/-- The projection: each of the kernel's six arrays equals the reference's at every entry. -/
theorem algebraic3 : Cert.algebraic_Kernel3Ideal_Reference3Ideal := by
  intro m g m' g' _ hagree
  refine ⟨fun c => projArray m c queries, fun c => projArray m c (keysValues eighthK),
    fun c => projArray m c (colsFrom (N := 384) 384 (by decide)), fun c => projArray m c (colsFrom (N := 384) 768 (by decide)),
    fun c => projArray m c (colsFrom (N := 256) 2944 (by decide)), fun c => projArray m c (colsFrom (N := 256) 3200 (by decide)),
    (θ_run Cert.Kernel3Ideal.defs _ _).mono
    (fun r h c => ?_) (Cert.Kernel3Ideal.Value.run_blocks (F := Ideal) m g), ?_⟩
  · obtain ⟨h0, h1, h2, h3, h4, h5, hr⟩ := h c
    exact ⟨h0.trans (projKernel3 m c), h1.trans (projKernel4 m c), h2.trans (projKernel5 m c), h3.trans (projKernel6 m c),
      h4.trans (projKernel7 m c), h5.trans (projKernel8 m c), hr⟩
  refine (θ_run Cert.Reference3Ideal.defs _ _).mono (fun r h c => ?_) (Cert.Reference3Ideal.Value.run (F := Ideal) m' g')
  obtain ⟨a0, a1, a2⟩ := hagree c
  have hP : projR m' c = projK m c := by
    unfold projR projK
    rw [a0, a1, a2]
  have hA : ∀ {N : ℕ} (f : (Fin 3456 → EReal) → Fin N → EReal), projArrayR m' c f = projArray m c f := fun f => by
    unfold projArrayR projArray
    rw [hP]
  obtain ⟨h0, h1, h2, h3, h4, h5, hr⟩ := h c
  exact ⟨h0.trans ((projReference_v24 m' c).trans (hA _)), h1.trans ((projReference_v26 m' c).trans (hA _)),
    h2.trans ((projReference_v12 m' c).trans (hA _)), h3.trans ((projReference_v13 m' c).trans (hA _)),
    h4.trans ((projReference_v19 m' c).trans (hA _)), h5.trans ((projReference_v20 m' c).trans (hA _)), hr⟩

theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The mixers' precondition makes their operands finite. -/
theorem mixers_finite (m : (ℓ : Loc Cert.Kernel4Ideal.nD Cert.Kernel4Ideal.τ Cert.Kernel4Ideal.sig) → Buf (Elt Ideal) ℓ)
    (h : Cert.Pre_Kernel4Ideal_finite_mixers m) (c : Dev Cert.Kernel4Ideal.nD) : (mixArgsK m c).Finite := by
  obtain ⟨h0, h1, h2, h3⟩ := mixPre_split _ _ _ _ _ _ _ _ _ _ _ _ (h c)
  exact ⟨fun _ _ => h0 _, fun _ _ => h1 _, fun _ _ => h2 _, h3 _⟩

/-- The prompt's token mixers: each of the kernel's two arrays equals the reference's at every entry. -/
theorem algebraic4 : Cert.algebraic_Kernel4Ideal_Reference4Ideal_pre_finite_mixers := by
  intro m g m' g' hpre hagree
  refine ⟨fun c => tokensArray m c, fun c => statesArray m c, (θ_run Cert.Kernel4Ideal.defs _ _).mono
    (fun r h c => ?_) (Cert.Kernel4Ideal.Value.run_blocks (F := Ideal) m g), ?_⟩
  · obtain ⟨h0, h1, hr⟩ := h c
    exact ⟨h0.trans (tokensKernel m c), h1.trans (statesKernel m c), hr⟩
  refine (θ_run Cert.Reference4Ideal.defs _ _).mono (fun r h c => ?_) (Cert.Reference4Ideal.Value.run (F := Ideal) m' g')
  have hA : mixArgsR (launchContents m' c) = mixArgsK m c := by
    obtain ⟨a0, a1, a2, a3, a4, a5, a6, a7, a8, a9, a10, a11⟩ := hagree c
    unfold mixArgsR mixArgsK
    congr 1
    · exact funext fun n => funext fun d => congrFun a0 _
    · exact funext fun n => funext fun d => congrFun a1 _
    · exact funext fun n => funext fun d => congrFun a2 _
    · exact funext fun n => congrFun a3 _
    · exact funext fun n => funext fun d => congrFun a4 _
    · exact funext fun n => funext fun d => congrFun a5 _
    · exact congrFun a6 _
    · exact funext fun n => congrFun a7 _
    · exact funext fun n => congrFun a8 _
    · exact funext fun n => congrFun a9 _
    · exact funext fun n => congrFun a10 _
    · exact funext fun n => congrFun a11 _
  have hf : (mixArgsR (launchContents m' c)).Finite := hA ▸ mixers_finite m hpre c
  obtain ⟨h0, h1, hr⟩ := h c
  refine ⟨h0.trans (funext fun y => ?_), h1.trans (funext fun y => ?_), hr⟩
  · obtain ⟨n, d, rfl⟩ : ∃ (n : Fin 8192) (d : Fin 1024), y = ix2 n d := ⟨y 0, y 1, eq_ix2 y⟩
    refine (ref_tokens (launchContents m' c) hf n d ⟨n.val / 256, by have := n.isLt; omega⟩
      ⟨n.val % 256, Nat.mod_lt _ (by decide)⟩ rfl rfl).trans ?_
    rw [hA]
    rfl
  · obtain ⟨b, a, h, d, e, rfl⟩ : ∃ (b : Fin 32) (a : Fin 2) (h : Fin 6) (d e : Fin 64), y = ix5 b a h d e :=
      ⟨y 0, y 1, y 2, y 3, y 4, eq_ix5 y⟩
    refine (ref_states (launchContents m' c) hf b a h d e).trans ?_
    rw [hA]
    rfl

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The sample's precondition makes every routing logit finite. -/
theorem sample_logits_finite (m : (ℓ : Loc Cert.Kernel5Ideal.nD Cert.Kernel5Ideal.τ Cert.Kernel5Ideal.sig) → Buf (Elt Ideal) ℓ)
    (h : Cert.Pre_Kernel5Ideal_finite_sample_logits m) (c : Dev Cert.Kernel5Ideal.nD) : (layerK5 m c).FiniteLogits := by
  obtain ⟨h0, h1, h2, h3⟩ := samplePre_split _ _ _ _ _ _ _ _ _ (h c)
  exact finite_of _ (fun n d => h0 _) (fun n d => h1 ⟨n.val / 2048, by omega⟩ 0 d)
    (fun n d => h1 ⟨n.val / 2048, by omega⟩ 1 d) (fun d k => h2 _)
    fun d k => h3 _

/-- The experts for the sample: the kernel's array and the reference's are equal at every entry. -/
theorem algebraic5 : Cert.algebraic_Kernel5Ideal_Reference5Ideal_pre_finite_sample_logits := by
  intro m g m' g' hpre hagree
  refine ⟨fun c => Cert.Kernel5Ideal.Value.G8 m c, Cert.Kernel5Ideal.Value.run (F := Ideal) m g, ?_⟩
  refine (θ_run Cert.Reference5Ideal.defs _ _).mono (fun r h c => ⟨(h c).1.trans ?_, (h c).2⟩)
    (Cert.Reference5Ideal.Value.run (F := Ideal) m' g')
  have hL : layerR5 (launchContents m' c) = layerK5 m c := by
    obtain ⟨a0, a1, a2, a3, a4, a5, a6, a7, a8⟩ := hagree c
    unfold layerR5 layerK5
    congr 1
    · exact funext fun n => funext fun d => congrFun a0 _
    · exact funext fun _ => funext fun n => funext fun d => congrFun a1 _
    · exact funext fun n => funext fun d => congrFun a2 _
    · exact funext fun n => funext fun d => congrFun a3 _
    · exact funext fun n => funext fun d => funext fun f => congrFun a4 _
    · exact funext fun n => funext fun d => funext fun f => congrFun a5 _
    · exact funext fun n => funext fun d => funext fun f => congrFun a6 _
    · exact funext fun n => congrFun a7 _
    · exact funext fun n => congrFun a8 _
  have hf := sample_logits_finite m hpre c
  obtain ⟨s, a, b, hc⟩ := (layerK5 m c).exists_choice hf
  funext i
  obtain ⟨n, d, rfl⟩ : ∃ (n : Fin 4096) (d : Fin 1024), i = ix2 n d :=
    ⟨⟨(i 0).val, (i 0).isLt⟩, ⟨(i 1).val, (i 1).isLt⟩, funext fun k => by
      rcases (show k = (0 : Fin 2) ∨ k = (1 : Fin 2) by
        rcases k with ⟨_ | _ | k, hk⟩
        · exact Or.inl rfl
        · exact Or.inr rfl
        · exact absurd hk (by show ¬ k + 1 + 1 < 2; omega)) with rfl | rfl <;> rfl⟩
  refine (sampleArray (launchContents m' c) s a b (hL ▸ hf) (hL ▸ hc) n d).trans ?_
  rw [hL]
  exact (sampleKernelArray m c s a b hf hc n d).symm

theorem frame_reference6 : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

/-- The sample's projection: the kernel's two arrays and the reference's are equal at every entry. -/
theorem algebraic6 : Cert.algebraic_Kernel6Ideal_Reference6Ideal := by
  intro m g m' g' _ hagree
  refine ⟨fun c => sampleProjArray m c queries, fun c => sampleProjArray m c (keysValues eighthK),
    (θ_run Cert.Kernel6Ideal.defs _ _).mono
    (fun r h c => ?_) (Cert.Kernel6Ideal.Value.run_blocks (F := Ideal) m g), ?_⟩
  · obtain ⟨h0, h1, hr⟩ := h c
    exact ⟨h0.trans (sampleProjKernel3 m c), h1.trans (sampleProjKernel4 m c), hr⟩
  refine (θ_run Cert.Reference6Ideal.defs _ _).mono (fun r h c => ?_) (Cert.Reference6Ideal.Value.run (F := Ideal) m' g')
  obtain ⟨a0, a1, a2⟩ := hagree c
  have hP : sampleProjR m' c = sampleProjK m c := by
    unfold sampleProjR sampleProjK
    rw [a0, a1, a2]
  have hA : ∀ {N : ℕ} (f : (Fin 3456 → EReal) → Fin N → EReal), sampleProjArrayR m' c f = sampleProjArray m c f := fun f => by
    unfold sampleProjArrayR sampleProjArray
    rw [hP]
  obtain ⟨h0, h1, hr⟩ := h c
  exact ⟨h0.trans ((sampleProjReference_queries m' c).trans (hA _)),
    h1.trans ((sampleProjReference_keys_values m' c).trans (hA _)), hr⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, preFacts, mixPreFacts,
    samplePreFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ,
    fun m ρ _ => Cert.Kernel4Ideal.Gen.frame m ρ, frame_reference4, fun m ρ _ => frame_reference4 m ρ trivial,
    fun m ρ _ => Cert.Kernel5.Gen.frame m ρ, fun m ρ _ => Cert.Kernel5Ideal.Gen.frame m ρ,
    fun m ρ _ => Cert.Kernel5Ideal.Gen.frame m ρ, frame_reference5, fun m ρ _ => frame_reference5 m ρ trivial,
    fun m ρ _ => Cert.Kernel6.Gen.frame m ρ, fun m ρ _ => Cert.Kernel6Ideal.Gen.frame m ρ, frame_reference6,
    trivial, algebraic, trivial, algebraic2, trivial, algebraic3, trivial, algebraic4, trivial,
    algebraic5, trivial, algebraic6⟩

end Cert.Proof

end
